-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite2 [hPre_finite2 : Cert.Pre_finite2.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite2.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).1 = (fun _ => 1#1)
    ∧ (Cert.Pre_finite2.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).2.1 = (fun _ => 1#1)
    ∧ (Cert.Pre_finite2.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2))).2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite2 [hPre_finite2 : Cert.Pre_finite2.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite2.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).1 = (fun _ => 1#1)
    ∧ (Cert.Pre_finite2.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).2.1 = (fun _ => 1#1)
    ∧ (Cert.Pre_finite2.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2))).2.2 = (fun _ => 1#1)

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInRefIdeal (m : (ℓ : Loc Cert.DInRefIdeal.nD Cert.DInRefIdeal.τ Cert.DInRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_FIn (m : (ℓ : Loc Cert.FIn.nD Cert.FIn.τ Cert.FIn.sig) → Buf (Elt Bits) ℓ) : Prop :=
  True

def Pre_FInIdeal (m : (ℓ : Loc Cert.FInIdeal.nD Cert.FInIdeal.τ Cert.FInIdeal.sig) → Buf (Elt Ideal) ℓ) : Prop :=
  True

def Pre_FInRefIdeal (m : (ℓ : Loc Cert.FInRefIdeal.nD Cert.FInRefIdeal.τ Cert.FInRefIdeal.sig) → Buf (Elt Ideal) ℓ) : Prop :=
  True

def Pre_FOut (m : (ℓ : Loc Cert.FOut.nD Cert.FOut.τ Cert.FOut.sig) → Buf (Elt Bits) ℓ) : Prop :=
  True

def Pre_FOutIdeal (m : (ℓ : Loc Cert.FOutIdeal.nD Cert.FOutIdeal.τ Cert.FOutIdeal.sig) → Buf (Elt Ideal) ℓ) : Prop :=
  True

def Pre_FOutRefIdeal (m : (ℓ : Loc Cert.FOutRefIdeal.nD Cert.FOutRefIdeal.τ Cert.FOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluIdeal_pre_finite2 [hSwigluIdeal : Cert.SwigluIdeal.Facts] [hPre_finite2 : Cert.Pre_finite2.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite2 m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_SwigluRefIdeal_pre_finite2 [hSwigluRefIdeal : Cert.SwigluRefIdeal.Facts] [hPre_finite2 : Cert.Pre_finite2.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite2 m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInRefIdeal [hDInRefIdeal : Cert.DInRefIdeal.Facts] : Prop :=
  ∀ (m : (ℓ : Loc Cert.DInRefIdeal.nD Cert.DInRefIdeal.τ Cert.DInRefIdeal.sig) → Buf (Elt Ideal) ℓ) (g : Dev Cert.DInRefIdeal.nD → PrngReg), Pre_DInRefIdeal m →
    θ_run (Cert.DInRefIdeal.defs (F := Ideal)) (onTc (τ := Cert.DInRefIdeal.τ) (Cert.DInRefIdeal.main (F := Ideal))) ⟨m, fun _ => 0, g⟩ (fun r => (∀ c : Dev Cert.DInRefIdeal.nD,
      r.2.mem ((c.tc : Thread Cert.DInRefIdeal.nD Cert.DInRefIdeal.τ).loc Cert.DInRefIdeal.main_arg0) = m ((c.tc : Thread Cert.DInRefIdeal.nD Cert.DInRefIdeal.τ).loc Cert.DInRefIdeal.main_arg0)
      ∧ r.2.mem ((c.tc : Thread Cert.DInRefIdeal.nD Cert.DInRefIdeal.τ).loc Cert.DInRefIdeal.main_arg1) = m ((c.tc : Thread Cert.DInRefIdeal.nD Cert.DInRefIdeal.τ).loc Cert.DInRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_FIn [hFIn : Cert.FIn.Facts] : Prop :=
  ∀ (m : (ℓ : Loc Cert.FIn.nD Cert.FIn.τ Cert.FIn.sig) → Buf (Elt Bits) ℓ) (g : Dev Cert.FIn.nD → PrngReg), Pre_FIn m →
    θ_run (Cert.FIn.defs (F := Bits)) (onTc (τ := Cert.FIn.τ) (Cert.FIn.main (F := Bits))) ⟨m, fun _ => 0, g⟩ (fun r => (∀ c : Dev Cert.FIn.nD,
      r.2.mem ((c.tc : Thread Cert.FIn.nD Cert.FIn.τ).loc Cert.FIn.main_arg0) = m ((c.tc : Thread Cert.FIn.nD Cert.FIn.τ).loc Cert.FIn.main_arg0)
      ∧ r.2.mem ((c.tc : Thread Cert.FIn.nD Cert.FIn.τ).loc Cert.FIn.main_arg1) = m ((c.tc : Thread Cert.FIn.nD Cert.FIn.τ).loc Cert.FIn.main_arg1))
      ∧ r.2.sem = fun _ => 0)

def quiescent_FInIdeal [hFInIdeal : Cert.FInIdeal.Facts] : Prop :=
  ∀ (m : (ℓ : Loc Cert.FInIdeal.nD Cert.FInIdeal.τ Cert.FInIdeal.sig) → Buf (Elt Ideal) ℓ) (g : Dev Cert.FInIdeal.nD → PrngReg), Pre_FInIdeal m →
    θ_run (Cert.FInIdeal.defs (F := Ideal)) (onTc (τ := Cert.FInIdeal.τ) (Cert.FInIdeal.main (F := Ideal))) ⟨m, fun _ => 0, g⟩ (fun r => (∀ c : Dev Cert.FInIdeal.nD,
      r.2.mem ((c.tc : Thread Cert.FInIdeal.nD Cert.FInIdeal.τ).loc Cert.FInIdeal.main_arg0) = m ((c.tc : Thread Cert.FInIdeal.nD Cert.FInIdeal.τ).loc Cert.FInIdeal.main_arg0)
      ∧ r.2.mem ((c.tc : Thread Cert.FInIdeal.nD Cert.FInIdeal.τ).loc Cert.FInIdeal.main_arg1) = m ((c.tc : Thread Cert.FInIdeal.nD Cert.FInIdeal.τ).loc Cert.FInIdeal.main_arg1))
      ∧ r.2.sem = fun _ => 0)

def quiescent_FInRefIdeal [hFInRefIdeal : Cert.FInRefIdeal.Facts] : Prop :=
  ∀ (m : (ℓ : Loc Cert.FInRefIdeal.nD Cert.FInRefIdeal.τ Cert.FInRefIdeal.sig) → Buf (Elt Ideal) ℓ) (g : Dev Cert.FInRefIdeal.nD → PrngReg), Pre_FInRefIdeal m →
    θ_run (Cert.FInRefIdeal.defs (F := Ideal)) (onTc (τ := Cert.FInRefIdeal.τ) (Cert.FInRefIdeal.main (F := Ideal))) ⟨m, fun _ => 0, g⟩ (fun r => (∀ c : Dev Cert.FInRefIdeal.nD,
      r.2.mem ((c.tc : Thread Cert.FInRefIdeal.nD Cert.FInRefIdeal.τ).loc Cert.FInRefIdeal.main_arg0) = m ((c.tc : Thread Cert.FInRefIdeal.nD Cert.FInRefIdeal.τ).loc Cert.FInRefIdeal.main_arg0)
      ∧ r.2.mem ((c.tc : Thread Cert.FInRefIdeal.nD Cert.FInRefIdeal.τ).loc Cert.FInRefIdeal.main_arg1) = m ((c.tc : Thread Cert.FInRefIdeal.nD Cert.FInRefIdeal.τ).loc Cert.FInRefIdeal.main_arg1))
      ∧ r.2.sem = fun _ => 0)

def quiescent_FOut [hFOut : Cert.FOut.Facts] : Prop :=
  ∀ (m : (ℓ : Loc Cert.FOut.nD Cert.FOut.τ Cert.FOut.sig) → Buf (Elt Bits) ℓ) (g : Dev Cert.FOut.nD → PrngReg), Pre_FOut m →
    θ_run (Cert.FOut.defs (F := Bits)) (onTc (τ := Cert.FOut.τ) (Cert.FOut.main (F := Bits))) ⟨m, fun _ => 0, g⟩ (fun r => (∀ c : Dev Cert.FOut.nD,
      r.2.mem ((c.tc : Thread Cert.FOut.nD Cert.FOut.τ).loc Cert.FOut.main_arg0) = m ((c.tc : Thread Cert.FOut.nD Cert.FOut.τ).loc Cert.FOut.main_arg0)
      ∧ r.2.mem ((c.tc : Thread Cert.FOut.nD Cert.FOut.τ).loc Cert.FOut.main_arg1) = m ((c.tc : Thread Cert.FOut.nD Cert.FOut.τ).loc Cert.FOut.main_arg1))
      ∧ r.2.sem = fun _ => 0)

def quiescent_FOutIdeal [hFOutIdeal : Cert.FOutIdeal.Facts] : Prop :=
  ∀ (m : (ℓ : Loc Cert.FOutIdeal.nD Cert.FOutIdeal.τ Cert.FOutIdeal.sig) → Buf (Elt Ideal) ℓ) (g : Dev Cert.FOutIdeal.nD → PrngReg), Pre_FOutIdeal m →
    θ_run (Cert.FOutIdeal.defs (F := Ideal)) (onTc (τ := Cert.FOutIdeal.τ) (Cert.FOutIdeal.main (F := Ideal))) ⟨m, fun _ => 0, g⟩ (fun r => (∀ c : Dev Cert.FOutIdeal.nD,
      r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
      ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1))
      ∧ r.2.sem = fun _ => 0)

def quiescent_FOutRefIdeal [hFOutRefIdeal : Cert.FOutRefIdeal.Facts] : Prop :=
  ∀ (m : (ℓ : Loc Cert.FOutRefIdeal.nD Cert.FOutRefIdeal.τ Cert.FOutRefIdeal.sig) → Buf (Elt Ideal) ℓ) (g : Dev Cert.FOutRefIdeal.nD → PrngReg), Pre_FOutRefIdeal m →
    θ_run (Cert.FOutRefIdeal.defs (F := Ideal)) (onTc (τ := Cert.FOutRefIdeal.τ) (Cert.FOutRefIdeal.main (F := Ideal))) ⟨m, fun _ => 0, g⟩ (fun r => (∀ c : Dev Cert.FOutRefIdeal.nD,
      r.2.mem ((c.tc : Thread Cert.FOutRefIdeal.nD Cert.FOutRefIdeal.τ).loc Cert.FOutRefIdeal.main_arg0) = m ((c.tc : Thread Cert.FOutRefIdeal.nD Cert.FOutRefIdeal.τ).loc Cert.FOutRefIdeal.main_arg0)
      ∧ r.2.mem ((c.tc : Thread Cert.FOutRefIdeal.nD Cert.FOutRefIdeal.τ).loc Cert.FOutRefIdeal.main_arg1) = m ((c.tc : Thread Cert.FOutRefIdeal.nD Cert.FOutRefIdeal.τ).loc Cert.FOutRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Swiglu_SwigluIdeal : Prop :=
  True

def algebraic_SwigluIdeal_SwigluRefIdeal_pre_finite2 [hSwigluIdeal : Cert.SwigluIdeal.Facts] [hSwigluRefIdeal : Cert.SwigluRefIdeal.Facts] [hPre_finite2 : Cert.Pre_finite2.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite2 m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v3_0)) (v1 : (c : Dev Cert.SwigluIdeal.nD) → Buf (Elt Ideal) ((c.tc : Thread Cert.SwigluIdeal.nD Cert.SwigluIdeal.τ).loc Cert.SwigluIdeal.main_v3_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v3_0) = v0 c
          ∧ r.2.mem ((c.tc : Thread Cert.SwigluIdeal.nD Cert.SwigluIdeal.τ).loc Cert.SwigluIdeal.main_v3_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v15) = v0 c
          ∧ r.2.mem ((c.tc : Thread Cert.SwigluRefIdeal.nD Cert.SwigluRefIdeal.τ).loc Cert.SwigluRefIdeal.main_v18) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v2)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v2) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v8) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_DIn_DInIdeal : Prop :=
  True

def algebraic_DInIdeal_DInRefIdeal [hDInIdeal : Cert.DInIdeal.Facts] [hDInRefIdeal : Cert.DInRefIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInRefIdeal.nD Cert.DInRefIdeal.τ Cert.DInRefIdeal.sig) → Buf (Elt Ideal) ℓ) (g' : Dev Cert.DInRefIdeal.nD → PrngReg), Pre_DInIdeal m →
    (∀ c : Dev Cert.DInIdeal.nD,
      m' ((c.tc : Thread Cert.DInRefIdeal.nD Cert.DInRefIdeal.τ).loc Cert.DInRefIdeal.main_arg0) = m ((c.tc : Thread Cert.DInIdeal.nD Cert.DInIdeal.τ).loc Cert.DInIdeal.main_arg0)
      ∧ m' ((c.tc : Thread Cert.DInRefIdeal.nD Cert.DInRefIdeal.τ).loc Cert.DInRefIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v4)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v4) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInRefIdeal.defs (F := Ideal)) (onTc (τ := Cert.DInRefIdeal.τ) (Cert.DInRefIdeal.main (F := Ideal))) ⟨m', fun _ => 0, g'⟩ (fun r => ∀ c : Dev Cert.DInRefIdeal.nD,
          r.2.mem ((c.tc : Thread Cert.DInRefIdeal.nD Cert.DInRefIdeal.τ).loc Cert.DInRefIdeal.main_v5) = v0 c
          ∧ r.2.mem ((c.tc : Thread Cert.DInRefIdeal.nD Cert.DInRefIdeal.τ).loc Cert.DInRefIdeal.main_arg0) = m' ((c.tc : Thread Cert.DInRefIdeal.nD Cert.DInRefIdeal.τ).loc Cert.DInRefIdeal.main_arg0)
          ∧ r.2.mem ((c.tc : Thread Cert.DInRefIdeal.nD Cert.DInRefIdeal.τ).loc Cert.DInRefIdeal.main_arg1) = m' ((c.tc : Thread Cert.DInRefIdeal.nD Cert.DInRefIdeal.τ).loc Cert.DInRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v2)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v2) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v7) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_FIn_FInIdeal : Prop :=
  True

def algebraic_FInIdeal_FInRefIdeal [hFInIdeal : Cert.FInIdeal.Facts] [hFInRefIdeal : Cert.FInRefIdeal.Facts] : Prop :=
  ∀ (m : (ℓ : Loc Cert.FInIdeal.nD Cert.FInIdeal.τ Cert.FInIdeal.sig) → Buf (Elt Ideal) ℓ) (g : Dev Cert.FInIdeal.nD → PrngReg)
    (m' : (ℓ : Loc Cert.FInRefIdeal.nD Cert.FInRefIdeal.τ Cert.FInRefIdeal.sig) → Buf (Elt Ideal) ℓ) (g' : Dev Cert.FInRefIdeal.nD → PrngReg), Pre_FInIdeal m →
    (∀ c : Dev Cert.FInIdeal.nD,
      m' ((c.tc : Thread Cert.FInRefIdeal.nD Cert.FInRefIdeal.τ).loc Cert.FInRefIdeal.main_arg0) = m ((c.tc : Thread Cert.FInIdeal.nD Cert.FInIdeal.τ).loc Cert.FInIdeal.main_arg0)
      ∧ m' ((c.tc : Thread Cert.FInRefIdeal.nD Cert.FInRefIdeal.τ).loc Cert.FInRefIdeal.main_arg1) = m ((c.tc : Thread Cert.FInIdeal.nD Cert.FInIdeal.τ).loc Cert.FInIdeal.main_arg1)) →
    ∃ (v0 : (c : Dev Cert.FInIdeal.nD) → Buf (Elt Ideal) ((c.tc : Thread Cert.FInIdeal.nD Cert.FInIdeal.τ).loc Cert.FInIdeal.main_v2_0)) (v1 : (c : Dev Cert.FInIdeal.nD) → Buf (Elt Ideal) ((c.tc : Thread Cert.FInIdeal.nD Cert.FInIdeal.τ).loc Cert.FInIdeal.main_v2_1)),
      θ_run (Cert.FInIdeal.defs (F := Ideal)) (onTc (τ := Cert.FInIdeal.τ) (Cert.FInIdeal.main (F := Ideal))) ⟨m, fun _ => 0, g⟩ (fun r => ∀ c : Dev Cert.FInIdeal.nD,
          r.2.mem ((c.tc : Thread Cert.FInIdeal.nD Cert.FInIdeal.τ).loc Cert.FInIdeal.main_v2_0) = v0 c
          ∧ r.2.mem ((c.tc : Thread Cert.FInIdeal.nD Cert.FInIdeal.τ).loc Cert.FInIdeal.main_v2_1) = v1 c
          ∧ r.2.mem ((c.tc : Thread Cert.FInIdeal.nD Cert.FInIdeal.τ).loc Cert.FInIdeal.main_arg0) = m ((c.tc : Thread Cert.FInIdeal.nD Cert.FInIdeal.τ).loc Cert.FInIdeal.main_arg0)
          ∧ r.2.mem ((c.tc : Thread Cert.FInIdeal.nD Cert.FInIdeal.τ).loc Cert.FInIdeal.main_arg1) = m ((c.tc : Thread Cert.FInIdeal.nD Cert.FInIdeal.τ).loc Cert.FInIdeal.main_arg1))
      ∧ θ_run (Cert.FInRefIdeal.defs (F := Ideal)) (onTc (τ := Cert.FInRefIdeal.τ) (Cert.FInRefIdeal.main (F := Ideal))) ⟨m', fun _ => 0, g'⟩ (fun r => ∀ c : Dev Cert.FInRefIdeal.nD,
          r.2.mem ((c.tc : Thread Cert.FInRefIdeal.nD Cert.FInRefIdeal.τ).loc Cert.FInRefIdeal.main_v9) = v0 c
          ∧ r.2.mem ((c.tc : Thread Cert.FInRefIdeal.nD Cert.FInRefIdeal.τ).loc Cert.FInRefIdeal.main_v12) = v1 c
          ∧ r.2.mem ((c.tc : Thread Cert.FInRefIdeal.nD Cert.FInRefIdeal.τ).loc Cert.FInRefIdeal.main_arg0) = m' ((c.tc : Thread Cert.FInRefIdeal.nD Cert.FInRefIdeal.τ).loc Cert.FInRefIdeal.main_arg0)
          ∧ r.2.mem ((c.tc : Thread Cert.FInRefIdeal.nD Cert.FInRefIdeal.τ).loc Cert.FInRefIdeal.main_arg1) = m' ((c.tc : Thread Cert.FInRefIdeal.nD Cert.FInRefIdeal.τ).loc Cert.FInRefIdeal.main_arg1))

def preserves_FOut_FOutIdeal : Prop :=
  True

def algebraic_FOutIdeal_FOutRefIdeal [hFOutIdeal : Cert.FOutIdeal.Facts] [hFOutRefIdeal : Cert.FOutRefIdeal.Facts] : Prop :=
  ∀ (m : (ℓ : Loc Cert.FOutIdeal.nD Cert.FOutIdeal.τ Cert.FOutIdeal.sig) → Buf (Elt Ideal) ℓ) (g : Dev Cert.FOutIdeal.nD → PrngReg)
    (m' : (ℓ : Loc Cert.FOutRefIdeal.nD Cert.FOutRefIdeal.τ Cert.FOutRefIdeal.sig) → Buf (Elt Ideal) ℓ) (g' : Dev Cert.FOutRefIdeal.nD → PrngReg), Pre_FOutIdeal m →
    (∀ c : Dev Cert.FOutIdeal.nD,
      m' ((c.tc : Thread Cert.FOutRefIdeal.nD Cert.FOutRefIdeal.τ).loc Cert.FOutRefIdeal.main_arg0) = m ((c.tc : Thread Cert.FOutIdeal.nD Cert.FOutIdeal.τ).loc Cert.FOutIdeal.main_arg0)
      ∧ m' ((c.tc : Thread Cert.FOutRefIdeal.nD Cert.FOutRefIdeal.τ).loc Cert.FOutRefIdeal.main_arg1) = m ((c.tc : Thread Cert.FOutIdeal.nD Cert.FOutIdeal.τ).loc Cert.FOutIdeal.main_arg1)) →
    ∃ (v0 : (c : Dev Cert.FOutIdeal.nD) → Buf (Elt Ideal) ((c.tc : Thread Cert.FOutIdeal.nD Cert.FOutIdeal.τ).loc Cert.FOutIdeal.main_v3)),
      θ_run (Cert.FOutIdeal.defs (F := Ideal)) (onTc (τ := Cert.FOutIdeal.τ) (Cert.FOutIdeal.main (F := Ideal))) ⟨m, fun _ => 0, g⟩ (fun r => ∀ c : Dev Cert.FOutIdeal.nD,
          r.2.mem ((c.tc : Thread Cert.FOutIdeal.nD Cert.FOutIdeal.τ).loc Cert.FOutIdeal.main_v3) = v0 c
          ∧ r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
          ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1))
      ∧ θ_run (Cert.FOutRefIdeal.defs (F := Ideal)) (onTc (τ := Cert.FOutRefIdeal.τ) (Cert.FOutRefIdeal.main (F := Ideal))) ⟨m', fun _ => 0, g'⟩ (fun r => ∀ c : Dev Cert.FOutRefIdeal.nD,
          r.2.mem ((c.tc : Thread Cert.FOutRefIdeal.nD Cert.FOutRefIdeal.τ).loc Cert.FOutRefIdeal.main_v3) = v0 c
          ∧ r.2.mem ((c.tc : Thread Cert.FOutRefIdeal.nD Cert.FOutRefIdeal.τ).loc Cert.FOutRefIdeal.main_arg0) = m' ((c.tc : Thread Cert.FOutRefIdeal.nD Cert.FOutRefIdeal.τ).loc Cert.FOutRefIdeal.main_arg0)
          ∧ r.2.mem ((c.tc : Thread Cert.FOutRefIdeal.nD Cert.FOutRefIdeal.τ).loc Cert.FOutRefIdeal.main_arg1) = m' ((c.tc : Thread Cert.FOutRefIdeal.nD Cert.FOutRefIdeal.τ).loc Cert.FOutRefIdeal.main_arg1))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hWIn : Cert.WIn.Facts) (hWInIdeal : Cert.WInIdeal.Facts) (hWInRefIdeal : Cert.WInRefIdeal.Facts) (hDIn : Cert.DIn.Facts) (hDInIdeal : Cert.DInIdeal.Facts) (hDInRefIdeal : Cert.DInRefIdeal.Facts) (hWOut : Cert.WOut.Facts) (hWOutIdeal : Cert.WOutIdeal.Facts) (hWOutRefIdeal : Cert.WOutRefIdeal.Facts) (hFIn : Cert.FIn.Facts) (hFInIdeal : Cert.FInIdeal.Facts) (hFInRefIdeal : Cert.FInRefIdeal.Facts) (hFOut : Cert.FOut.Facts) (hFOutIdeal : Cert.FOutIdeal.Facts) (hFOutRefIdeal : Cert.FOutRefIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Swiglu (hSwiglu := hSwiglu)
    ∧ quiescent_SwigluIdeal (hSwigluIdeal := hSwigluIdeal)
    ∧ quiescent_SwigluIdeal_pre_finite2 (hSwigluIdeal := hSwigluIdeal) (hPre_finite2 := hPre_finite2)
    ∧ quiescent_SwigluRefIdeal (hSwigluRefIdeal := hSwigluRefIdeal)
    ∧ quiescent_SwigluRefIdeal_pre_finite2 (hSwigluRefIdeal := hSwigluRefIdeal) (hPre_finite2 := hPre_finite2)
    ∧ quiescent_WIn (hWIn := hWIn)
    ∧ quiescent_WInIdeal (hWInIdeal := hWInIdeal)
    ∧ quiescent_WInRefIdeal (hWInRefIdeal := hWInRefIdeal)
    ∧ quiescent_DIn (hDIn := hDIn)
    ∧ quiescent_DInIdeal (hDInIdeal := hDInIdeal)
    ∧ quiescent_DInRefIdeal (hDInRefIdeal := hDInRefIdeal)
    ∧ quiescent_WOut (hWOut := hWOut)
    ∧ quiescent_WOutIdeal (hWOutIdeal := hWOutIdeal)
    ∧ quiescent_WOutRefIdeal (hWOutRefIdeal := hWOutRefIdeal)
    ∧ quiescent_FIn (hFIn := hFIn)
    ∧ quiescent_FInIdeal (hFInIdeal := hFInIdeal)
    ∧ quiescent_FInRefIdeal (hFInRefIdeal := hFInRefIdeal)
    ∧ quiescent_FOut (hFOut := hFOut)
    ∧ quiescent_FOutIdeal (hFOutIdeal := hFOutIdeal)
    ∧ quiescent_FOutRefIdeal (hFOutRefIdeal := hFOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Swiglu_SwigluIdeal
    ∧ algebraic_SwigluIdeal_SwigluRefIdeal_pre_finite2 (hSwigluIdeal := hSwigluIdeal) (hSwigluRefIdeal := hSwigluRefIdeal) (hPre_finite2 := hPre_finite2)
    ∧ preserves_WIn_WInIdeal
    ∧ algebraic_WInIdeal_WInRefIdeal (hWInIdeal := hWInIdeal) (hWInRefIdeal := hWInRefIdeal)
    ∧ preserves_DIn_DInIdeal
    ∧ algebraic_DInIdeal_DInRefIdeal (hDInIdeal := hDInIdeal) (hDInRefIdeal := hDInRefIdeal)
    ∧ preserves_WOut_WOutIdeal
    ∧ algebraic_WOutIdeal_WOutRefIdeal (hWOutIdeal := hWOutIdeal) (hWOutRefIdeal := hWOutRefIdeal)
    ∧ preserves_FIn_FInIdeal
    ∧ algebraic_FInIdeal_FInRefIdeal (hFInIdeal := hFInIdeal) (hFInRefIdeal := hFInRefIdeal)
    ∧ preserves_FOut_FOutIdeal
    ∧ algebraic_FOutIdeal_FOutRefIdeal (hFOutIdeal := hFOutIdeal) (hFOutRefIdeal := hFOutRefIdeal)
-- ==== Pre_finite.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  bcast_S_S4096x8 : S_.BroadcastsInDim S4096x8 (![] : Fin 0 → Fin S4096x8.rank)
  bitsLt_bf16_f32 : FTy.bits .bf16 < FTy.bits .f32

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .bf16) : IVec S4096x512 1 × IVec S4096x512 1 × IVec S4096x512 1 × IVec S4096x8 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x512 .f32 := (extf .f32 · bitsLt_bf16_f32) main_arg4
  let main_v13 : FVec F S4096x512 .f32 := Host.absf main_v12
  let main_cst_3 : FVec F S_ .f32 := constant S_ .f32 0x7F800000#32
  let main_v14 : FVec F S4096x512 .f32 := broadcastInDim S4096x512 ![] bcast_S_S4096x512 main_cst_3
  let main_v15 : IVec S4096x512 1 := cmpf .olt main_v13 main_v14
  (main_v2, main_v5, main_v8, main_v11, main_v15)
-- ==== Pre_finite2.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x5632 : S_.BroadcastsInDim S4096x5632 (![] : Fin 0 → Fin S4096x5632.rank)

variable [Facts]

def fn {F : FTy → Type} [FloatOps F] (main_arg0 : FVec F S4096x1024 .bf16) (main_arg1 : FVec F S2816x1024 .bf16) (main_arg2 : FVec F S4096x5632 .bf16) : IVec S4096x1024 1 × IVec S2816x1024 1 × IVec S4096x5632 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Kernel.lean ====
abbrev S4096x512 : Shape := ⟨2, ![4096, 512]⟩
abbrev S4096x8 : Shape := ⟨2, ![4096, 8]⟩
abbrev S4096x8x64 : Shape := ⟨3, ![4096, 8, 64]⟩
abbrev S4096x8x1 : Shape := ⟨3, ![4096, 8, 1]⟩
abbrev S4096x8x3 : Shape := ⟨3, ![4096, 8, 3]⟩
abbrev S_ : Shape := ⟨0, ![]⟩
abbrev S4096x8x58 : Shape := ⟨3, ![4096, 8, 58]⟩
abbrev S4096x8x128 : Shape := ⟨3, ![4096, 8, 128]⟩
abbrev S4096x1024 : Shape := ⟨2, ![4096, 1024]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S8x4x1x1024 : Shape := ⟨4, ![8, 4, 1, 1024]⟩
abbrev S4096x256 : Shape := ⟨2, ![4096, 256]⟩
abbrev S4096x128 : Shape := ⟨2, ![4096, 128]⟩
abbrev S2x4096x1 : Shape := ⟨3, ![2, 4096, 1]⟩
abbrev S1024x256 : Shape := ⟨2, ![1024, 256]⟩
abbrev S1024x128 : Shape := ⟨2, ![1024, 128]⟩
abbrev S2x1x1x1024 : Shape := ⟨4, ![2, 1, 1, 1024]⟩
abbrev S1x128 : Shape := ⟨2, ![1, 128]⟩
abbrev S128x1024 : Shape := ⟨2, ![128, 1024]⟩
abbrev S1x1024 : Shape := ⟨2, ![1, 1024]⟩
abbrev S1024x1024 : Shape := ⟨2, ![1024, 1024]⟩
abbrev S1x1024x1 : Shape := ⟨3, ![1, 1024, 1]⟩
abbrev S1024x1 : Shape := ⟨2, ![1024, 1]⟩
abbrev S1024 : Shape := ⟨1, ![1024]⟩
abbrev S1x1x1x1024 : Shape := ⟨4, ![1, 1, 1, 1024]⟩

abbrev nBuf : Space → Nat
  | .hbm => 85
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .bf16⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S4096x8, .bf16⟩
  | .hbm, ⟨9, _⟩ => ⟨S4096x8, .f32⟩
  | .hbm, ⟨10, _⟩ => ⟨S4096x8, .f32⟩
  | .hbm, ⟨11, _⟩ => ⟨S4096x8, .bf16⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .bf16⟩
  | .hbm, ⟨16, _⟩ => ⟨S4096x8, .f32⟩
  | .hbm, ⟨17, _⟩ => ⟨S4096x8x1, .f32⟩
  | .hbm, ⟨18, _⟩ => ⟨S4096x8x1, .f32⟩
  | .hbm, ⟨19, _⟩ => ⟨S4096x8x1, .f32⟩
  | .hbm, ⟨20, _⟩ => ⟨S4096x8x3, .f32⟩
  | .hbm, ⟨21, _⟩ => ⟨S_, .f32⟩
  | .hbm, ⟨22, _⟩ => ⟨S4096x8x3, .f32⟩
  | .hbm, ⟨23, _⟩ => ⟨S_, .f32⟩
  | .hbm, ⟨24, _⟩ => ⟨S4096x8x58, .f32⟩
  | .hbm, ⟨25, _⟩ => ⟨S_, .f32⟩
  | .hbm, ⟨26, _⟩ => ⟨S4096x8x64, .f32⟩
  | .hbm, ⟨27, _⟩ => ⟨S4096x8x64, .f32⟩
  | .hbm, ⟨28, _⟩ => ⟨S4096x8x128, .f32⟩
  | .hbm, ⟨29, _⟩ => ⟨S4096x8x128, .bf16⟩
  | .hbm, ⟨30, _⟩ => ⟨S4096x1024, .bf16⟩
  | .hbm, ⟨31, _⟩ => ⟨S4096x8x3, .f32⟩
  | .hbm, ⟨32, _⟩ => ⟨S4096x8x128, .f32⟩
  | .hbm, ⟨33, _⟩ => ⟨S4096x8x128, .bf16⟩
  | .hbm, ⟨34, _⟩ => ⟨S4096x1024, .bf16⟩
  | .hbm, ⟨35, _⟩ => ⟨S4096x512, .bf16⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x1x4096, .f32⟩
  | .hbm, ⟨45, _⟩ => ⟨S8x4096x4096, .f32⟩
  | .hbm, ⟨46, _⟩ => ⟨S8x4096x4096, .f32⟩
  | .hbm, ⟨47, _⟩ => ⟨S4096, .i32⟩
  | .hbm, ⟨48, _⟩ => ⟨S4096x1, .i32⟩
  | .hbm, ⟨49, _⟩ => ⟨S1x4096, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S_, .f32⟩
  | .hbm, ⟨54, _⟩ => ⟨S_, .f32⟩
  | .hbm, ⟨55, _⟩ => ⟨S8x4096x4096, .i1⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x64x4096, .f32⟩
  | .hbm, ⟨73, _⟩ => ⟨S4096x8x64, .f32⟩
  | .hbm, ⟨74, _⟩ => ⟨S4096x512, .f32⟩
  | .hbm, ⟨75, _⟩ => ⟨S4096x8x64, .f32⟩
  | .hbm, ⟨76, _⟩ => ⟨S4096x8x64, .f32⟩
  | .hbm, ⟨77, _⟩ => ⟨S_, .f32⟩
  | .hbm, ⟨78, _⟩ => ⟨S4096x8, .f32⟩
  | .hbm, ⟨79, _⟩ => ⟨S8x4096, .f32⟩
  | .hbm, ⟨80, _⟩ => ⟨S8x4096x1, .f32⟩
  | .hbm, ⟨81, _⟩ => ⟨S4096x512, .bf16⟩
  | .hbm, ⟨82, _⟩ => ⟨S4096x512, .bf16⟩
  | .hbm, ⟨83, _⟩ => ⟨S4096x512, .bf16⟩
  | .hbm, ⟨84, _⟩ => ⟨S8x4x1x1024, .f32⟩
  | .local _ .vmem, ⟨0, _⟩ => ⟨S4096x256, .bf16⟩
  | .local _ .vmem, ⟨1, _⟩ => ⟨S4096x256, .bf16⟩
  | .local _ .vmem, ⟨2, _⟩ => ⟨S4096x128, .bf16⟩
  | .local _ .vmem, ⟨3, _⟩ => ⟨S4096x128, .bf16⟩
  | .local _ .vmem, ⟨4, _⟩ => ⟨S2x4096x1, .f32⟩
  | .local _ .vmem, ⟨5, _⟩ => ⟨S2x4096x1, .f32⟩
  | .local _ .vmem, ⟨6, _⟩ => ⟨S2x4096x1, .f32⟩
  | .local _ .vmem, ⟨7, _⟩ => ⟨S2x4096x1, .f32⟩
  | .local _ .vmem, ⟨8, _⟩ => ⟨S1024x256, .bf16⟩
  | .local _ .vmem, ⟨9, _⟩ => ⟨S1024x256, .bf16⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S2x1x1x1024, .f32⟩
  | .local _ .vmem, ⟨19, _⟩ => ⟨S2x1x1x1024, .f32⟩
  | .local _ .vmem, ⟨20, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65_0 : Ref sig .tc := ⟨.hbm, 81, rfl⟩
abbrev main_v65_1 : Ref sig .tc := ⟨.hbm, 82, rfl⟩
abbrev main_v65_2 : Ref sig .tc := ⟨.hbm, 83, rfl⟩
abbrev main_v65_3 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v13 : BitVec 32 := Scalar.muli arg1 c1024_i32
  v13
def k0_off1 (i : grid0.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  let c0_6 : Index := 0#32
  ![v15.toNat, 0]
def k0_off2 (i : grid0.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v18 : Index := Scalar.indexCast v14
  let c0_7 : Index := 0#32
  ![v18.toNat, 0]
def k0_off3 (i : grid0.Coords) : Fin 3 → Nat :=
  let c0_10 : Index := 0#32
  let arg1 : BitVec 32 := BitVec.ofNat 32 (i 1).val
  let c1024_i32 : BitVec 32 := 1024#32
  let v13 : BitVec 32 := Scalar.muli arg1 c1024_i32
  let v14 : BitVec 32 := v13
  let v28 : Index := Scalar.indexCast v14
  let c0_11 : Index := 0#32
  ![0, v28.toNat, 0]
def k0_off4 (i : grid0.Coords) : Fin 3 → Nat :=
  let c1 : Index := 1#32
  let arg1 : BitVec 32 := BitVec.ofNat 32 (i 1).val
  let c1024_i32 : BitVec 32 := 1024#32
  let v13 : BitVec 32 := Scalar.muli arg1 c1024_i32
  let v14 : BitVec 32 := v13
  let v63 : Index := Scalar.indexCast v14
  let c0_22 : Index := 0#32
  ![1, v63.toNat, 0]
@[reducible] def k0_t1_loop (i : grid0.Coords) : Scf.Loop 32 :=
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let c1_i32_36 : BitVec 32 := 1#32
  ⟨v103, v108, c1_i32_36⟩
def k0_mult2 (i : grid0.Coords) (k0_t1 : Fin (k0_t1_loop i).trips) : BitVec 32 :=
  let arg1 : BitVec 32 := BitVec.ofNat 32 (i 1).val
  let c1_i32 : BitVec 32 := 1#32
  let v103 : BitVec 32 := Scalar.addi arg1 c1_i32
  let c1_i32_36 : BitVec 32 := 1#32
  let arg13 : BitVec 32 := Scf.iv v103 c1_i32_36 k0_t1
  let c1024_i32_54 : BitVec 32 := 1024#32
  let v139 : BitVec 32 := Scalar.muli arg13 c1024_i32_54
  v139
def k0_off5 (i : grid0.Coords) (k0_t1 : Fin (k0_t1_loop i).trips) : Fin 2 → Nat :=
  let arg1 : BitVec 32 := BitVec.ofNat 32 (i 1).val
  let c1_i32 : BitVec 32 := 1#32
  let v103 : BitVec 32 := Scalar.addi arg1 c1_i32
  let c1_i32_36 : BitVec 32 := 1#32
  let arg13 : BitVec 32 := Scf.iv v103 c1_i32_36 k0_t1
  let c1024_i32_54 : BitVec 32 := 1024#32
  let v139 : BitVec 32 := Scalar.muli arg13 c1024_i32_54
  let v140 : BitVec 32 := v139
  let v141 : Index := Scalar.indexCast v140
  let c0_55 : Index := 0#32
  ![v141.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v103 : BitVec 32 := Scalar.addi arg1 c1_i32
  let c1_i32_36 : BitVec 32 := 1#32
  let arg13 : BitVec 32 := Scf.iv v103 c1_i32_36 k0_t1
  let c1024_i32_54 : BitVec 32 := 1024#32
  let v139 : BitVec 32 := Scalar.muli arg13 c1024_i32_54
  let v140 : BitVec 32 := v139
  let v144 : Index := Scalar.indexCast v140
  let c0_56 : Index := 0#32
  ![v144.toNat, 0]
def k0_off7 (i : grid0.Coords) (k0_t1 : Fin (k0_t1_loop i).trips) : Fin 3 → Nat :=
  let c0_58 : Index := 0#32
  let arg1 : BitVec 32 := BitVec.ofNat 32 (i 1).val
  let c1_i32 : BitVec 32 := 1#32
  let v103 : BitVec 32 := Scalar.addi arg1 c1_i32
  let c1_i32_36 : BitVec 32 := 1#32
  let arg13 : BitVec 32 := Scf.iv v103 c1_i32_36 k0_t1
  let c1024_i32_54 : BitVec 32 := 1024#32
  let v139 : BitVec 32 := Scalar.muli arg13 c1024_i32_54
  let v140 : BitVec 32 := v139
  let v149 : Index := Scalar.indexCast v140
  let c0_59 : Index := 0#32
  ![0, v149.toNat, 0]
def k0_off8 (i : grid0.Coords) (k0_t1 : Fin (k0_t1_loop i).trips) : Fin 3 → Nat :=
  let c1_69 : Index := 1#32
  let arg1 : BitVec 32 := BitVec.ofNat 32 (i 1).val
  let c1_i32 : BitVec 32 := 1#32
  let v103 : BitVec 32 := Scalar.addi arg1 c1_i32
  let c1_i32_36 : BitVec 32 := 1#32
  let arg13 : BitVec 32 := Scf.iv v103 c1_i32_36 k0_t1
  let c1024_i32_54 : BitVec 32 := 1024#32
  let v139 : BitVec 32 := Scalar.muli arg13 c1024_i32_54
  let v140 : BitVec 32 := v139
  let v179 : Index := Scalar.indexCast v140
  let c0_70 : Index := 0#32
  ![1, v179.toNat, 0]
@[reducible] def k0_t2_loop (i : grid0.Coords) : Scf.Loop 32 :=
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let v105 : BitVec 32 := Scalar.addi v103 v104
  let c1_i32_37 : BitVec 32 := 1#32
  ⟨v108, v105, c1_i32_37⟩
def k0_mult3 (i : grid0.Coords) (k0_t2 : Fin (k0_t2_loop i).trips) : BitVec 32 :=
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let c1_i32_37 : BitVec 32 := 1#32
  let arg13 : BitVec 32 := Scf.iv v108 c1_i32_37 k0_t2
  let c1024_i32_54 : BitVec 32 := 1024#32
  let v139 : BitVec 32 := Scalar.muli arg13 c1024_i32_54
  v139
def k0_off9 (i : grid0.Coords) (k0_t2 : Fin (k0_t2_loop i).trips) : Fin 2 → Nat :=
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let c1_i32_37 : BitVec 32 := 1#32
  let arg13 : BitVec 32 := Scf.iv v108 c1_i32_37 k0_t2
  let c1024_i32_54 : BitVec 32 := 1024#32
  let v139 : BitVec 32 := Scalar.muli arg13 c1024_i32_54
  let v140 : BitVec 32 := v139
  let v141 : Index := Scalar.indexCast v140
  let c0_55 : Index := 0#32
  ![v141.toNat, 0]
def k0_off10 (i : grid0.Coords) (k0_t2 : Fin (k0_t2_loop i).trips) : Fin 2 → Nat :=
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let c1_i32_37 : BitVec 32 := 1#32
  let arg13 : BitVec 32 := Scf.iv v108 c1_i32_37 k0_t2
  let c1024_i32_54 : BitVec 32 := 1024#32
  let v139 : BitVec 32 := Scalar.muli arg13 c1024_i32_54
  let v140 : BitVec 32 := v139
  let v144 : Index := Scalar.indexCast v140
  let c0_56 : Index := 0#32
  ![v144.toNat, 0]
def k0_off11 (i : grid0.Coords) (k0_t2 : Fin (k0_t2_loop i).trips) : Fin 3 → Nat :=
  let c0_58 : Index := 0#32
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let c1_i32_37 : BitVec 32 := 1#32
  let arg13 : BitVec 32 := Scf.iv v108 c1_i32_37 k0_t2
  let c1024_i32_54 : BitVec 32 := 1024#32
  let v139 : BitVec 32 := Scalar.muli arg13 c1024_i32_54
  let v140 : BitVec 32 := v139
  let v149 : Index := Scalar.indexCast v140
  let c0_59 : Index := 0#32
  ![0, v149.toNat, 0]
def k0_off12 (i : grid0.Coords) (k0_t2 : Fin (k0_t2_loop i).trips) : Fin 3 → Nat :=
  let c1_69 : Index := 1#32
  let arg1 : BitVec 32 := BitVec.ofNat 32 (i 1).val
  let c1_i32 : BitVec 32 := 1#32
  let v103 : BitVec 32 := Scalar.addi arg1 c1_i32
  let c4_i32 : BitVec 32 := 4#32
  let v104 : BitVec 32 := Scalar.subi c4_i32 v103
  let c1_i32_35 : BitVec 32 := 1#32
  let v106 : BitVec 32 := Scalar.divsi v104 c1_i32_35
  let v107 : BitVec 32 := Scalar.muli v106 c1_i32_35
  let v108 : BitVec 32 := Scalar.addi v103 v107
  let c1_i32_37 : BitVec 32 := 1#32
  let arg13 : BitVec 32 := Scf.iv v108 c1_i32_37 k0_t2
  let c1024_i32_54 : BitVec 32 := 1024#32
  let v139 : BitVec 32 := Scalar.muli arg13 c1024_i32_54
  let v140 : BitVec 32 := v139
  let v179 : Index := Scalar.indexCast v140
  let c0_70 : Index := 0#32
  ![1, v179.toNat, 0]
def k0_cond2 (i : grid0.Coords) : BitVec 1 :=
  let arg1 : BitVec 32 := BitVec.ofNat 32 (i 1).val
  let c3_i32 : BitVec 32 := 3#32
  let v136 : BitVec 1 := Scalar.cmpi .eq arg1 c3_i32
  let v137 : BitVec 32 := Scalar.extui v136
  let c0_i32_53 : BitVec 32 := 0#32
  let v138 : BitVec 1 := Scalar.cmpi .ne v137 c0_i32_53
  v138

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x8 : Shape := ⟨2, ![4096, 8]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S8x4096x64 : Shape := ⟨3, ![8, 4096, 64]⟩
abbrev S8x4x1x1024 : Shape := ⟨4, ![8, 4, 1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .bf16⟩
  | .hbm, ⟨5, _⟩ => ⟨S4096x8x64, .f32⟩
  | .hbm, ⟨6, _⟩ => ⟨S4096x8x64, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096, .f32⟩
  | .hbm, ⟨12, _⟩ => ⟨S8x4096x1, .f32⟩
  | .hbm, ⟨13, _⟩ => ⟨S8x4096x4096, .f32⟩
  | .hbm, ⟨14, _⟩ => ⟨S8x4096x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S4096, .i32⟩
  | .hbm, ⟨19, _⟩ => ⟨S4096x1, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .i1⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S8x4096, .i1⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S4096x8x64, .f32⟩
  | .hbm, ⟨70, _⟩ => ⟨S8x64x4096, .f32⟩
  | .hbm, ⟨71, _⟩ => ⟨S4096x8x64, .f32⟩
  | .hbm, ⟨72, _⟩ => ⟨S4096x512, .f32⟩
  | .hbm, ⟨73, _⟩ => ⟨S4096x512, .f32⟩
  | .hbm, ⟨74, _⟩ => ⟨S4096x8x64, .f32⟩
  | .hbm, ⟨75, _⟩ => ⟨S8x64x4096, .f32⟩
  | .hbm, ⟨76, _⟩ => ⟨S8x4096x4096, .f32⟩
  | .hbm, ⟨77, _⟩ => ⟨S8x64x4096, .f32⟩
  | .hbm, ⟨78, _⟩ => ⟨S4096x8x64, .f32⟩
  | .hbm, ⟨79, _⟩ => ⟨S4096x512, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x1, .f32⟩
  | .hbm, ⟨86, _⟩ => ⟨S8x4096x1, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S_, .f32⟩
  | .hbm, ⟨95, _⟩ => ⟨S8x4096x4096, .f32⟩
  | .hbm, ⟨96, _⟩ => ⟨S8x4096x4096, .f32⟩
  | .hbm, ⟨97, _⟩ => ⟨S8x4096x4096, .f32⟩
  | .hbm, ⟨98, _⟩ => ⟨S_, .f32⟩
  | .hbm, ⟨99, _⟩ => ⟨S8x4096, .f32⟩
  | .hbm, ⟨100, _⟩ => ⟨S8x1x4096, .f32⟩
  | .hbm, ⟨101, _⟩ => ⟨S_, .f32⟩
  | .hbm, ⟨102, _⟩ => ⟨S8x4096, .f32⟩
  | .hbm, ⟨103, _⟩ => ⟨S_, .f32⟩
  | .hbm, ⟨104, _⟩ => ⟨S8x4096, .f32⟩
  | .hbm, ⟨105, _⟩ => ⟨S8x4096x1, .f32⟩
  | .hbm, ⟨106, _⟩ => ⟨S_, .f32⟩
  | .hbm, ⟨107, _⟩ => ⟨S8x4096, .f32⟩
  | .hbm, ⟨108, _⟩ => ⟨S8x4096, .f32⟩
  | .hbm, ⟨109, _⟩ => ⟨S4096x8, .f32⟩
  | .hbm, ⟨110, _⟩ => ⟨S_, .f32⟩
  | .hbm, ⟨111, _⟩ => ⟨S8x4096x4096, .f32⟩
  | .hbm, ⟨112, _⟩ => ⟨S8x4096x4096, .f32⟩
  | .hbm, ⟨113, _⟩ => ⟨S8x4096x64, .f32⟩
  | .hbm, ⟨114, _⟩ => ⟨S4096x8x64, .f32⟩
  | .hbm, ⟨115, _⟩ => ⟨S8x4096x64, .f32⟩
  | .hbm, ⟨116, _⟩ => ⟨S4096x8x64, .f32⟩
  | .hbm, ⟨117, _⟩ => ⟨S4096x512, .f32⟩
  | .hbm, ⟨118, _⟩ => ⟨S4096x512, .f32⟩
  | .hbm, ⟨119, _⟩ => ⟨S4096x512, .bf16⟩
  | .hbm, ⟨120, _⟩ => ⟨S4096x512, .bf16⟩
  | .hbm, ⟨121, _⟩ => ⟨S4096x512, .bf16⟩
  | .hbm, ⟨122, _⟩ => ⟨S8x4096, .f32⟩
  | .hbm, ⟨123, _⟩ => ⟨S8x4x1x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]

def κ : String → Option EReal := fun
  | "mask" => some ⊥
  | _ => none
-- ==== Swiglu.lean ====
abbrev S4096x1024 : Shape := ⟨2, ![4096, 1024]⟩
abbrev S2816x1024 : Shape := ⟨2, ![2816, 1024]⟩
abbrev S4096x5632 : Shape := ⟨2, ![4096, 5632]⟩
abbrev S4x704x1024 : Shape := ⟨3, ![4, 704, 1024]⟩
abbrev S4096x2x4x704 : Shape := ⟨4, ![4096, 2, 4, 704]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S1x1024x704 : Shape := ⟨3, ![1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4x704x1024, .bf16⟩
  | .hbm, ⟨4, _⟩ => ⟨S4096x2x4x704, .bf16⟩
  | .hbm, ⟨5, _⟩ => ⟨S2x4x4096x704, .bf16⟩
  | .hbm, ⟨6, _⟩ => ⟨S4x4096x704, .bf16⟩
  | .hbm, ⟨7, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S2x1x1024x704, .bf16⟩
  | .local _ .vmem, ⟨9, _⟩ => ⟨S2x1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluRefIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x2816, .bf16⟩
  | .hbm, ⟨32, _⟩ => ⟨S4096x4x704, .bf16⟩
  | .hbm, ⟨33, _⟩ => ⟨S4x4096x704, .bf16⟩
  | .hbm, ⟨34, _⟩ => ⟨S4096x5632, .bf16⟩
  | .hbm, ⟨35, _⟩ => ⟨S4096x2x4x704, .bf16⟩
  | .hbm, ⟨36, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== WIn.lean ====
abbrev S4096x5632 : Shape := ⟨2, ![4096, 5632]⟩
abbrev S4096x1024 : Shape := ⟨2, ![4096, 1024]⟩
abbrev S4096x8x704 : Shape := ⟨3, ![4096, 8, 704]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x8x704, .bf16⟩
  | .hbm, ⟨3, _⟩ => ⟨S8x4096x704, .bf16⟩
  | .hbm, ⟨4, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | .hbm, ⟨11, _⟩ => ⟨S8x704x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DIn.lean ====
abbrev S4096x5632 : Shape := ⟨2, ![4096, 5632]⟩
abbrev S1024x5632 : Shape := ⟨2, ![1024, 5632]⟩
abbrev S4096x8x704 : Shape := ⟨3, ![4096, 8, 704]⟩
abbrev S8x4096x704 : Shape := ⟨3, ![8, 4096, 704]⟩
abbrev S5632x1024 : Shape := ⟨2, ![5632, 1024]⟩
abbrev S8x704x1024 : Shape := ⟨3, ![8, 704, 1024]⟩
abbrev S4096x1024 : Shape := ⟨2, ![4096, 1024]⟩
abbrev S4x1024x704 : Shape := ⟨3, ![4, 1024, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x8x704, .bf16⟩
  | .hbm, ⟨3, _⟩ => ⟨S8x4096x704, .bf16⟩
  | .hbm, ⟨4, _⟩ => ⟨S5632x1024, .bf16⟩
  | .hbm, ⟨5, _⟩ => ⟨S8x704x1024, .bf16⟩
  | .hbm, ⟨6, _⟩ => ⟨S4096x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S4x704x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_26 : BitVec 32 := 0#32
  let v31 : BitVec 1 := Scalar.cmpi .ne v30 c0_i32_26
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | .hbm, ⟨8, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WOut.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x4x704, .bf16⟩
  | .hbm, ⟨3, _⟩ => ⟨S4x4096x704, .bf16⟩
  | .hbm, ⟨4, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4x704x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FIn.lean ====
abbrev S4096x1024 : Shape := ⟨2, ![4096, 1024]⟩
abbrev S1024x5632 : Shape := ⟨2, ![1024, 5632]⟩
abbrev S5632x1024 : Shape := ⟨2, ![5632, 1024]⟩
abbrev S8x704x1024 : Shape := ⟨3, ![8, 704, 1024]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S1x1024x704 : Shape := ⟨3, ![1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S5632x1024, .bf16⟩
  | .hbm, ⟨3, _⟩ => ⟨S8x704x1024, .bf16⟩
  | .hbm, ⟨4, _⟩ => ⟨S2x4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FInRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x5632, .bf16⟩
  | .hbm, ⟨18, _⟩ => ⟨S4096x2x4x704, .bf16⟩
  | .hbm, ⟨19, _⟩ => ⟨S2x4x4096x704, .bf16⟩
  | .hbm, ⟨20, _⟩ => ⟨S4096x2816, .bf16⟩
  | .hbm, ⟨21, _⟩ => ⟨S4096x4x704, .bf16⟩
  | .hbm, ⟨22, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== FOut.lean ====
abbrev S4096x2816 : Shape := ⟨2, ![4096, 2816]⟩
abbrev S2816x1024 : Shape := ⟨2, ![2816, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4096x1024 : Shape := ⟨2, ![4096, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x4x704, .bf16⟩
  | .hbm, ⟨3, _⟩ => ⟨S4x4096x704, .bf16⟩
  | .hbm, ⟨4, _⟩ => ⟨S4x704x1024, .bf16⟩
  | .hbm, ⟨5, _⟩ => ⟨S4096x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .bf16⟩
  | .local _ .vmem, ⟨4, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Model.lean ====
module

public import proofs.«01_k».proof.Proof.Gen.KernelIdeal.Frame
public import proofs.«01_k».proof.Proof.Gen.KernelIdeal.Loops
public import Idealize.ShloMosaic.Lib.VecWindow
public import Idealize.ShloMosaic.Lib.ValueIdxCore

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
variable {F : FTy → Type} [FloatOps F] [Named F]

local notation "𝕄" => MT nD τ sig Unit (Elt F) ℕ (UR sig nD τ) ℕ

/-! ## The branch conditions -/

/-- The body clears its accumulator: the first key block of a pair of heads. -/
abbrev cond0_0 (i : grid0.Coords) : Prop := (Scalar.cmpi .ne (Scalar.extui (Scalar.cmpi .eq (BitVec.ofNat 32 (i 1).val) 0#32)) 0#32) = 1#1

/-- The body writes the gradient of the queries out: the last key block of a pair of heads. -/
abbrev cond0_1 (i : grid0.Coords) : Prop := k0_cond2 i = 1#1

/-! ## The program's index words as numbers -/

theorem lt4 (i : grid0.Coords) : (i 1).val < 4 := (i 1).isLt

theorem off1_eq (i : grid0.Coords) : k0_off1 i = ![1024 * (i 1).val, 0] := by
  have key : ∀ j : Fin 4, (Scalar.indexCast (Scalar.muli (BitVec.ofNat 32 j.val) 1024#32) : Index).toNat = 1024 * j.val := by decide
  funext a; match a with
  | 0 => exact key ⟨_, lt4 i⟩
  | 1 => rfl

theorem off2_eq (i : grid0.Coords) : k0_off2 i = ![1024 * (i 1).val, 0] := off1_eq i

theorem off3_eq (i : grid0.Coords) : k0_off3 i = ![0, 1024 * (i 1).val, 0] := by
  have h := congrFun (off1_eq i) 0
  funext a; match a with
  | 0 => rfl
  | 1 => exact h
  | 2 => rfl

theorem off4_eq (i : grid0.Coords) : k0_off4 i = ![1, 1024 * (i 1).val, 0] := by
  have h := congrFun (off1_eq i) 0
  funext a; match a with
  | 0 => rfl
  | 1 => exact h
  | 2 => rfl

/-- The loop over the query blocks below the diagonal makes one trip per block. -/
theorem trips1 (i : grid0.Coords) : (k0_t1_loop i).trips = 3 - (i 1).val := by
  have key : ∀ j : Fin 4, Scf.trips (Scalar.addi (BitVec.ofNat 32 j.val) 1#32) (Scalar.addi (Scalar.addi (BitVec.ofNat 32 j.val) 1#32) (Scalar.muli (Scalar.divsi (Scalar.subi 4#32 (Scalar.addi (BitVec.ofNat 32 j.val) 1#32)) 1#32) 1#32)) 1#32 = 3 - j.val := by decide
  exact key ⟨_, lt4 i⟩

/-- The loop's remainder makes no trip. -/
theorem trips2 (i : grid0.Coords) : (k0_t2_loop i).trips = 0 := by
  have key : ∀ j : Fin 4, Scf.trips (Scalar.addi (Scalar.addi (BitVec.ofNat 32 j.val) 1#32) (Scalar.muli (Scalar.divsi (Scalar.subi 4#32 (Scalar.addi (BitVec.ofNat 32 j.val) 1#32)) 1#32) 1#32)) (Scalar.addi (Scalar.addi (BitVec.ofNat 32 j.val) 1#32) (Scalar.subi 4#32 (Scalar.addi (BitVec.ofNat 32 j.val) 1#32))) 1#32 = 0 := by decide
  exact key ⟨_, lt4 i⟩

/-- The query block that trip `k` at key block `j` reads. -/
abbrev rowOf (j k : ℕ) : Fin 4 := ⟨(j + 1 + k) % 4, Nat.mod_lt _ (by decide)⟩

theorem off5_eq (i : grid0.Coords) (k : Fin (k0_t1_loop i).trips) : k0_off5 i k = ![1024 * (rowOf (i 1).val k.val).val, 0] := by
  have key : ∀ j k : Fin 4, j.val + 1 + k.val < 4 → (Scalar.indexCast (Scalar.muli (Scf.iv (Scalar.addi (BitVec.ofNat 32 j.val) 1#32) 1#32 k.val) 1024#32) : Index).toNat = 1024 * ((j.val + 1 + k.val) % 4) := by decide
  have hk : k.val < 3 - (i 1).val := lt_of_lt_of_eq k.isLt (trips1 i)
  have hi := lt4 i
  funext a; match a with
  | 0 => exact key ⟨(i 1).val, hi⟩ ⟨k.val, by omega⟩ (by dsimp only; omega)
  | 1 => rfl

theorem off6_eq (i : grid0.Coords) (k : Fin (k0_t1_loop i).trips) : k0_off6 i k = ![1024 * (rowOf (i 1).val k.val).val, 0] := off5_eq i k

theorem off7_eq (i : grid0.Coords) (k : Fin (k0_t1_loop i).trips) : k0_off7 i k = ![0, 1024 * (rowOf (i 1).val k.val).val, 0] := by
  have h := congrFun (off5_eq i k) 0
  funext a; match a with
  | 0 => rfl
  | 1 => exact h
  | 2 => rfl

theorem off8_eq (i : grid0.Coords) (k : Fin (k0_t1_loop i).trips) : k0_off8 i k = ![1, 1024 * (rowOf (i 1).val k.val).val, 0] := by
  have h := congrFun (off5_eq i k) 0
  funext a; match a with
  | 0 => rfl
  | 1 => exact h
  | 2 => rfl

/-! ## The blocks the body reads -/

theorem inbQ (r : Fin 4) : ∀ a, (![1024 * r.val, 0] : Fin 2 → ℕ) a + S1024x256.size a ≤ S4096x256.size a := by
  have hr := r.isLt
  intro a; match a with
  | 0 => show 1024 * r.val + 1024 ≤ 4096; omega
  | 1 => show 0 + 256 ≤ 256; omega

theorem inbD (r : Fin 4) : ∀ a, (![1024 * r.val, 0] : Fin 2 → ℕ) a + S1024x128.size a ≤ S4096x128.size a := by
  have hr := r.isLt
  intro a; match a with
  | 0 => show 1024 * r.val + 1024 ≤ 4096; omega
  | 1 => show 0 + 128 ≤ 128; omega

theorem inbL (h : Fin 2) (r : Fin 4) : ∀ a, (![h.val, 1024 * r.val, 0] : Fin 3 → ℕ) a + S1x1024x1.size a ≤ S2x4096x1.size a := by
  have hr := r.isLt
  have hh := h.isLt
  intro a; match a with
  | 0 => show h.val + 1 ≤ 2; omega
  | 1 => show 1024 * r.val + 1024 ≤ 4096; omega
  | 2 => show 0 + 1 ≤ 1; omega

/-- Query block `r` of the augmented queries. -/
def wQ (x : Vec F S4096x256 .bf16) (r : Fin 4) : Vec F S1024x256 .bf16 := window x ![1024 * r.val, 0] S1024x256.size (inbQ r)
/-- Query block `r` of the output's cotangent. -/
def wD (x : Vec F S4096x128 .bf16) (r : Fin 4) : Vec F S1024x128 .bf16 := window x ![1024 * r.val, 0] S1024x128.size (inbD r)
/-- Query block `r` of the accumulator. -/
def wS (x : Vec F S4096x128 .f32) (r : Fin 4) : Vec F S1024x128 .f32 := window x ![1024 * r.val, 0] S1024x128.size (inbD r)
/-- Query block `r`, head `h` of the pair, of a column of per-query numbers. -/
def wL (x : Vec F S2x4096x1 .f32) (h : Fin 2) (r : Fin 4) : Vec F S1x1024x1 .f32 := window x ![h.val, 1024 * r.val, 0] S1x1024x1.size (inbL h r)
/-- The accumulator with query block `r` replaced. -/
def putS (x : Vec F S4096x128 .f32) (r : Fin 4) (w : Vec F S1024x128 .f32) : Vec F S4096x128 .f32 := put x ![1024 * r.val, 0] S1024x128.size w

/-- What the loop carries: per head of the pair the sums for keys, values and gates. -/
abbrev Carr (F : FTy → Type) : Type := FVec F S128x1024 .f32 × FVec F S128x1024 .f32 × FVec F S1x1024 .f32 × FVec F S128x1024 .f32 × FVec F S128x1024 .f32 × FVec F S1x1024 .f32

section Point

variable (x0 : Vec F S4096x256 .bf16) (x1 : Vec F S4096x128 .bf16) (x2 x3 : Vec F S2x4096x1 .f32) (x4 : Vec F S1024x256 .bf16) (x5 : Vec F S1024x128 .bf16)

/-- The sums after one more query block `r` below the diagonal. -/
def tripC (r : Fin 4) (a : Carr F) : Carr F :=
  (k0_pay11 k0_pay30 (k0_pay32 x4) (k0_pay33 x5) a.1 (wQ x0 r) (wD x1 r) (wL x2 0 r) (wL x3 0 r),
   k0_pay8 (k0_pay32 x4) a.2.1 (wQ x0 r) (wD x1 r) (wL x2 0 r),
   k0_pay13 k0_pay30 (k0_pay32 x4) (k0_pay33 x5) a.2.2.1 (wQ x0 r) (wD x1 r) (wL x2 0 r) (wL x3 0 r),
   k0_pay61 k0_pay30 (k0_pay33 x5) a.2.2.2.1 (wD x1 r) (k0_pay14 (wQ x0 r)) (k0_pay16 (k0_pay32 x4) (wQ x0 r)) (wL x2 1 r) (wL x3 1 r),
   k0_pay58 a.2.2.2.2.1 (wD x1 r) (k0_pay16 (k0_pay32 x4) (wQ x0 r)) (wL x2 1 r),
   k0_pay62 k0_pay30 (k0_pay33 x5) a.2.2.2.2.2 (wD x1 r) (k0_pay16 (k0_pay32 x4) (wQ x0 r)) (wL x2 1 r) (wL x3 1 r))

/-- The accumulator's query block `r` after that block, from what it held. -/
def tripS (r : Fin 4) (old : Vec F S1024x128 .f32) : Vec F S1024x128 .f32 :=
  k0_pay63 k0_pay30 (k0_pay33 x5) (wD x1 r) (k0_pay12 k0_pay30 (k0_pay32 x4) (k0_pay33 x5) (wQ x0 r) (wD x1 r) (wL x2 0 r) (wL x3 0 r))
    (k0_pay15 (k0_pay32 x4)) (k0_pay16 (k0_pay32 x4) (wQ x0 r)) (wL x2 1 r) (wL x3 1 r) old

/-- The second head's gradient of the scores on the diagonal block `j`. -/
def diagDs (j : Fin 4) : FVec F S1024x1024 .f32 :=
  k0_pay52 k0_pay30 (k0_pay32 x4) (k0_pay33 x5) (k0_pay37 (wQ x0 j)) (wD x1 j) (wL x2 1 j) (wL x3 1 j)

/-- The sums after the diagonal block `j`. -/
def diagC (j : Fin 4) : Carr F :=
  (k0_pay45 k0_pay30 (k0_pay33 x5) k0_pay34 (wD x1 j) (k0_pay38 (wQ x0 j)) (k0_pay40 x4 (wQ x0 j) (wL x2 0 j)) k0_pay42 (wL x3 0 j),
   k0_pay41 x4 (wQ x0 j) (wD x1 j) (wL x2 0 j),
   k0_pay47 k0_pay30 (k0_pay33 x5) k0_pay36 (wD x1 j) (k0_pay40 x4 (wQ x0 j) (wL x2 0 j)) k0_pay42 (wL x3 0 j),
   k0_pay54 k0_pay34 (k0_pay48 (k0_pay37 (wQ x0 j))) (diagDs x0 x1 x2 x3 x4 x5 j),
   k0_pay51 (k0_pay32 x4) k0_pay35 (k0_pay37 (wQ x0 j)) (wD x1 j) (wL x2 1 j),
   k0_pay55 k0_pay36 (diagDs x0 x1 x2 x3 x4 x5 j))

/-- The accumulator's query block `j` after the diagonal block, from what it held. -/
def diagS (j : Fin 4) (old : Vec F S1024x128 .f32) : Vec F S1024x128 .f32 :=
  k0_pay56 k0_pay30 (k0_pay46 k0_pay30 (k0_pay33 x5) (wD x1 j) (k0_pay39 x4) (k0_pay40 x4 (wQ x0 j) (wL x2 0 j)) k0_pay42 (wL x3 0 j))
    (k0_pay49 (k0_pay32 x4)) (diagDs x0 x1 x2 x3 x4 x5 j) old

/-- The sums and the accumulator after the diagonal block and the first `k` blocks below it. -/
def stateAt (j : Fin 4) (xs : Vec F S4096x128 .f32) : ℕ → Carr F × Vec F S4096x128 .f32
  | 0 => (diagC x0 x1 x2 x3 x4 x5 j, putS xs j (diagS x0 x1 x2 x3 x4 x5 j (wS xs j)))
  | k + 1 => (tripC x0 x1 x2 x3 x4 x5 (rowOf j.val k) (stateAt j xs k).1,
      putS (stateAt j xs k).2 (rowOf j.val k) (tripS x0 x1 x2 x3 x4 x5 (rowOf j.val k) (wS (stateAt j xs k).2 (rowOf j.val k))))

/-- The sums at the end of key block `j`. -/
def endC (j : Fin 4) (xs : Vec F S4096x128 .f32) : Carr F := (stateAt x0 x1 x2 x3 x4 x5 j xs (3 - j.val)).1
/-- The accumulator at the end of key block `j`. -/
def endS (j : Fin 4) (xs : Vec F S4096x128 .f32) : Vec F S4096x128 .f32 := (stateAt x0 x1 x2 x3 x4 x5 j xs (3 - j.val)).2

/-- The block of the keys' gradient. -/
def outK (a : Carr F) : Vec F S1024x128 .bf16 := k0_pay71 k0_pay30 a.1 a.2.2.2.1
/-- The block of the values' gradient. -/
def outV (a : Carr F) : Vec F S1024x128 .bf16 := k0_pay72 k0_pay30 a.2.1 a.2.2.2.2.1
/-- The block of the gates' gradient, head by head. -/
def outC (a : Carr F) : Vec F S2x1x1x1024 .f32 := fun y =>
  if (y 0).val = 0 then (k0_pay1 a.2.2.1 : Vec F S1x1x1x1024 .f32) (ValueIdx.ix4 0 0 0 (y 3)) else (k0_pay2 a.2.2.2.2.2 : Vec F S1x1x1x1024 .f32) (ValueIdx.ix4 0 0 0 (y 3))

end Point

end Cert.KernelIdeal.Attn

end
-- ==== Proof.Trip.lean ====
module

public import proofs.«01_k».proof.Proof.Model

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
variable {F : FTy → Type} [FloatOps F] [Named F]

local notation "𝕄" => MT nD τ sig Unit (Elt F) ℕ (UR sig nD τ) ℕ

variable (𝒱 : Variants) (c : Dev nD) (bd : Option 𝒱.V) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole)
  (x4 : Vec F S1024x256 .bf16) (x5 : Vec F S1024x128 .bf16)
  (arg1 : BitVec 32) (v10 : FVec F S128x1024 .f32) (v12 : FVec F S1x1024 .f32) (v14 : BitVec 32) (v36 : FVec F S128x1024 .f32) (v50 : FVec F S128x1024 .f32) (v51 : FVec F S1024x128 .f32) (v54 : FVec F S1x1024 .f32) (v55 : FVec F S1024x128 .bf16) (v56 : FVec F S1024x128 .bf16) (v71 : FVec F S128x1024 .f32) (v82 : FVec F S1024x1024 .f32) (v103 : BitVec 32)
  (X2 : BufTy.Contents (Elt F) arg2.view.ty) (X3 : BufTy.Contents (Elt F) arg3.view.ty) (X4 : BufTy.Contents (Elt F) arg4.view.ty) (X5 : BufTy.Contents (Elt F) arg5.view.ty)

/-- One trip of the loop below the diagonal, its sums: the trip's own text read at the blocks. -/
theorem tripR_eq (k : Fin (k0_t1_loop i).trips) (a : Carr F) (f : BufTy.Contents (Elt F) arg12.view.ty) :
    tripR_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 k a f = tripC (arg2.view.read (Elt F) X2) (arg3.view.read (Elt F) X3) (arg4.view.read (Elt F) X4) (arg5.view.read (Elt F) X5) x4 x5 (rowOf (i 1).val k.val) a := by
  refine Eq.trans (b := ?b) ?h1 ?h2
  case h1 => unfold tripR_k0_t1 trip_k0_t1; exact rfl
  case h2 =>
    unfold tripC
    have e2 : wQ (arg2.view.read (Elt F) X2) (rowOf (i 1).val k.val) = _ := (View.readAt_unit arg2.view X2 (k0_off5_inb i k) (off5_eq i k) (inbQ (rowOf (i 1).val k.val))).symm
    have e3 : wD (arg3.view.read (Elt F) X3) (rowOf (i 1).val k.val) = _ := (View.readAt_unit arg3.view X3 (k0_off6_inb i k) (off6_eq i k) (inbD (rowOf (i 1).val k.val))).symm
    have e4 : wL (arg4.view.read (Elt F) X4) 0 (rowOf (i 1).val k.val) = _ := (View.readAt_unit arg4.view X4 (k0_off7_inb i k) (off7_eq i k) (inbL 0 (rowOf (i 1).val k.val))).symm
    have e5 : wL (arg5.view.read (Elt F) X5) 0 (rowOf (i 1).val k.val) = _ := (View.readAt_unit arg5.view X5 (k0_off7_inb i k) (off7_eq i k) (inbL 0 (rowOf (i 1).val k.val))).symm
    have e6 : wL (arg4.view.read (Elt F) X4) 1 (rowOf (i 1).val k.val) = _ := (View.readAt_unit arg4.view X4 (k0_off8_inb i k) (off8_eq i k) (inbL 1 (rowOf (i 1).val k.val))).symm
    have e7 : wL (arg5.view.read (Elt F) X5) 1 (rowOf (i 1).val k.val) = _ := (View.readAt_unit arg5.view X5 (k0_off8_inb i k) (off8_eq i k) (inbL 1 (rowOf (i 1).val k.val))).symm
    rw [e2, e3, e4, e5, e6, e7]
    exact rfl

/-- One trip of the loop below the diagonal, its store: the accumulator with the trip's query block replaced. -/
theorem tripL_eq (k : Fin (k0_t1_loop i).trips) (a : Carr F) (f g : BufTy.Contents (Elt F) arg12.view.ty) (L : List (View.Piece (Elt F) S4096x128 .f32))
    (hg : f = arg12.view.writes (Elt F) g L) :
    arg12.view.read (Elt F) (arg12.view.writes (Elt F) g (tripL_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 k a f ++ L))
      = putS (arg12.view.read (Elt F) f) (rowOf (i 1).val k.val)
          (tripS (arg2.view.read (Elt F) X2) (arg3.view.read (Elt F) X3) (arg4.view.read (Elt F) X4) (arg5.view.read (Elt F) X5) x4 x5 (rowOf (i 1).val k.val) (wS (arg12.view.read (Elt F) f) (rowOf (i 1).val k.val))) := by
  have h : tripL_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 k a f = [⟨Rect.unit (k0_off6 i k) S1024x128.size (k0_off6_inb i k),
      tripS (arg2.view.read (Elt F) X2) (arg3.view.read (Elt F) X3) (arg4.view.read (Elt F) X4) (arg5.view.read (Elt F) X5) x4 x5 (rowOf (i 1).val k.val) (wS (arg12.view.read (Elt F) f) (rowOf (i 1).val k.val))⟩] := by
    refine Eq.trans (b := ?b) ?h1 ?h2
    case h1 => unfold tripL_k0_t1 trip_k0_t1; exact rfl
    case h2 =>
      unfold tripS
      have e2 : wQ (arg2.view.read (Elt F) X2) (rowOf (i 1).val k.val) = _ := (View.readAt_unit arg2.view X2 (k0_off5_inb i k) (off5_eq i k) (inbQ (rowOf (i 1).val k.val))).symm
      have e3 : wD (arg3.view.read (Elt F) X3) (rowOf (i 1).val k.val) = _ := (View.readAt_unit arg3.view X3 (k0_off6_inb i k) (off6_eq i k) (inbD (rowOf (i 1).val k.val))).symm
      have e4 : wL (arg4.view.read (Elt F) X4) 0 (rowOf (i 1).val k.val) = _ := (View.readAt_unit arg4.view X4 (k0_off7_inb i k) (off7_eq i k) (inbL 0 (rowOf (i 1).val k.val))).symm
      have e5 : wL (arg5.view.read (Elt F) X5) 0 (rowOf (i 1).val k.val) = _ := (View.readAt_unit arg5.view X5 (k0_off7_inb i k) (off7_eq i k) (inbL 0 (rowOf (i 1).val k.val))).symm
      have e6 : wL (arg4.view.read (Elt F) X4) 1 (rowOf (i 1).val k.val) = _ := (View.readAt_unit arg4.view X4 (k0_off8_inb i k) (off8_eq i k) (inbL 1 (rowOf (i 1).val k.val))).symm
      have e7 : wL (arg5.view.read (Elt F) X5) 1 (rowOf (i 1).val k.val) = _ := (View.readAt_unit arg5.view X5 (k0_off8_inb i k) (off8_eq i k) (inbL 1 (rowOf (i 1).val k.val))).symm
      have e8 : wS (arg12.view.read (Elt F) f) (rowOf (i 1).val k.val) = _ := (View.readAt_unit arg12.view f (k0_off6_inb i k) (off6_eq i k) (inbD (rowOf (i 1).val k.val))).symm
      rw [e2, e3, e4, e5, e6, e7, e8]
      exact rfl
  rw [h, List.singleton_append, View.read_writes_cons_put arg12.view g (k0_off6_inb i k) _ L (off6_eq i k), ← hg]
  exact rfl

/-- The loop's state is the model's, trip by trip. -/
theorem st_eq (G : BufTy.Contents (Elt F) arg12.view.ty) (init : Carr F) (xs : Vec F S4096x128 .f32)
    (hinit : init = diagC (arg2.view.read (Elt F) X2) (arg3.view.read (Elt F) X3) (arg4.view.read (Elt F) X4) (arg5.view.read (Elt F) X5) x4 x5 ⟨(i 1).val, lt4 i⟩)
    (hG : arg12.view.read (Elt F) G = putS xs ⟨(i 1).val, lt4 i⟩ (diagS (arg2.view.read (Elt F) X2) (arg3.view.read (Elt F) X3) (arg4.view.read (Elt F) X4) (arg5.view.read (Elt F) X5) x4 x5 ⟨(i 1).val, lt4 i⟩ (wS xs ⟨(i 1).val, lt4 i⟩))) :
    ∀ n, n ≤ (k0_t1_loop i).trips →
      (st_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 G init n).1 = (stateAt (arg2.view.read (Elt F) X2) (arg3.view.read (Elt F) X3) (arg4.view.read (Elt F) X4) (arg5.view.read (Elt F) X5) x4 x5 ⟨(i 1).val, lt4 i⟩ xs n).1
      ∧ arg12.view.read (Elt F) (arg12.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 G init n).2) = (stateAt (arg2.view.read (Elt F) X2) (arg3.view.read (Elt F) X3) (arg4.view.read (Elt F) X4) (arg5.view.read (Elt F) X5) x4 x5 ⟨(i 1).val, lt4 i⟩ xs n).2
  | 0, _ => ⟨hinit, hG⟩
  | n + 1, hn => by
    obtain ⟨ih1, ih2⟩ := st_eq G init xs hinit hG n (Nat.le_of_succ_le hn)
    rw [st_k0_t1_succ 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 G init ⟨n, Nat.lt_of_succ_le hn⟩]
    refine ⟨?_, ?_⟩
    · dsimp only
      rw [tripR_eq, ih1]
      exact rfl
    · dsimp only
      rw [tripL_eq (hg := rfl), ih2]
      exact rfl

end Cert.KernelIdeal.Attn

end
-- ==== Proof.Ends.lean ====
module

public import proofs.«01_k».proof.Proof.Trip

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-- What a list of stores leaves to be read depends on what the buffer read before and on nothing else. -/
theorem read_writes_congr {sg sg' : RefSig} {κ κ' sp sp'} {sh : Shape} {e : EltTy} (v : View sg κ sp sh e) (v' : View sg' κ' sp' sh e)
    (f : v.ty.Contents (Elt F)) (f' : v'.ty.Contents (Elt F)) (L : List (View.Piece (Elt F) sh e)) (h : v.read (Elt F) f = v'.read (Elt F) f') :
    v.read (Elt F) (v.writes (Elt F) f L) = v'.read (Elt F) (v'.writes (Elt F) f' L) := by
  funext y
  by_cases hy : ∃ p ∈ L, y ∈ p.1.set
  · exact View.read_writes_apply_eq v f v' f' y L hy
  · have hn : ∀ p ∈ L, y ∉ p.1.set := fun p hp hm => hy ⟨p, hp, hm⟩
    rw [View.read_writes_apply_of_forall_not_mem v f y L hn, View.read_writes_apply_of_forall_not_mem v' f' y L hn, h]

/-- The keys' block from equal sums. -/
theorem outK_of (a b : Carr F) (h : a = b) : k0_pay71 k0_pay30 a.1 a.2.2.2.1 = outK b := h ▸ rfl
/-- The values' block from equal sums. -/
theorem outV_of (a b : Carr F) (h : a = b) : k0_pay72 k0_pay30 a.2.1 a.2.2.2.2.1 = outV b := h ▸ rfl
/-- The gates' block, its two heads stored one after the other, from equal sums. -/
theorem outC_of {sg : RefSig} {κ sp} (v : View sg κ sp S2x1x1x1024 .f32) (f : v.ty.Contents (Elt F)) (a b : Carr F) (h : a = b) :
    v.read (Elt F) (v.writes (Elt F) f [⟨(Rect.unit ![1, 0, 0, 0] S1x1x1x1024.size inb_S2x1x1x1024_S1x1x1x1024_1_0_0_0 : Rect S2x1x1x1024), k0_pay2 a.2.2.2.2.2⟩,
      ⟨(Rect.unit ![0, 0, 0, 0] S1x1x1x1024.size inb_S2x1x1x1024_S1x1x1x1024_0_0_0_0 : Rect S2x1x1x1024), k0_pay1 a.2.2.1⟩]) = outC b := by
  subst h
  funext y
  have h0 : (y 0).val < 2 := (y 0).isLt
  have h1 : (y 1).val < 1 := (y 1).isLt
  have h2 : (y 2).val < 1 := (y 2).isLt
  unfold outC
  by_cases hy : (y 0).val = 0
  · rw [if_pos hy]
    refine (View.read_writes_cons_unit_of_not_mem v f inb_S2x1x1x1024_S1x1x1x1024_1_0_0_0 _ _ y rfl (0 : Fin 4) (Or.inl ?_)).trans ?_
    · show (y 0).val < 1; omega
    refine View.read_writes_cons_unit_of_mem v f inb_S2x1x1x1024_S1x1x1x1024_0_0_0_0 _ _ y (ValueIdx.ix4 0 0 0 (y 3)) rfl fun b => ?_
    match b with
    | 0 => show (y 0).val = 0 + 0; omega
    | 1 => show (y 1).val = 0 + 0; omega
    | 2 => show (y 2).val = 0 + 0; omega
    | 3 => show (y 3).val = 0 + (y 3).val; omega
  · rw [if_neg hy]
    refine View.read_writes_cons_unit_of_mem v f inb_S2x1x1x1024_S1x1x1x1024_1_0_0_0 _ _ y (ValueIdx.ix4 0 0 0 (y 3)) rfl fun b => ?_
    match b with
    | 0 => show (y 0).val = 1 + 0; omega
    | 1 => show (y 1).val = 0 + 0; omega
    | 2 => show (y 2).val = 0 + 0; omega
    | 3 => show (y 3).val = 0 + (y 3).val; omega

/-- After a store over the whole accumulator what it held before is forgotten, also under one store more. -/
theorem forget_under (v : Memref sig .tc .vmem S4096x128 .f32) (f f' : BufTy.Contents (Elt F) v.view.ty) (d : View.Piece (Elt F) S4096x128 .f32) (z : Vec F S4096x128 .f32) :
    v.view.read (Elt F) (v.view.writes (Elt F) f [d, ⟨(Rect.unit ![0, 0] S4096x128.size inb_S4096x128_S4096x128_0_0 : Rect S4096x128), z⟩])
      = v.view.read (Elt F) (v.view.writes (Elt F) f' [d, ⟨(Rect.unit ![0, 0] S4096x128.size inb_S4096x128_S4096x128_0_0 : Rect S4096x128), z⟩]) := by
  refine funext fun y => View.read_writes_apply_eq v.view f v.view f' y _ ⟨_, List.mem_cons_of_mem _ List.mem_cons_self, ?_⟩
  rw [Rect.mem_set_unit]
  intro a
  have h := (y a).isLt
  match a with
  | 0 => exact ⟨Nat.zero_le _, by show (y 0).val < 0 + 4096; exact lt_of_lt_of_eq h rfl⟩
  | 1 => exact ⟨Nat.zero_le _, by show (y 1).val < 0 + 128; exact lt_of_lt_of_eq h rfl⟩

section Ends
variable (𝒱 : Variants) (c : Dev nD) (bd : Option 𝒱.V) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole)
  (x4 : Vec F S1024x256 .bf16) (x5 : Vec F S1024x128 .bf16)
  (arg1 : BitVec 32) (v10 : FVec F S128x1024 .f32) (v12 : FVec F S1x1024 .f32) (v14 : BitVec 32) (v36 : FVec F S128x1024 .f32) (v50 : FVec F S128x1024 .f32) (v51 : FVec F S1024x128 .f32) (v54 : FVec F S1x1024 .f32) (v55 : FVec F S1024x128 .bf16) (v56 : FVec F S1024x128 .bf16) (v71 : FVec F S128x1024 .f32) (v82 : FVec F S1024x1024 .f32) (v103 : BitVec 32) (v108 : BitVec 32)
  (X2 : BufTy.Contents (Elt F) arg2.view.ty) (X3 : BufTy.Contents (Elt F) arg3.view.ty) (X4 : BufTy.Contents (Elt F) arg4.view.ty) (X5 : BufTy.Contents (Elt F) arg5.view.ty)
variable (G G2 : BufTy.Contents (Elt F) arg12.view.ty) (init : Carr F) (xs : Vec F S4096x128 .f32)
  (hinit : init = diagC (arg2.view.read (Elt F) X2) (arg3.view.read (Elt F) X3) (arg4.view.read (Elt F) X4) (arg5.view.read (Elt F) X5) x4 x5 ⟨(i 1).val, lt4 i⟩)
  (hG : arg12.view.read (Elt F) G = putS xs ⟨(i 1).val, lt4 i⟩ (diagS (arg2.view.read (Elt F) X2) (arg3.view.read (Elt F) X3) (arg4.view.read (Elt F) X4) (arg5.view.read (Elt F) X5) x4 x5 ⟨(i 1).val, lt4 i⟩ (wS xs ⟨(i 1).val, lt4 i⟩)))

variable (n1 n2 : ℕ) (hn1 : n1 = (k0_t1_loop i).trips) (hn2 : n2 = (k0_t2_loop i).trips)

include hinit hG hn1 hn2 in
/-- The sums when both loops have ended: the second makes no trip. -/
theorem loop_end :
    (st_k0_t2 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v108 X2 X3 X4 X5 G2 (st_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 G init n1).1 n2).1
      = endC (arg2.view.read (Elt F) X2) (arg3.view.read (Elt F) X3) (arg4.view.read (Elt F) X4) (arg5.view.read (Elt F) X5) x4 x5 ⟨(i 1).val, lt4 i⟩ xs := by
  subst hn1 hn2
  rw [trips2 i]
  refine (st_eq 𝒱 c bd i arg2 harg2 arg3 harg3 arg4 harg4 arg5 harg5 arg6 harg6 arg7 harg7 arg8 harg8 arg9 harg9 arg10 harg10 arg11 harg11 arg12 harg12 x4 x5 arg1 v10 v12 v14 v36 v50 v51 v54 v55 v56 v71 v82 v103 X2 X3 X4 X5 G init xs hinit hG _ (Nat.le_refl _)).1.trans ?_
  rw [trips1 i]
  exact rfl

include hinit hG hn1 hn2 in
/-- The accumulator when both loops have ended. -/
theorem loop_acc (G' : BufTy.Contents (Elt F) arg12.view.ty) (hG' : arg12.view.read (Elt F) G' = arg12.view.read (Elt F) G) :
    arg12.view.read (Elt F) (arg12.view.writes (Elt F) G' ((st_k0_t2 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v108 X2 X3 X4 X5 G2 (st_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 G init n1).1 n2).2
        ++ (st_k0_t1 (F := F) 𝒱 c bd i arg2 harg2 arg3 harg3 arg4 harg4 arg5 harg5 arg6 harg6 arg7 harg7 arg8 harg8 arg9 harg9 arg10 harg10 arg11 harg11 arg12 harg12 arg1 k0_pay30 (k0_pay32 x4) (k0_pay33 x5) v10 v12 v14 v36 v50 v51 v54 v55 v56 v71 v82 v103 X2 X3 X4 X5 G init n1).2))
      = endS (arg2.view.read (Elt F) X2) (arg3.view.read (Elt F) X3) (arg4.view.read (Elt F) X4) (arg5.view.read (Elt F) X5) x4 x5 ⟨(i 1).val, lt4 i⟩ xs := by
  subst hn1 hn2
  rw [trips2 i]
  refine (read_writes_congr _ _ _ _ _ hG').trans ?_
  refine (st_eq 𝒱 c bd i arg2 harg2 arg3 harg3 arg4 harg4 arg5 harg5 arg6 harg6 arg7 harg7 arg8 harg8 arg9 harg9 arg10 harg10 arg11 harg11 arg12 harg12 x4 x5 arg1 v10 v12 v14 v36 v50 v51 v54 v55 v56 v71 v82 v103 X2 X3 X4 X5 G init xs hinit hG _ (Nat.le_refl _)).2.trans ?_
  rw [trips1 i]
  exact rfl

end Ends

end Cert.KernelIdeal.Attn

end
-- ==== Proof.Diag.lean ====
module

public import proofs.«01_k».proof.Proof.Ends

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

variable (i : grid0.Coords) (arg2 : Memref sig .tc .vmem S4096x256 .bf16) (arg3 : Memref sig .tc .vmem S4096x128 .bf16) (arg4 : Memref sig .tc .vmem S2x4096x1 .f32) (arg5 : Memref sig .tc .vmem S2x4096x1 .f32)
  (x4 : Vec F S1024x256 .bf16) (x5 : Vec F S1024x128 .bf16)
  (X2 : BufTy.Contents (Elt F) arg2.view.ty) (X3 : BufTy.Contents (Elt F) arg3.view.ty) (X4 : BufTy.Contents (Elt F) arg4.view.ty) (X5 : BufTy.Contents (Elt F) arg5.view.ty)

/-- The second head's gradient of the scores on the diagonal block, read at the blocks. -/
theorem diag_ds : (k0_pay52 k0_pay30 (k0_pay32 x4) (k0_pay33 x5) (k0_pay37 (View.readAt (Elt F) arg2.view ((Rect.unit (k0_off1 i) S1024x256.size (k0_off1_inb i) : Rect S4096x256)).toLoadRect X2)) (View.readAt (Elt F) arg3.view ((Rect.unit (k0_off2 i) S1024x128.size (k0_off2_inb i) : Rect S4096x128)).toLoadRect X3) (View.readAt (Elt F) arg4.view ((Rect.unit (k0_off4 i) S1x1024x1.size (k0_off4_inb i) : Rect S2x4096x1)).toLoadRect X4) (View.readAt (Elt F) arg5.view ((Rect.unit (k0_off4 i) S1x1024x1.size (k0_off4_inb i) : Rect S2x4096x1)).toLoadRect X5)) = diagDs (arg2.view.read (Elt F) X2) (arg3.view.read (Elt F) X3) (arg4.view.read (Elt F) X4) (arg5.view.read (Elt F) X5) x4 x5 ⟨(i 1).val, lt4 i⟩ := by
  unfold diagDs
  have e2 : wQ (arg2.view.read (Elt F) X2) ⟨(i 1).val, lt4 i⟩ = _ := (View.readAt_unit arg2.view X2 (k0_off1_inb i) (off1_eq i) (inbQ ⟨(i 1).val, lt4 i⟩)).symm
  have e3 : wD (arg3.view.read (Elt F) X3) ⟨(i 1).val, lt4 i⟩ = _ := (View.readAt_unit arg3.view X3 (k0_off2_inb i) (off2_eq i) (inbD ⟨(i 1).val, lt4 i⟩)).symm
  have e4 : wL (arg4.view.read (Elt F) X4) 0 ⟨(i 1).val, lt4 i⟩ = _ := (View.readAt_unit arg4.view X4 (k0_off3_inb i) (off3_eq i) (inbL 0 ⟨(i 1).val, lt4 i⟩)).symm
  have e5 : wL (arg5.view.read (Elt F) X5) 0 ⟨(i 1).val, lt4 i⟩ = _ := (View.readAt_unit arg5.view X5 (k0_off3_inb i) (off3_eq i) (inbL 0 ⟨(i 1).val, lt4 i⟩)).symm
  have e6 : wL (arg4.view.read (Elt F) X4) 1 ⟨(i 1).val, lt4 i⟩ = _ := (View.readAt_unit arg4.view X4 (k0_off4_inb i) (off4_eq i) (inbL 1 ⟨(i 1).val, lt4 i⟩)).symm
  have e7 : wL (arg5.view.read (Elt F) X5) 1 ⟨(i 1).val, lt4 i⟩ = _ := (View.readAt_unit arg5.view X5 (k0_off4_inb i) (off4_eq i) (inbL 1 ⟨(i 1).val, lt4 i⟩)).symm
  rw [e2, e3, e6, e7]

/-- The sums of the diagonal block, read at the blocks. -/
theorem diag_init :
    ((k0_pay45 k0_pay30 (k0_pay33 x5) k0_pay34 (View.readAt (Elt F) arg3.view ((Rect.unit (k0_off2 i) S1024x128.size (k0_off2_inb i) : Rect S4096x128)).toLoadRect X3) (k0_pay38 (View.readAt (Elt F) arg2.view ((Rect.unit (k0_off1 i) S1024x256.size (k0_off1_inb i) : Rect S4096x256)).toLoadRect X2)) (k0_pay40 x4 (View.readAt (Elt F) arg2.view ((Rect.unit (k0_off1 i) S1024x256.size (k0_off1_inb i) : Rect S4096x256)).toLoadRect X2) (View.readAt (Elt F) arg4.view ((Rect.unit (k0_off3 i) S1x1024x1.size (k0_off3_inb i) : Rect S2x4096x1)).toLoadRect X4)) k0_pay42 (View.readAt (Elt F) arg5.view ((Rect.unit (k0_off3 i) S1x1024x1.size (k0_off3_inb i) : Rect S2x4096x1)).toLoadRect X5),
      k0_pay41 x4 (View.readAt (Elt F) arg2.view ((Rect.unit (k0_off1 i) S1024x256.size (k0_off1_inb i) : Rect S4096x256)).toLoadRect X2) (View.readAt (Elt F) arg3.view ((Rect.unit (k0_off2 i) S1024x128.size (k0_off2_inb i) : Rect S4096x128)).toLoadRect X3) (View.readAt (Elt F) arg4.view ((Rect.unit (k0_off3 i) S1x1024x1.size (k0_off3_inb i) : Rect S2x4096x1)).toLoadRect X4),
      k0_pay47 k0_pay30 (k0_pay33 x5) k0_pay36 (View.readAt (Elt F) arg3.view ((Rect.unit (k0_off2 i) S1024x128.size (k0_off2_inb i) : Rect S4096x128)).toLoadRect X3) (k0_pay40 x4 (View.readAt (Elt F) arg2.view ((Rect.unit (k0_off1 i) S1024x256.size (k0_off1_inb i) : Rect S4096x256)).toLoadRect X2) (View.readAt (Elt F) arg4.view ((Rect.unit (k0_off3 i) S1x1024x1.size (k0_off3_inb i) : Rect S2x4096x1)).toLoadRect X4)) k0_pay42 (View.readAt (Elt F) arg5.view ((Rect.unit (k0_off3 i) S1x1024x1.size (k0_off3_inb i) : Rect S2x4096x1)).toLoadRect X5),
      k0_pay54 k0_pay34 (k0_pay48 (k0_pay37 (View.readAt (Elt F) arg2.view ((Rect.unit (k0_off1 i) S1024x256.size (k0_off1_inb i) : Rect S4096x256)).toLoadRect X2))) (k0_pay52 k0_pay30 (k0_pay32 x4) (k0_pay33 x5) (k0_pay37 (View.readAt (Elt F) arg2.view ((Rect.unit (k0_off1 i) S1024x256.size (k0_off1_inb i) : Rect S4096x256)).toLoadRect X2)) (View.readAt (Elt F) arg3.view ((Rect.unit (k0_off2 i) S1024x128.size (k0_off2_inb i) : Rect S4096x128)).toLoadRect X3) (View.readAt (Elt F) arg4.view ((Rect.unit (k0_off4 i) S1x1024x1.size (k0_off4_inb i) : Rect S2x4096x1)).toLoadRect X4) (View.readAt (Elt F) arg5.view ((Rect.unit (k0_off4 i) S1x1024x1.size (k0_off4_inb i) : Rect S2x4096x1)).toLoadRect X5)),
      k0_pay51 (k0_pay32 x4) k0_pay35 (k0_pay37 (View.readAt (Elt F) arg2.view ((Rect.unit (k0_off1 i) S1024x256.size (k0_off1_inb i) : Rect S4096x256)).toLoadRect X2)) (View.readAt (Elt F) arg3.view ((Rect.unit (k0_off2 i) S1024x128.size (k0_off2_inb i) : Rect S4096x128)).toLoadRect X3) (View.readAt (Elt F) arg4.view ((Rect.unit (k0_off4 i) S1x1024x1.size (k0_off4_inb i) : Rect S2x4096x1)).toLoadRect X4),
      k0_pay55 k0_pay36 (k0_pay52 k0_pay30 (k0_pay32 x4) (k0_pay33 x5) (k0_pay37 (View.readAt (Elt F) arg2.view ((Rect.unit (k0_off1 i) S1024x256.size (k0_off1_inb i) : Rect S4096x256)).toLoadRect X2)) (View.readAt (Elt F) arg3.view ((Rect.unit (k0_off2 i) S1024x128.size (k0_off2_inb i) : Rect S4096x128)).toLoadRect X3) (View.readAt (Elt F) arg4.view ((Rect.unit (k0_off4 i) S1x1024x1.size (k0_off4_inb i) : Rect S2x4096x1)).toLoadRect X4) (View.readAt (Elt F) arg5.view ((Rect.unit (k0_off4 i) S1x1024x1.size (k0_off4_inb i) : Rect S2x4096x1)).toLoadRect X5))) : Carr F) = diagC (arg2.view.read (Elt F) X2) (arg3.view.read (Elt F) X3) (arg4.view.read (Elt F) X4) (arg5.view.read (Elt F) X5) x4 x5 ⟨(i 1).val, lt4 i⟩ := by
  rw [diag_ds]
  unfold diagC
  have e2 : wQ (arg2.view.read (Elt F) X2) ⟨(i 1).val, lt4 i⟩ = _ := (View.readAt_unit arg2.view X2 (k0_off1_inb i) (off1_eq i) (inbQ ⟨(i 1).val, lt4 i⟩)).symm
  have e3 : wD (arg3.view.read (Elt F) X3) ⟨(i 1).val, lt4 i⟩ = _ := (View.readAt_unit arg3.view X3 (k0_off2_inb i) (off2_eq i) (inbD ⟨(i 1).val, lt4 i⟩)).symm
  have e4 : wL (arg4.view.read (Elt F) X4) 0 ⟨(i 1).val, lt4 i⟩ = _ := (View.readAt_unit arg4.view X4 (k0_off3_inb i) (off3_eq i) (inbL 0 ⟨(i 1).val, lt4 i⟩)).symm
  have e5 : wL (arg5.view.read (Elt F) X5) 0 ⟨(i 1).val, lt4 i⟩ = _ := (View.readAt_unit arg5.view X5 (k0_off3_inb i) (off3_eq i) (inbL 0 ⟨(i 1).val, lt4 i⟩)).symm
  have e6 : wL (arg4.view.read (Elt F) X4) 1 ⟨(i 1).val, lt4 i⟩ = _ := (View.readAt_unit arg4.view X4 (k0_off4_inb i) (off4_eq i) (inbL 1 ⟨(i 1).val, lt4 i⟩)).symm
  have e7 : wL (arg5.view.read (Elt F) X5) 1 ⟨(i 1).val, lt4 i⟩ = _ := (View.readAt_unit arg5.view X5 (k0_off4_inb i) (off4_eq i) (inbL 1 ⟨(i 1).val, lt4 i⟩)).symm
  rw [e2, e3, e4, e5, e6]

/-- What the diagonal block leaves of the accumulator's block, read at the blocks. -/
theorem diag_store (old : Vec F S1024x128 .f32) :
    (k0_pay56 k0_pay30 (k0_pay46 k0_pay30 (k0_pay33 x5) (View.readAt (Elt F) arg3.view ((Rect.unit (k0_off2 i) S1024x128.size (k0_off2_inb i) : Rect S4096x128)).toLoadRect X3) (k0_pay39 x4) (k0_pay40 x4 (View.readAt (Elt F) arg2.view ((Rect.unit (k0_off1 i) S1024x256.size (k0_off1_inb i) : Rect S4096x256)).toLoadRect X2) (View.readAt (Elt F) arg4.view ((Rect.unit (k0_off3 i) S1x1024x1.size (k0_off3_inb i) : Rect S2x4096x1)).toLoadRect X4)) k0_pay42 (View.readAt (Elt F) arg5.view ((Rect.unit (k0_off3 i) S1x1024x1.size (k0_off3_inb i) : Rect S2x4096x1)).toLoadRect X5)) (k0_pay49 (k0_pay32 x4)) (k0_pay52 k0_pay30 (k0_pay32 x4) (k0_pay33 x5) (k0_pay37 (View.readAt (Elt F) arg2.view ((Rect.unit (k0_off1 i) S1024x256.size (k0_off1_inb i) : Rect S4096x256)).toLoadRect X2)) (View.readAt (Elt F) arg3.view ((Rect.unit (k0_off2 i) S1024x128.size (k0_off2_inb i) : Rect S4096x128)).toLoadRect X3) (View.readAt (Elt F) arg4.view ((Rect.unit (k0_off4 i) S1x1024x1.size (k0_off4_inb i) : Rect S2x4096x1)).toLoadRect X4) (View.readAt (Elt F) arg5.view ((Rect.unit (k0_off4 i) S1x1024x1.size (k0_off4_inb i) : Rect S2x4096x1)).toLoadRect X5)) old : Vec F S1024x128 .f32)
      = diagS (arg2.view.read (Elt F) X2) (arg3.view.read (Elt F) X3) (arg4.view.read (Elt F) X4) (arg5.view.read (Elt F) X5) x4 x5 ⟨(i 1).val, lt4 i⟩ old := by
  rw [diag_ds]
  unfold diagS
  have e2 : wQ (arg2.view.read (Elt F) X2) ⟨(i 1).val, lt4 i⟩ = _ := (View.readAt_unit arg2.view X2 (k0_off1_inb i) (off1_eq i) (inbQ ⟨(i 1).val, lt4 i⟩)).symm
  have e3 : wD (arg3.view.read (Elt F) X3) ⟨(i 1).val, lt4 i⟩ = _ := (View.readAt_unit arg3.view X3 (k0_off2_inb i) (off2_eq i) (inbD ⟨(i 1).val, lt4 i⟩)).symm
  have e4 : wL (arg4.view.read (Elt F) X4) 0 ⟨(i 1).val, lt4 i⟩ = _ := (View.readAt_unit arg4.view X4 (k0_off3_inb i) (off3_eq i) (inbL 0 ⟨(i 1).val, lt4 i⟩)).symm
  have e5 : wL (arg5.view.read (Elt F) X5) 0 ⟨(i 1).val, lt4 i⟩ = _ := (View.readAt_unit arg5.view X5 (k0_off3_inb i) (off3_eq i) (inbL 0 ⟨(i 1).val, lt4 i⟩)).symm
  have e6 : wL (arg4.view.read (Elt F) X4) 1 ⟨(i 1).val, lt4 i⟩ = _ := (View.readAt_unit arg4.view X4 (k0_off4_inb i) (off4_eq i) (inbL 1 ⟨(i 1).val, lt4 i⟩)).symm
  have e7 : wL (arg5.view.read (Elt F) X5) 1 ⟨(i 1).val, lt4 i⟩ = _ := (View.readAt_unit arg5.view X5 (k0_off4_inb i) (off4_eq i) (inbL 1 ⟨(i 1).val, lt4 i⟩)).symm
  rw [e2, e3, e4, e5]

/-- The accumulator after the diagonal block's store. -/
theorem diag_acc (arg12 : Memref sig .tc .vmem S4096x128 .f32) (f g : BufTy.Contents (Elt F) arg12.view.ty) (L : List (View.Piece (Elt F) S4096x128 .f32)) (xs : Vec F S4096x128 .f32)
    (hf : arg12.view.read (Elt F) f = xs) (hg : arg12.view.read (Elt F) (arg12.view.writes (Elt F) g L) = xs) :
    arg12.view.read (Elt F) (arg12.view.writes (Elt F) g (⟨(Rect.unit (k0_off2 i) S1024x128.size (k0_off2_inb i) : Rect S4096x128),
        k0_pay56 k0_pay30 (k0_pay46 k0_pay30 (k0_pay33 x5) (View.readAt (Elt F) arg3.view ((Rect.unit (k0_off2 i) S1024x128.size (k0_off2_inb i) : Rect S4096x128)).toLoadRect X3) (k0_pay39 x4) (k0_pay40 x4 (View.readAt (Elt F) arg2.view ((Rect.unit (k0_off1 i) S1024x256.size (k0_off1_inb i) : Rect S4096x256)).toLoadRect X2) (View.readAt (Elt F) arg4.view ((Rect.unit (k0_off3 i) S1x1024x1.size (k0_off3_inb i) : Rect S2x4096x1)).toLoadRect X4)) k0_pay42 (View.readAt (Elt F) arg5.view ((Rect.unit (k0_off3 i) S1x1024x1.size (k0_off3_inb i) : Rect S2x4096x1)).toLoadRect X5)) (k0_pay49 (k0_pay32 x4)) (k0_pay52 k0_pay30 (k0_pay32 x4) (k0_pay33 x5) (k0_pay37 (View.readAt (Elt F) arg2.view ((Rect.unit (k0_off1 i) S1024x256.size (k0_off1_inb i) : Rect S4096x256)).toLoadRect X2)) (View.readAt (Elt F) arg3.view ((Rect.unit (k0_off2 i) S1024x128.size (k0_off2_inb i) : Rect S4096x128)).toLoadRect X3) (View.readAt (Elt F) arg4.view ((Rect.unit (k0_off4 i) S1x1024x1.size (k0_off4_inb i) : Rect S2x4096x1)).toLoadRect X4) (View.readAt (Elt F) arg5.view ((Rect.unit (k0_off4 i) S1x1024x1.size (k0_off4_inb i) : Rect S2x4096x1)).toLoadRect X5))
          (View.readAt (Elt F) arg12.view (Rect.unit (k0_off2 i) S1024x128.size (k0_off2_inb i) : Rect S4096x128).toLoadRect f)⟩ :: L))
      = putS xs ⟨(i 1).val, lt4 i⟩ (diagS (arg2.view.read (Elt F) X2) (arg3.view.read (Elt F) X3) (arg4.view.read (Elt F) X4) (arg5.view.read (Elt F) X5) x4 x5 ⟨(i 1).val, lt4 i⟩ (wS xs ⟨(i 1).val, lt4 i⟩)) := by
  refine (View.read_writes_cons_put arg12.view g (k0_off2_inb i) _ L (off2_eq i)).trans ?_
  rw [hg, diag_store, View.readAt_unit arg12.view f (k0_off2_inb i) (off2_eq i) (inbD ⟨(i 1).val, lt4 i⟩), hf]
  exact rfl

end Cert.KernelIdeal.Attn

end
-- ==== Proof.RunA.lean ====
module

public import proofs.«01_k».proof.Proof.Model

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The body at a grid point of case A. -/
noncomputable def runA (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole) (hc0 : cond0_0 i) (hc1 : ¬cond0_1 i)
    (x0 : Vec F S4096x256 .bf16) (x1 : Vec F S4096x128 .bf16) (x2 : Vec F S2x4096x1 .f32) (x3 : Vec F S2x4096x1 .f32) (x4 : Vec F S1024x256 .bf16) (x5 : Vec F S1024x128 .bf16) (xs : Vec F S4096x128 .f32) :
    Σ' (L7 : List (View.Piece (Elt F) S1024x128 .bf16)), Σ' (L8 : List (View.Piece (Elt F) S1024x128 .bf16)), Σ' (L9 : List (View.Piece (Elt F) S2x1x1x1024 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS)) -∗ K ⟨⟩))
          ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H7]; · iexists _; iexact H7
    isplitl [H8]; · iexists _; iexact H8
    isplitl [H9]; · iexists _; iexact H9
    iexists _; iexact HS

end Cert.KernelIdeal.Attn

end
-- ==== Proof.CaseA.lean ====
module

public import proofs.«01_k».proof.Proof.Diag
public import proofs.«01_k».proof.Proof.RunA

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

set_option maxHeartbeats 2000000 in
/-- What the body leaves at a grid point of case A is the model's. -/
theorem factsA (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole) (hc0 : cond0_0 i) (hc1 : ¬cond0_1 i)
    (x0 : Vec F S4096x256 .bf16) (x1 : Vec F S4096x128 .bf16) (x2 : Vec F S2x4096x1 .f32) (x3 : Vec F S2x4096x1 .f32) (x4 : Vec F S1024x256 .bf16) (x5 : Vec F S1024x128 .bf16) (xs : Vec F S4096x128 .f32) :
    (∀ f, arg9.view.read (Elt F) (arg9.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 xs).1) = outK (endC x0 x1 x2 x3 x4 x5 ⟨(i 1).val, lt4 i⟩ k0_pay31))
    ∧ (∀ f, arg10.view.read (Elt F) (arg10.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 xs).2.1) = outV (endC x0 x1 x2 x3 x4 x5 ⟨(i 1).val, lt4 i⟩ k0_pay31))
    ∧ (∀ f, arg11.view.read (Elt F) (arg11.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 xs).2.2.1) = outC (endC x0 x1 x2 x3 x4 x5 ⟨(i 1).val, lt4 i⟩ k0_pay31))
    ∧ (∀ f, arg12.view.read (Elt F) (arg12.view.writes (Elt F) f (runA c i arg2 harg2 arg3 harg3 arg4 harg4 arg5 harg5 arg6 harg6 arg7 harg7 arg8 harg8 arg9 harg9 arg10 harg10 arg11 harg11 arg12 harg12 hc0 hc1 x0 x1 x2 x3 x4 x5 xs).2.2.2.1) = endS x0 x1 x2 x3 x4 x5 ⟨(i 1).val, lt4 i⟩ k0_pay31) := by
  unfold runA
  dsimp only
  sl_unfold_words
  refine ⟨fun f => ?_, fun f => ?_, fun f => ?_, ?_⟩
  · rw [View.read_writes_full]
    refine outK_of _ _ ?_
    refine (loop_end (xs := k0_pay31) (hinit := ?h1) (hG := ?h2) (hn1 := ?h3) (hn2 := ?h4) ..).trans ?_
    case h1 => exact diag_init ..
    case h2 => exact diag_acc (hf := View.read_writes_full _ _ _ _ _) (hg := View.read_writes_full _ _ _ _ _) ..
    case h3 => exact rfl
    case h4 => exact rfl
    rw [View.readAt_full, View.readAt_full, harg2.read_unread, harg3.read_unread, harg4.read_unread, harg5.read_unread, harg6.read_unread, harg7.read_unread]
  · rw [View.read_writes_full]
    refine outV_of _ _ ?_
    refine (loop_end (xs := k0_pay31) (hinit := ?h1) (hG := ?h2) (hn1 := ?h3) (hn2 := ?h4) ..).trans ?_
    case h1 => exact diag_init ..
    case h2 => exact diag_acc (hf := View.read_writes_full _ _ _ _ _) (hg := View.read_writes_full _ _ _ _ _) ..
    case h3 => exact rfl
    case h4 => exact rfl
    rw [View.readAt_full, View.readAt_full, harg2.read_unread, harg3.read_unread, harg4.read_unread, harg5.read_unread, harg6.read_unread, harg7.read_unread]
  · refine outC_of arg11.view f _ _ ?_
    refine (loop_end (xs := k0_pay31) (hinit := ?h1) (hG := ?h2) (hn1 := ?h3) (hn2 := ?h4) ..).trans ?_
    case h1 => exact diag_init ..
    case h2 => exact diag_acc (hf := View.read_writes_full _ _ _ _ _) (hg := View.read_writes_full _ _ _ _ _) ..
    case h3 => exact rfl
    case h4 => exact rfl
    rw [View.readAt_full, View.readAt_full, harg2.read_unread, harg3.read_unread, harg4.read_unread, harg5.read_unread, harg6.read_unread, harg7.read_unread]
  · intro f
    rw [← List.append_assoc, View.writes_append]
    refine (loop_acc (xs := k0_pay31) (hinit := ?h1) (hG := ?h2) (hn1 := ?h3) (hn2 := ?h4) (hG' := ?h5) ..).trans ?_
    case h1 => exact diag_init ..
    case h2 => exact diag_acc (hf := View.read_writes_full _ _ _ _ _) (hg := View.read_writes_full _ _ _ _ _) ..
    case h3 => exact rfl
    case h4 => exact rfl
    case h5 => exact forget_under ..
    rw [View.readAt_full, View.readAt_full, harg2.read_unread, harg3.read_unread, harg4.read_unread, harg5.read_unread, harg6.read_unread, harg7.read_unread]

end Cert.KernelIdeal.Attn

end
-- ==== Proof.RunB.lean ====
module

public import proofs.«01_k».proof.Proof.Model

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The body at a grid point of case B. -/
noncomputable def runB (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole) (hc0 : ¬cond0_0 i) (hc1 : ¬cond0_1 i)
    (x0 : Vec F S4096x256 .bf16) (x1 : Vec F S4096x128 .bf16) (x2 : Vec F S2x4096x1 .f32) (x3 : Vec F S2x4096x1 .f32) (x4 : Vec F S1024x256 .bf16) (x5 : Vec F S1024x128 .bf16) (xs : Vec F S4096x128 .f32) :
    Σ' (L7 : List (View.Piece (Elt F) S1024x128 .bf16)), Σ' (L8 : List (View.Piece (Elt F) S1024x128 .bf16)), Σ' (L9 : List (View.Piece (Elt F) S2x1x1x1024 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs) LS)) -∗ K ⟨⟩))
          ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H7]; · iexists _; iexact H7
    isplitl [H8]; · iexists _; iexact H8
    isplitl [H9]; · iexists _; iexact H9
    iexact HS

end Cert.KernelIdeal.Attn

end
-- ==== Proof.CaseB.lean ====
module

public import proofs.«01_k».proof.Proof.Diag
public import proofs.«01_k».proof.Proof.RunB

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

set_option maxHeartbeats 2000000 in
/-- What the body leaves at a grid point of case B is the model's. -/
theorem factsB (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole) (hc0 : ¬cond0_0 i) (hc1 : ¬cond0_1 i)
    (x0 : Vec F S4096x256 .bf16) (x1 : Vec F S4096x128 .bf16) (x2 : Vec F S2x4096x1 .f32) (x3 : Vec F S2x4096x1 .f32) (x4 : Vec F S1024x256 .bf16) (x5 : Vec F S1024x128 .bf16) (xs : Vec F S4096x128 .f32) :
    (∀ f, arg9.view.read (Elt F) (arg9.view.writes (Elt F) f (runB c i arg2 harg2 arg3 harg3 arg4 harg4 arg5 harg5 arg6 harg6 arg7 harg7 arg8 harg8 arg9 harg9 arg10 harg10 arg11 harg11 arg12 harg12 hc0 hc1 x0 x1 x2 x3 x4 x5 xs).1) = outK (endC x0 x1 x2 x3 x4 x5 ⟨(i 1).val, lt4 i⟩ xs))
    ∧ (∀ f, arg10.view.read (Elt F) (arg10.view.writes (Elt F) f (runB c i arg2 harg2 arg3 harg3 arg4 harg4 arg5 harg5 arg6 harg6 arg7 harg7 arg8 harg8 arg9 harg9 arg10 harg10 arg11 harg11 arg12 harg12 hc0 hc1 x0 x1 x2 x3 x4 x5 xs).2.1) = outV (endC x0 x1 x2 x3 x4 x5 ⟨(i 1).val, lt4 i⟩ xs))
    ∧ (∀ f, arg11.view.read (Elt F) (arg11.view.writes (Elt F) f (runB c i arg2 harg2 arg3 harg3 arg4 harg4 arg5 harg5 arg6 harg6 arg7 harg7 arg8 harg8 arg9 harg9 arg10 harg10 arg11 harg11 arg12 harg12 hc0 hc1 x0 x1 x2 x3 x4 x5 xs).2.2.1) = outC (endC x0 x1 x2 x3 x4 x5 ⟨(i 1).val, lt4 i⟩ xs))
    ∧ (arg12.view.read (Elt F) (arg12.view.writes (Elt F) (harg12.unread xs) (runB c i arg2 harg2 arg3 harg3 arg4 harg4 arg5 harg5 arg6 harg6 arg7 harg7 arg8 harg8 arg9 harg9 arg10 harg10 arg11 harg11 arg12 harg12 hc0 hc1 x0 x1 x2 x3 x4 x5 xs).2.2.2.1) = endS x0 x1 x2 x3 x4 x5 ⟨(i 1).val, lt4 i⟩ xs) := by
  unfold runB
  dsimp only
  sl_unfold_words
  refine ⟨fun f => ?_, fun f => ?_, fun f => ?_, ?_⟩
  · rw [View.read_writes_full]
    refine outK_of _ _ ?_
    refine (loop_end (xs := xs) (hinit := ?h1) (hG := ?h2) (hn1 := ?h3) (hn2 := ?h4) ..).trans ?_
    case h1 => exact diag_init ..
    case h2 => exact diag_acc (hf := harg12.read_unread _) (hg := harg12.read_unread _) ..
    case h3 => exact rfl
    case h4 => exact rfl
    rw [View.readAt_full, View.readAt_full, harg2.read_unread, harg3.read_unread, harg4.read_unread, harg5.read_unread, harg6.read_unread, harg7.read_unread]
  · rw [View.read_writes_full]
    refine outV_of _ _ ?_
    refine (loop_end (xs := xs) (hinit := ?h1) (hG := ?h2) (hn1 := ?h3) (hn2 := ?h4) ..).trans ?_
    case h1 => exact diag_init ..
    case h2 => exact diag_acc (hf := harg12.read_unread _) (hg := harg12.read_unread _) ..
    case h3 => exact rfl
    case h4 => exact rfl
    rw [View.readAt_full, View.readAt_full, harg2.read_unread, harg3.read_unread, harg4.read_unread, harg5.read_unread, harg6.read_unread, harg7.read_unread]
  · refine outC_of arg11.view f _ _ ?_
    refine (loop_end (xs := xs) (hinit := ?h1) (hG := ?h2) (hn1 := ?h3) (hn2 := ?h4) ..).trans ?_
    case h1 => exact diag_init ..
    case h2 => exact diag_acc (hf := harg12.read_unread _) (hg := harg12.read_unread _) ..
    case h3 => exact rfl
    case h4 => exact rfl
    rw [View.readAt_full, View.readAt_full, harg2.read_unread, harg3.read_unread, harg4.read_unread, harg5.read_unread, harg6.read_unread, harg7.read_unread]
  · skip
    rw [← List.append_assoc, View.writes_append]
    refine (loop_acc (xs := xs) (hinit := ?h1) (hG := ?h2) (hn1 := ?h3) (hn2 := ?h4) (hG' := ?h5) ..).trans ?_
    case h1 => exact diag_init ..
    case h2 => exact diag_acc (hf := harg12.read_unread _) (hg := harg12.read_unread _) ..
    case h3 => exact rfl
    case h4 => exact rfl
    case h5 => exact rfl
    rw [View.readAt_full, View.readAt_full, harg2.read_unread, harg3.read_unread, harg4.read_unread, harg5.read_unread, harg6.read_unread, harg7.read_unread]

end Cert.KernelIdeal.Attn

end
-- ==== Proof.RunC.lean ====
module

public import proofs.«01_k».proof.Proof.Model

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The body at a grid point of case C. -/
noncomputable def runC (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole) (hc0 : ¬cond0_0 i) (hc1 : cond0_1 i)
    (x0 : Vec F S4096x256 .bf16) (x1 : Vec F S4096x128 .bf16) (x2 : Vec F S2x4096x1 .f32) (x3 : Vec F S2x4096x1 .f32) (x4 : Vec F S1024x256 .bf16) (x5 : Vec F S1024x128 .bf16) (xs : Vec F S4096x128 .f32) :
    Σ' (L6 : List (View.Piece (Elt F) S4096x128 .bf16)), Σ' (L7 : List (View.Piece (Elt F) S1024x128 .bf16)), Σ' (L8 : List (View.Piece (Elt F) S1024x128 .bf16)), Σ' (L9 : List (View.Piece (Elt F) S2x1x1x1024 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs) LS)) -∗ K ⟨⟩))
          ⊢ wp frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_attn_bwd_eq_skeleton]; unfold cc0_attn_bwd_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexact HS

end Cert.KernelIdeal.Attn

end
-- ==== Proof.CaseC.lean ====
module

public import proofs.«01_k».proof.Proof.Diag
public import proofs.«01_k».proof.Proof.RunC

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

set_option maxHeartbeats 2000000 in
/-- What the body leaves at a grid point of case C is the model's. -/
theorem factsC (c : Dev nD) (i : grid0.Coords) (arg2 : Memref sig .tc .vmem S4096x256 .bf16) (harg2 : arg2.IsWhole) (arg3 : Memref sig .tc .vmem S4096x128 .bf16) (harg3 : arg3.IsWhole) (arg4 : Memref sig .tc .vmem S2x4096x1 .f32) (harg4 : arg4.IsWhole) (arg5 : Memref sig .tc .vmem S2x4096x1 .f32) (harg5 : arg5.IsWhole) (arg6 : Memref sig .tc .vmem S1024x256 .bf16) (harg6 : arg6.IsWhole) (arg7 : Memref sig .tc .vmem S1024x128 .bf16) (harg7 : arg7.IsWhole) (arg8 : Memref sig .tc .vmem S4096x128 .bf16) (harg8 : arg8.IsWhole) (arg9 : Memref sig .tc .vmem S1024x128 .bf16) (harg9 : arg9.IsWhole) (arg10 : Memref sig .tc .vmem S1024x128 .bf16) (harg10 : arg10.IsWhole) (arg11 : Memref sig .tc .vmem S2x1x1x1024 .f32) (harg11 : arg11.IsWhole) (arg12 : Memref sig .tc .vmem S4096x128 .f32) (harg12 : arg12.IsWhole) (hc0 : ¬cond0_0 i) (hc1 : cond0_1 i)
    (x0 : Vec F S4096x256 .bf16) (x1 : Vec F S4096x128 .bf16) (x2 : Vec F S2x4096x1 .f32) (x3 : Vec F S2x4096x1 .f32) (x4 : Vec F S1024x256 .bf16) (x5 : Vec F S1024x128 .bf16) (xs : Vec F S4096x128 .f32) :
    (∀ f, arg9.view.read (Elt F) (arg9.view.writes (Elt F) f (runC c i arg2 harg2 arg3 harg3 arg4 harg4 arg5 harg5 arg6 harg6 arg7 harg7 arg8 harg8 arg9 harg9 arg10 harg10 arg11 harg11 arg12 harg12 hc0 hc1 x0 x1 x2 x3 x4 x5 xs).2.1) = outK (endC x0 x1 x2 x3 x4 x5 ⟨(i 1).val, lt4 i⟩ xs))
    ∧ (∀ f, arg10.view.read (Elt F) (arg10.view.writes (Elt F) f (runC c i arg2 harg2 arg3 harg3 arg4 harg4 arg5 harg5 arg6 harg6 arg7 harg7 arg8 harg8 arg9 harg9 arg10 harg10 arg11 harg11 arg12 harg12 hc0 hc1 x0 x1 x2 x3 x4 x5 xs).2.2.1) = outV (endC x0 x1 x2 x3 x4 x5 ⟨(i 1).val, lt4 i⟩ xs))
    ∧ (∀ f, arg11.view.read (Elt F) (arg11.view.writes (Elt F) f (runC c i arg2 harg2 arg3 harg3 arg4 harg4 arg5 harg5 arg6 harg6 arg7 harg7 arg8 harg8 arg9 harg9 arg10 harg10 arg11 harg11 arg12 harg12 hc0 hc1 x0 x1 x2 x3 x4 x5 xs).2.2.2.1) = outC (endC x0 x1 x2 x3 x4 x5 ⟨(i 1).val, lt4 i⟩ xs))
    ∧ (arg12.view.read (Elt F) (arg12.view.writes (Elt F) (harg12.unread xs) (runC c i arg2 harg2 arg3 harg3 arg4 harg4 arg5 harg5 arg6 harg6 arg7 harg7 arg8 harg8 arg9 harg9 arg10 harg10 arg11 harg11 arg12 harg12 hc0 hc1 x0 x1 x2 x3 x4 x5 xs).2.2.2.2.1) = endS x0 x1 x2 x3 x4 x5 ⟨(i 1).val, lt4 i⟩ xs)
    ∧ (∀ f, arg8.view.read (Elt F) (arg8.view.writes (Elt F) f (runC c i arg2 harg2 arg3 harg3 arg4 harg4 arg5 harg5 arg6 harg6 arg7 harg7 arg8 harg8 arg9 harg9 arg10 harg10 arg11 harg11 arg12 harg12 hc0 hc1 x0 x1 x2 x3 x4 x5 xs).1) = k0_pay3 (endS x0 x1 x2 x3 x4 x5 ⟨(i 1).val, lt4 i⟩ xs)) := by
  unfold runC
  dsimp only
  sl_unfold_words
  refine ⟨fun f => ?_, fun f => ?_, fun f => ?_, ?_⟩
  · rw [View.read_writes_full]
    refine outK_of _ _ ?_
    refine (loop_end (xs := xs) (hinit := ?h1) (hG := ?h2) (hn1 := ?h3) (hn2 := ?h4) ..).trans ?_
    case h1 => exact diag_init ..
    case h2 => exact diag_acc (hf := harg12.read_unread _) (hg := harg12.read_unread _) ..
    case h3 => exact rfl
    case h4 => exact rfl
    rw [View.readAt_full, View.readAt_full, harg2.read_unread, harg3.read_unread, harg4.read_unread, harg5.read_unread, harg6.read_unread, harg7.read_unread]
  · rw [View.read_writes_full]
    refine outV_of _ _ ?_
    refine (loop_end (xs := xs) (hinit := ?h1) (hG := ?h2) (hn1 := ?h3) (hn2 := ?h4) ..).trans ?_
    case h1 => exact diag_init ..
    case h2 => exact diag_acc (hf := harg12.read_unread _) (hg := harg12.read_unread _) ..
    case h3 => exact rfl
    case h4 => exact rfl
    rw [View.readAt_full, View.readAt_full, harg2.read_unread, harg3.read_unread, harg4.read_unread, harg5.read_unread, harg6.read_unread, harg7.read_unread]
  · refine outC_of arg11.view f _ _ ?_
    refine (loop_end (xs := xs) (hinit := ?h1) (hG := ?h2) (hn1 := ?h3) (hn2 := ?h4) ..).trans ?_
    case h1 => exact diag_init ..
    case h2 => exact diag_acc (hf := harg12.read_unread _) (hg := harg12.read_unread _) ..
    case h3 => exact rfl
    case h4 => exact rfl
    rw [View.readAt_full, View.readAt_full, harg2.read_unread, harg3.read_unread, harg4.read_unread, harg5.read_unread, harg6.read_unread, harg7.read_unread]
  · refine ⟨?_, fun f => ?_⟩
    · skip
      rw [← List.append_assoc, View.writes_append]
      refine (loop_acc (xs := xs) (hinit := ?h1) (hG := ?h2) (hn1 := ?h3) (hn2 := ?h4) (hG' := ?h5) ..).trans ?_
      case h1 => exact diag_init ..
      case h2 => exact diag_acc (hf := harg12.read_unread _) (hg := harg12.read_unread _) ..
      case h3 => exact rfl
      case h4 => exact rfl
      case h5 => exact rfl
      rw [View.readAt_full, View.readAt_full, harg2.read_unread, harg3.read_unread, harg4.read_unread, harg5.read_unread, harg6.read_unread, harg7.read_unread]
    · rw [View.read_writes_full, View.readAt_full]
      refine congrArg k0_pay3 ?_
      rw [← List.append_assoc, View.writes_append]
      refine (loop_acc (xs := xs) (hinit := ?h1) (hG := ?h2) (hn1 := ?h3) (hn2 := ?h4) (hG' := ?h5) ..).trans ?_
      case h1 => exact diag_init ..
      case h2 => exact diag_acc (hf := harg12.read_unread _) (hg := harg12.read_unread _) ..
      case h3 => exact rfl
      case h4 => exact rfl
      case h5 => exact rfl
      rw [View.readAt_full, View.readAt_full, harg2.read_unread, harg3.read_unread, harg4.read_unread, harg5.read_unread, harg6.read_unread, harg7.read_unread]

end Cert.KernelIdeal.Attn

end
-- ==== Proof.Frame.lean ====
module

public import proofs.«01_k».proof.Proof.CaseA
public import proofs.«01_k».proof.Proof.CaseB
public import proofs.«01_k».proof.Proof.CaseC
public import proofs.«01_k».proof.Proof.Gen.KernelIdeal.Frame
public import Idealize.ShloMosaic.Lib.Pipeline.FrameBody
public import Idealize.ShloMosaic.Lib.Claim
public import Idealize.ShloMosaic.Lib.WordCmp

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- The first coordinate of a point is its pair of heads. -/
theorem coords_fst (t : Fin cfg0.N) : (grid0.coords t 0).val = t.val / 4 := by
  have ht : t.val < 16 := Nat.lt_of_lt_of_eq t.isLt N_0
  have e0 : (grid0.coords t 0).val = t.val / 4 % 4 := Pipeline.Grid.coords_val t 0 (by decide) rfl
  omega

/-- The second coordinate of a point is its block of keys. -/
theorem coords_snd (t : Fin cfg0.N) : (grid0.coords t 1).val = t.val % 4 := by
  have e1 : (grid0.coords t 1).val = t.val / 1 % 4 := Pipeline.Grid.coords_val t 1 (by decide) rfl
  omega

/-- The accumulator is cleared at a pair's first block of keys. -/
theorem first_iff : ∀ t : Fin cfg0.N, cond0_0 (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [cond0_0, e1]
    word_cmp
   : ∀ t : Fin grid0.N, cond0_0 (grid0.coords t) ↔ t.val % 4 = 0)

/-- The accumulator is written out at a pair's last block of keys. -/
theorem last_iff : ∀ t : Fin cfg0.N, cond0_1 (grid0.coords t) ↔ t.val % 4 = 3 :=
  (fun t => by
    have ht : t.val < 16 := Nat.lt_of_lt_of_eq t.isLt N_0
    have e1 : (grid0.coords t 1).val = t.val / 1 % 4 := Pipeline.Grid.coords_val t 1 (by decide) rfl
    simp only [cond0_1, k0_cond2, e1]
    word_cmp
   : ∀ t : Fin grid0.N, cond0_1 (grid0.coords t) ↔ t.val % 4 = 3)

/-- Away from the last block of keys the queries' block is left alone, -/
theorem idle_dq : ∀ t : Fin cfg0.N, ¬cond0_1 (grid0.coords t) → cfg0.idle 6 (grid0.coords t) = true := by decide +kernel
/-- and not written back; -/
theorem noFlush_dq : ∀ t : Fin cfg0.N, ¬cond0_1 (grid0.coords t) → (cfg0.win 6).flush t = false := by decide +kernel
/-- at the last block it is stored. -/
theorem live_dq : ∀ t : Fin cfg0.N, cond0_1 (grid0.coords t) → cfg0.idle 6 (grid0.coords t) = false := by decide +kernel

/-- The point's block of keys. -/
abbrev jOf (t : Fin cfg0.N) : Fin 4 := ⟨(grid0.coords t 1).val, lt4 (grid0.coords t)⟩

/-! ## What the buffers hold, point by point -/

/-- The sums at the end of point `t`, the accumulator having held `xs`. -/
def sumsAt (c : Dev nD) (t : Fin cfg0.N) (xs : Vec F S4096x128 .f32) : Carr F :=
  endC (iblk m c 0 t) (iblk m c 1 t) (iblk m c 2 t) (iblk m c 3 t) (iblk m c 4 t) (iblk m c 5 t) (jOf t) xs
/-- The accumulator at the end of point `t`, having held `xs`. -/
def accAt (c : Dev nD) (t : Fin cfg0.N) (xs : Vec F S4096x128 .f32) : Vec F S4096x128 .f32 :=
  endS (iblk m c 0 t) (iblk m c 1 t) (iblk m c 2 t) (iblk m c 3 t) (iblk m c 4 t) (iblk m c 5 t) (jOf t) xs

/-- What the accumulator holds when point `n` starts adding: zeros at a pair's first block of keys, else what the point before left. -/
def scIn (c : Dev nD) : (n : ℕ) → n < cfg0.N → Vec F S4096x128 .f32
  | 0, _ => k0_pay31
  | n + 1, h => if (n + 1) % 4 = 0 then k0_pay31 else accAt m c ⟨n, Nat.lt_of_succ_lt h⟩ (scIn c n (Nat.lt_of_succ_lt h))

theorem scIn_first (c : Dev nD) (n : ℕ) (h : n < cfg0.N) (hn : n % 4 = 0) : scIn m c n h = k0_pay31 := by
  cases n with
  | zero => rfl
  | succ n => exact if_pos hn

theorem scIn_next (c : Dev nD) (n : ℕ) (h : n + 1 < cfg0.N) (hn : ¬(n + 1) % 4 = 0) :
    scIn m c (n + 1) h = accAt m c ⟨n, Nat.lt_of_succ_lt h⟩ (scIn m c n (Nat.lt_of_succ_lt h)) := if_neg hn

/-- The accumulator, whole. -/
abbrev scM : Memref sig .tc .vmem S4096x128 .f32 := Memref.whole cc0_scratch0

/-- What the launch hands over beside the windows: the accumulator at anything, the generator at anything. -/
theorem rest_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

/-- Between points: the accumulator at what the point before left. -/
def PhiS (c : Dev nD) : (n : ℕ) → n ≤ cfg0.N → sProp 𝕄
  | 0, _ => Pipeline.ΦA spec0 c
  | n + 1, hn => iprop(iprop(owns (c : Thread nD τ) scM fullShare (accAt m c ⟨n, hn⟩ (scIn m c n hn))) ∗ (∃ r, prngReg c r))

theorem PhiS_succ (c : Dev nD) (n : ℕ) (hn : n < cfg0.N) :
    PhiS m c (n + 1) hn = iprop(iprop(owns (c : Thread nD τ) scM fullShare (accAt m c ⟨n, hn⟩ (scIn m c n hn))) ∗ (∃ r, prngReg c r)) := rfl

/-- Before a point that adds to what the point before left. -/
theorem PhiS_next (c : Dev nD) (n : ℕ) (h : n < cfg0.N) (hn : ¬n % 4 = 0) :
    PhiS m c n (Nat.le_of_lt h) = iprop(iprop(owns (c : Thread nD τ) scM fullShare (scIn m c n h)) ∗ (∃ r, prngReg c r)) := by
  cases n with
  | zero => exact absurd rfl hn
  | succ n => rw [PhiS_succ, scIn_next m c n h hn]

/-- At any point the accumulator holds something. -/
theorem PhiS_any (c : Dev nD) (n : ℕ) (h : n ≤ cfg0.N) :
    PhiS m c n h ⊢ iprop(iprop((∃ d, owns (c : Thread nD τ) scM fullShare d)) ∗ (∃ r, prngReg c r)) := by
  cases n with
  | zero => rw [show PhiS m c 0 h = Pipeline.ΦA spec0 c from rfl, rest_eq]
  | succ n =>
    rw [PhiS_succ]
    iintro ⟨HS, Hg⟩
    isplitl [HS]
    · iexists _; iexact HS
    iexact Hg

/-- The pipeline's data: each input's buffer at its block, the outputs' at the model's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (accAt m c t (scIn m c t.val t.isLt))
    | ⟨7, _⟩ => outK (sumsAt m c t (scIn m c t.val t.isLt))
    | ⟨8, _⟩ => outV (sumsAt m c t (scIn m c t.val t.isLt))
    | ⟨9, _⟩ => outC (sumsAt m c t (scIn m c t.val t.isLt))
    | ⟨n + 10, h⟩ => absurd h (Nat.not_lt.2 (Nat.le_add_left 10 n))
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay3 (accAt m c t (scIn m c t.val t.isLt)) := by dsimp only [dats]
theorem after_7 (c : Dev nD) (t : Fin cfg0.N) : (dats m 0 c).after 7 t = outK (sumsAt m c t (scIn m c t.val t.isLt)) := by dsimp only [dats]
theorem after_8 (c : Dev nD) (t : Fin cfg0.N) : (dats m 0 c).after 8 t = outV (sumsAt m c t (scIn m c t.val t.isLt)) := by dsimp only [dats]
theorem after_9 (c : Dev nD) (t : Fin cfg0.N) : (dats m 0 c).after 9 t = outC (sumsAt m c t (scIn m c t.val t.isLt)) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
/-- Window 0's current buffer. -/
abbrev ms0 (t : Fin cfg0.N) := win0_0.stage (cfg0.slots t 0)
/-- Window 1's current buffer. -/
abbrev ms1 (t : Fin cfg0.N) := win0_1.stage (cfg0.slots t 1)
/-- Window 2's current buffer. -/
abbrev ms2 (t : Fin cfg0.N) := win0_2.stage (cfg0.slots t 2)
/-- Window 3's current buffer. -/
abbrev ms3 (t : Fin cfg0.N) := win0_3.stage (cfg0.slots t 3)
/-- Window 4's current buffer. -/
abbrev ms4 (t : Fin cfg0.N) := win0_4.stage (cfg0.slots t 4)
/-- Window 5's current buffer. -/
abbrev ms5 (t : Fin cfg0.N) := win0_5.stage (cfg0.slots t 5)
/-- Window 6's current buffer. -/
abbrev ms6 (t : Fin cfg0.N) := win0_6.stage (cfg0.slots t 6)
/-- Window 7's current buffer. -/
abbrev ms7 (t : Fin cfg0.N) := win0_7.stage (cfg0.slots t 7)
/-- Window 8's current buffer. -/
abbrev ms8 (t : Fin cfg0.N) := win0_8.stage (cfg0.slots t 8)
/-- Window 9's current buffer. -/
abbrev ms9 (t : Fin cfg0.N) := win0_9.stage (cfg0.slots t 9)

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after_5]
theorem leaves_7 (c : Dev nD) (t : Fin cfg0.N) : (dats m 0 c).leavesExact 7 t = owns (c : Thread nD τ) (ms7 t) fullShare (outK (sumsAt m c t (scIn m c t.val t.isLt))) := by
  unfold Dat.leavesExact; rw [show cfg0.idle 7 (grid0.coords t) = false from rfl, after_7]
theorem leaves_8 (c : Dev nD) (t : Fin cfg0.N) : (dats m 0 c).leavesExact 8 t = owns (c : Thread nD τ) (ms8 t) fullShare (outV (sumsAt m c t (scIn m c t.val t.isLt))) := by
  unfold Dat.leavesExact; rw [show cfg0.idle 8 (grid0.coords t) = false from rfl, after_8]
theorem leaves_9 (c : Dev nD) (t : Fin cfg0.N) : (dats m 0 c).leavesExact 9 t = owns (c : Thread nD τ) (ms9 t) fullShare (outC (sumsAt m c t (scIn m c t.val t.isLt))) := by
  unfold Dat.leavesExact; rw [show cfg0.idle 9 (grid0.coords t) = false from rfl, after_9]
theorem leaves_6 (c : Dev nD) (t : Fin cfg0.N) (h : cond0_1 (grid0.coords t)) : (dats m 0 c).leavesExact 6 t = owns (c : Thread nD τ) (ms6 t) fullShare (k0_pay3 (accAt m c t (scIn m c t.val t.isLt))) := by
  unfold Dat.leavesExact; rw [live_dq t h, after_6]

set_option maxHeartbeats 2000000 in
/-- The body keeps its contract at a point of case A. -/
theorem sound_A (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, leaves_1, leaves_2, leaves_3, leaves_4, leaves_5, leaves_7, leaves_8, leaves_9]
  rw [Dat.leavesExact_idle (dats m 0 c) 6 t (idle_dq t (fun h => h1 ((last_iff t).mp h))) (noFlush_dq t (fun h => h1 ((last_iff t).mp h)))]
  rw [scIn_first m c t.val t.isLt h0]
  refine (sep_mono_left (PhiS_any m c t.val (Nat.le_of_lt t.isLt))).trans ?_
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) ((first_iff t).mpr h0) (fun h => h1 ((last_iff t).mp h)) (iblk m c 0 t) (iblk m c 1 t) (iblk m c 2 t) (iblk m c 3 t) (iblk m c 4 t) (iblk m c 5 t) ds).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [HS]; · iexact HS
  iintro ⟨H0, H1, H2, H3, H4, H5, ⟨%e7, H7⟩, ⟨%e8, H8⟩, ⟨%e9, H9⟩, ⟨%es, HS⟩⟩
  isplitl [HS Hg]
  · isplitl [HS]
    · unfold owns; iexists _; isplitr
      swap; · iexact HS
      ipureintro; exact (factsA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) ((first_iff t).mpr h0) (fun h => h1 ((last_iff t).mp h)) (iblk m c 0 t) (iblk m c 1 t) (iblk m c 2 t) (iblk m c 3 t) (iblk m c 4 t) (iblk m c 5 t) ds).2.2.2 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact (factsA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) ((first_iff t).mpr h0) (fun h => h1 ((last_iff t).mp h)) (iblk m c 0 t) (iblk m c 1 t) (iblk m c 2 t) (iblk m c 3 t) (iblk m c 4 t) (iblk m c 5 t) ds).1 _
  isplitl [H8]
  · unfold owns; iexists _; isplitr
    swap; · iexact H8
    ipureintro; exact (factsA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) ((first_iff t).mpr h0) (fun h => h1 ((last_iff t).mp h)) (iblk m c 0 t) (iblk m c 1 t) (iblk m c 2 t) (iblk m c 3 t) (iblk m c 4 t) (iblk m c 5 t) ds).2.1 _
  · unfold owns; iexists _; isplitr
    swap; · iexact H9
    ipureintro; exact (factsA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) ((first_iff t).mpr h0) (fun h => h1 ((last_iff t).mp h)) (iblk m c 0 t) (iblk m c 1 t) (iblk m c 2 t) (iblk m c 3 t) (iblk m c 4 t) (iblk m c 5 t) ds).2.2.1 _

set_option maxHeartbeats 2000000 in
/-- The body keeps its contract at a point of case B. -/
theorem sound_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, leaves_1, leaves_2, leaves_3, leaves_4, leaves_5, leaves_7, leaves_8, leaves_9]
  rw [Dat.leavesExact_idle (dats m 0 c) 6 t (idle_dq t (fun h => h1 ((last_iff t).mp h))) (noFlush_dq t (fun h => h1 ((last_iff t).mp h)))]
  rw [PhiS_next m c t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) (fun h => h1 ((last_iff t).mp h)) (iblk m c 0 t) (iblk m c 1 t) (iblk m c 2 t) (iblk m c 3 t) (iblk m c 4 t) (iblk m c 5 t) (scIn m c t.val t.isLt)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [H9]; · iexists _; iexact H9
  isplitl [HS]; · iexact HS
  iintro ⟨H0, H1, H2, H3, H4, H5, ⟨%e7, H7⟩, ⟨%e8, H8⟩, ⟨%e9, H9⟩, HS⟩
  isplitl [HS Hg]
  · isplitl [HS]
    · unfold owns; iexists _; isplitr
      swap; · iexact HS
      ipureintro; exact (factsB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) (fun h => h1 ((last_iff t).mp h)) (iblk m c 0 t) (iblk m c 1 t) (iblk m c 2 t) (iblk m c 3 t) (iblk m c 4 t) (iblk m c 5 t) (scIn m c t.val t.isLt)).2.2.2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact (factsB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) (fun h => h1 ((last_iff t).mp h)) (iblk m c 0 t) (iblk m c 1 t) (iblk m c 2 t) (iblk m c 3 t) (iblk m c 4 t) (iblk m c 5 t) (scIn m c t.val t.isLt)).1 _
  isplitl [H8]
  · unfold owns; iexists _; isplitr
    swap; · iexact H8
    ipureintro; exact (factsB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) (fun h => h1 ((last_iff t).mp h)) (iblk m c 0 t) (iblk m c 1 t) (iblk m c 2 t) (iblk m c 3 t) (iblk m c 4 t) (iblk m c 5 t) (scIn m c t.val t.isLt)).2.1 _
  · unfold owns; iexists _; isplitr
    swap; · iexact H9
    ipureintro; exact (factsB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) (fun h => h1 ((last_iff t).mp h)) (iblk m c 0 t) (iblk m c 1 t) (iblk m c 2 t) (iblk m c 3 t) (iblk m c 4 t) (iblk m c 5 t) (scIn m c t.val t.isLt)).2.2.1 _

set_option maxHeartbeats 2000000 in
/-- The body keeps its contract at a point of case C. -/
theorem sound_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, leaves_1, leaves_2, leaves_3, leaves_4, leaves_5, leaves_7, leaves_8, leaves_9]
  rw [leaves_6 m c t ((last_iff t).mpr h1)]
  rw [PhiS_next m c t.val t.isLt h0]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) ((last_iff t).mpr h1) (iblk m c 0 t) (iblk m c 1 t) (iblk m c 2 t) (iblk m c 3 t) (iblk m c 4 t) (iblk m c 5 t) (scIn m c t.val t.isLt)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS]; · iexact HS
  iintro ⟨H0, H1, H2, H3, H4, H5, ⟨%e6, H6⟩, ⟨%e7, H7⟩, ⟨%e8, H8⟩, ⟨%e9, H9⟩, HS⟩
  isplitl [HS Hg]
  · isplitl [HS]
    · unfold owns; iexists _; isplitr
      swap; · iexact HS
      ipureintro; exact (factsC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) ((last_iff t).mpr h1) (iblk m c 0 t) (iblk m c 1 t) (iblk m c 2 t) (iblk m c 3 t) (iblk m c 4 t) (iblk m c 5 t) (scIn m c t.val t.isLt)).2.2.2.1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (factsC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) ((last_iff t).mpr h1) (iblk m c 0 t) (iblk m c 1 t) (iblk m c 2 t) (iblk m c 3 t) (iblk m c 4 t) (iblk m c 5 t) (scIn m c t.val t.isLt)).2.2.2.2 _
  isplitl [H7]
  · unfold owns; iexists _; isplitr
    swap; · iexact H7
    ipureintro; exact (factsC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) ((last_iff t).mpr h1) (iblk m c 0 t) (iblk m c 1 t) (iblk m c 2 t) (iblk m c 3 t) (iblk m c 4 t) (iblk m c 5 t) (scIn m c t.val t.isLt)).1 _
  isplitl [H8]
  · unfold owns; iexists _; isplitr
    swap; · iexact H8
    ipureintro; exact (factsC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) ((last_iff t).mpr h1) (iblk m c 0 t) (iblk m c 1 t) (iblk m c 2 t) (iblk m c 3 t) (iblk m c 4 t) (iblk m c 5 t) (scIn m c t.val t.isLt)).2.1 _
  · unfold owns; iexists _; isplitr
    swap; · iexact H9
    ipureintro; exact (factsC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) scM (Memref.isWhole_whole _) (fun h => h0 ((first_iff t).mp h)) ((last_iff t).mpr h1) (iblk m c 0 t) (iblk m c 1 t) (iblk m c 2 t) (iblk m c 3 t) (iblk m c 4 t) (iblk m c 5 t) (scIn m c t.val t.isLt)).2.2.1 _

/-- The body keeps its contract at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0 (by omega)
  · by_cases h1 : t.val % 4 = 3
    · exact sound_C m c t h0 h1
    · exact sound_B m c t h0 h1

theorem defs₀_row (t : Fin cfg0.N) : defs₀ (F := F) .tc cfg0.body (cfg0.bodyArgs t (cfg0.slots t)) = bodyAt0 t := by
  unfold defs₀; rw [Defs.onTc_tc]

/-- The pipeline's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, rest_eq]
  exact PhiS_any m c _ _

set_option backward.isDefEq.respectTransparency.types false in
/-- The launch: every execution ends, with the arrays at what the data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The arguments stay and the counters end at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (A_eq m) (run_main m ρ)) ((θ_run defs _ _).mono (fun _ h => h.2) (run_quiet m ρ))

end Cert.KernelIdeal.Attn

end
-- ==== Proof.Pay.lean ====
module

public import proofs.«01_k».proof.Proof.Model
public import Idealize.ShloMosaic.Lib.Pointwise
public import Idealize.ShloMosaic.Lib.IdealHost
public import Idealize.ShloMosaic.Lib.KernelVsHost

@[expose] public section

set_option maxRecDepth 16384

noncomputable section

namespace Cert.KernelIdeal.Attn

open Cert.KernelIdeal.Gen
open Idealize.ShloMosaic Idealize.ShloMosaic.TcCoe

/-! ## The body's payloads over the extended reals, at an index -/

/-- Lane `x` of head `h` of a pair in a 256-lane row. -/
abbrev ln (h : Fin 2) (x : Fin 128) : Fin 256 := ⟨128 * h.val + x.val, by have := h.isLt; have := x.isLt; omega⟩

/-- The lane that a rotation by half a row reads. -/
abbrev half (x : Fin 128) : Fin 128 := ⟨(x.val + 64) % 128, Nat.mod_lt _ (by decide)⟩

theorem select_one (a b : EReal) : Scalar.select (1#1) a b = a := rfl
theorem select_zero (a b : EReal) : Scalar.select (0#1) a b = b := rfl

/-- The mask of the first head's lanes. -/
theorem pay30_eq (x : Fin 128) : k0_pay30 (ix2 0 x) = if x.val < 64 then 1#1 else 0#1 := by
  have key : ∀ x : Fin 128, IntOp.cmpi CmpIPredicate.slt (BitVec.ofNat 32 (0 * 128 + x.val)) 64#32 = if x.val < 64 then 1#1 else 0#1 := by decide
  simp only [k0_pay30, pointwise]
  exact key x

theorem sel30 (x : Fin 128) (a b : EReal) : Scalar.select (k0_pay30 (ix2 0 x)) a b = if x.val < 64 then a else b := by
  rw [pay30_eq]
  by_cases h : x.val < 64
  · rw [if_pos h, if_pos h]; rfl
  · rw [if_neg h, if_neg h]; rfl

theorem pay4_eq (q : Vec Ideal S1024x256 .bf16) : k0_pay4 q = q := by
  funext j
  simp only [k0_pay4, pointwise]
theorem pay5_apply (q : Vec Ideal S1024x256 .bf16) (i : Fin 1024) (x : Fin 128) : k0_pay5 (F := Ideal) q (ix2 i x) = q (ix2 i (ln 0 x)) := by
  simp only [k0_pay5, pay4_eq, pointwise]
  exact congrArg q (congrArg₂ ix2 (Fin.ext (by show 0 + i.val = i.val; omega)) (Fin.ext (by show 0 + x.val = 128 * 0 + x.val; omega)))
theorem pay14_apply (q : Vec Ideal S1024x256 .bf16) (i : Fin 1024) (x : Fin 128) : k0_pay14 (F := Ideal) q (ix2 i x) = q (ix2 i (ln 1 x)) := by
  simp only [k0_pay14, pay4_eq, pointwise]
  exact congrArg q (congrArg₂ ix2 (Fin.ext (by show 0 + i.val = i.val; omega)) (Fin.ext (by show 128 + x.val = 128 * 1 + x.val; omega)))
theorem pay6_apply (q : Vec Ideal S1024x256 .bf16) (i : Fin 1024) (x : Fin 128) : k0_pay6 (F := Ideal) q (ix2 i x) = q (ix2 i (ln 0 x)) := by
  simp only [k0_pay6, pointwise]
  exact congrArg q (congrArg₂ ix2 (Fin.ext (by show 0 + i.val = i.val; omega)) (Fin.ext (by show 0 + x.val = 128 * 0 + x.val; omega)))
theorem pay15_apply (q : Vec Ideal S1024x256 .bf16) (i : Fin 1024) (x : Fin 128) : k0_pay15 (F := Ideal) q (ix2 i x) = q (ix2 i (ln 1 x)) := by
  simp only [k0_pay15, pointwise]
  exact congrArg q (congrArg₂ ix2 (Fin.ext (by show 0 + i.val = i.val; omega)) (Fin.ext (by show 128 + x.val = 128 * 1 + x.val; omega)))
theorem pay38_apply (q : Vec Ideal S1024x256 .bf16) (i : Fin 1024) (x : Fin 128) : k0_pay38 (F := Ideal) q (ix2 i x) = q (ix2 i (ln 0 x)) := by
  simp only [k0_pay38, k0_pay37, pointwise]
  exact congrArg q (congrArg₂ ix2 (Fin.ext (by show 0 + i.val = i.val; omega)) (Fin.ext (by show 0 + x.val = 128 * 0 + x.val; omega)))
theorem pay48_apply (q : Vec Ideal S1024x256 .bf16) (i : Fin 1024) (x : Fin 128) : k0_pay48 (F := Ideal) q (ix2 i x) = q (ix2 i (ln 1 x)) := by
  simp only [k0_pay48, pointwise]
  exact congrArg q (congrArg₂ ix2 (Fin.ext (by show 0 + i.val = i.val; omega)) (Fin.ext (by show 128 + x.val = 128 * 1 + x.val; omega)))
theorem pay39_apply (q : Vec Ideal S1024x256 .bf16) (i : Fin 1024) (x : Fin 128) : k0_pay39 (F := Ideal) q (ix2 i x) = q (ix2 i (ln 0 x)) := by
  simp only [k0_pay39, k0_pay32, pointwise]
  exact congrArg q (congrArg₂ ix2 (Fin.ext (by show 0 + i.val = i.val; omega)) (Fin.ext (by show 0 + x.val = 128 * 0 + x.val; omega)))
theorem pay49_apply (q : Vec Ideal S1024x256 .bf16) (i : Fin 1024) (x : Fin 128) : k0_pay49 (F := Ideal) q (ix2 i x) = q (ix2 i (ln 1 x)) := by
  simp only [k0_pay49, pointwise]
  exact congrArg q (congrArg₂ ix2 (Fin.ext (by show 0 + i.val = i.val; omega)) (Fin.ext (by show 128 + x.val = 128 * 1 + x.val; omega)))

theorem pay32_eq (x : Vec Ideal S1024x256 .bf16) : k0_pay32 (F := Ideal) x = x := by funext j; simp only [k0_pay32, pointwise]
theorem pay37_eq (x : Vec Ideal S1024x256 .bf16) : k0_pay37 (F := Ideal) x = x := by funext j; simp only [k0_pay37, pointwise]
theorem pay33_eq (x : Vec Ideal S1024x128 .bf16) : k0_pay33 (F := Ideal) x = x := by funext j; simp only [k0_pay33, pointwise]
theorem pay34_apply (i : Fin 128) (n : Fin 1024) : k0_pay34 (F := Ideal) (ix2 i n) = 0 := by simp only [k0_pay34, pointwise]
theorem pay35_apply (i : Fin 128) (n : Fin 1024) : k0_pay35 (F := Ideal) (ix2 i n) = 0 := by simp only [k0_pay35, pointwise]
theorem pay36_apply (n : Fin 1024) : k0_pay36 (F := Ideal) (ix2 0 n) = 0 := by simp only [k0_pay36, pointwise]
theorem pay42_apply (i : Fin 1024) (n : Fin 128) : k0_pay42 (F := Ideal) (ix2 i n) = 0 := by simp only [k0_pay42, pointwise]
theorem pay31_apply (i : Fin 4096) (n : Fin 128) : k0_pay31 (F := Ideal) (ix2 i n) = 0 := by simp only [k0_pay31, pointwise]

/-- The scores' weights of head `h` on one block, all keys in sight (`mk` false) or keys up to the query (`mk` true). -/
def pB (h : Fin 2) (mk : Bool) (q kk : Vec Ideal S1024x256 .bf16) (l : Vec Ideal S1x1024x1 .f32) (i n : Fin 1024) : EReal :=
  if mk = false ∨ n.val ≤ i.val then Ideal.exp (∑ x : Fin 128, q (ix2 i (ln h x)) * kk (ix2 n (ln h x)) - l (ix3 0 i 0)) else 0

/-- The weights' gradient of head `h`: the product over the head's own lanes. -/
def dpB (h : Fin 2) (d v : Vec Ideal S1024x128 .bf16) (i n : Fin 1024) : EReal :=
  ∑ x : Fin 128, if x.val / 64 = h.val then d (ix2 i x) * v (ix2 n x) else 0

/-- The scores' gradient of head `h` on one block. -/
def dsB (h : Fin 2) (mk : Bool) (q kk : Vec Ideal S1024x256 .bf16) (d v : Vec Ideal S1024x128 .bf16) (l dl : Vec Ideal S1x1024x1 .f32) (i n : Fin 1024) : EReal :=
  pB h mk q kk l i n * (dpB h d v i n - dl (ix3 0 i 0))

theorem lt64 (x : Fin 128) (a : EReal) : (if x.val < 64 then a else 0) = if x.val / 64 = (0 : Fin 2).val then a else 0 := by
  have := x.isLt
  exact if_congr (by show _ ↔ x.val / 64 = 0; omega) rfl rfl
theorem ge64 (x : Fin 128) (a : EReal) : (if x.val < 64 then 0 else a) = if x.val / 64 = (1 : Fin 2).val then a else 0 := by
  have := x.isLt
  by_cases h : x.val < 64
  · rw [if_pos h, if_neg (by show ¬ x.val / 64 = 1; omega)]
  · rw [if_neg h, if_pos (by show x.val / 64 = 1; omega)]

section Blocks

variable (q kk : Vec Ideal S1024x256 .bf16) (d v : Vec Ideal S1024x128 .bf16) (l dl : Vec Ideal S1x1024x1 .f32)

theorem pay7_apply (i n : Fin 1024) : k0_pay7 (F := Ideal) kk q l (ix2 i n) = pB 0 false q kk l i n := by
  simp only [k0_pay7, pointwise, pay5_apply, pay6_apply, zero_add, pB, true_or, if_true]
  rfl

theorem pay57_apply (i n : Fin 1024) : k0_pay57 (F := Ideal) (k0_pay16 kk q) l (ix2 i n) = pB 1 false q kk l i n := by
  simp only [k0_pay57, k0_pay16, pointwise, pay14_apply, pay15_apply, zero_add, pB, true_or, if_true]
  rfl

theorem mask_key (i n : Fin 1024) (a b : EReal) :
    Scalar.select (IntOp.cmpi CmpIPredicate.sge (BitVec.ofNat 32 (0 * 1024 + i.val)) (BitVec.ofNat 32 (0 * 1024 + n.val))) a b = if n.val ≤ i.val then a else b := by
  have hi := i.isLt
  have hn := n.isLt
  rw [WordCmp.cmpi_sge_eq, WordCmp.toInt_ofNat_of_lt (by omega), WordCmp.toInt_ofNat_of_lt (by omega)]
  by_cases h : n.val ≤ i.val
  · rw [if_pos h, decide_eq_true (by omega)]; rfl
  · rw [if_neg h, decide_eq_false (by omega)]; rfl

theorem mask_val : Named.named (F := Ideal) κ "mask" (φ := .f32) 0xF149F2CA#32 = (⊥ : EReal) := IdealRules.named_const.ideal_named_scalar κ "mask" _ _ rfl

theorem exp_masked (c : Prop) [Decidable c] (a b : EReal) : Ideal.exp ((if c then a else ⊥) - b) = if true = false ∨ c then Ideal.exp (a - b) else 0 := by
  by_cases h : c
  · rw [if_pos h, if_pos (Or.inr h)]
  · rw [if_neg h, if_neg (by simpa using h), sub_eq_add_neg, EReal.bot_add]; rfl

theorem pay40_apply (i n : Fin 1024) : k0_pay40 (F := Ideal) kk q l (ix2 i n) = pB 0 true q kk l i n := by
  simp only [k0_pay40, pointwise, pay38_apply, pay39_apply, zero_add, pB]
  rw [mask_val]
  exact (congrArg (fun t => Ideal.exp (t - _)) (mask_key i n _ _)).trans (exp_masked _ _ _)

theorem pay50_apply (i n : Fin 1024) : k0_pay50 (F := Ideal) kk q l (ix2 i n) = pB 1 true q kk l i n := by
  simp only [k0_pay50, pointwise, pay48_apply, pay49_apply, zero_add, pB]
  rw [mask_val]
  exact (congrArg (fun t => Ideal.exp (t - _)) (mask_key i n _ _)).trans (exp_masked _ _ _)

theorem selA (i n : Fin 1024) : ∑ x : Fin 128, Scalar.select (k0_pay30 (ix2 0 x)) (d (ix2 i x) * v (ix2 n x)) 0 = dpB 0 d v i n :=
  Finset.sum_congr rfl fun x _ => by
    rw [sel30, ← lt64]
theorem selB (i n : Fin 1024) : ∑ x : Fin 128, Scalar.select (k0_pay30 (ix2 0 x)) 0 (d (ix2 i x) * v (ix2 n x)) = dpB 1 d v i n :=
  Finset.sum_congr rfl fun x _ => by
    rw [sel30, ← ge64]

theorem pay9_apply (i n : Fin 1024) : k0_pay9 (F := Ideal) k0_pay30 kk v q d l dl (ix2 i n) = dsB 0 false q kk d v l dl i n := by
  simp only [k0_pay9, pointwise, pay7_apply, zero_add]
  exact congrArg (fun t => pB 0 false q kk l i n * (t - dl (ix3 0 i 0))) (selA d v i n)

theorem pay59_apply (i n : Fin 1024) : k0_pay59 (F := Ideal) k0_pay30 v d (k0_pay16 kk q) l dl (ix2 i n) = dsB 1 false q kk d v l dl i n := by
  simp only [k0_pay59, pointwise, pay57_apply, zero_add]
  exact congrArg (fun t => pB 1 false q kk l i n * (t - dl (ix3 0 i 0))) (selB d v i n)

theorem pay52_apply (i n : Fin 1024) : k0_pay52 (F := Ideal) k0_pay30 kk v q d l dl (ix2 i n) = dsB 1 true q kk d v l dl i n := by
  simp only [k0_pay52, pointwise, pay50_apply, zero_add]
  exact congrArg (fun t => pB 1 true q kk l i n * (t - dl (ix3 0 i 0))) (selB d v i n)

theorem pay43_apply (i n : Fin 1024) : k0_pay43 (F := Ideal) k0_pay30 v d (k0_pay40 kk q l) k0_pay42 dl (ix2 i n) = dsB 0 true q kk d v l dl i n := by
  simp only [k0_pay43, pointwise, pay40_apply, zero_add, pay42_apply]
  exact congrArg (fun t => pB 0 true q kk l i n * (t - dl (ix3 0 i 0))) (selA d v i n)

/-- The block's part of the keys' gradient. -/
def gK (h : Fin 2) (mk : Bool) (x : Fin 128) (n : Fin 1024) : EReal := ∑ i : Fin 1024, q (ix2 i (ln h x)) * dsB h mk q kk d v l dl i n
/-- The block's part of the values' gradient. -/
def gV (h : Fin 2) (mk : Bool) (x : Fin 128) (n : Fin 1024) : EReal := ∑ i : Fin 1024, d (ix2 i x) * pB h mk q kk l i n
/-- The block's part of the gates' gradient. -/
def gC (h : Fin 2) (mk : Bool) (n : Fin 1024) : EReal := ∑ i : Fin 1024, dsB h mk q kk d v l dl i n
/-- The block's part of the queries' gradient, before the scale. -/
def gQ (h : Fin 2) (mk : Bool) (i : Fin 1024) (x : Fin 128) : EReal := ∑ n : Fin 1024, dsB h mk q kk d v l dl i n * kk (ix2 n (ln h x))

variable (a : Vec Ideal S128x1024 .f32) (b : Vec Ideal S1x1024 .f32)

theorem pay11_apply (x : Fin 128) (n : Fin 1024) : k0_pay11 (F := Ideal) k0_pay30 kk v a q d l dl (ix2 x n) = a (ix2 x n) + gK q kk d v l dl 0 false x n := by
  simp only [k0_pay11, k0_pay10, pointwise, pay5_apply, pay9_apply, zero_add, gK]
theorem pay8_apply (x : Fin 128) (n : Fin 1024) : k0_pay8 (F := Ideal) kk a q d l (ix2 x n) = a (ix2 x n) + gV q kk d l 0 false x n := by
  simp only [k0_pay8, pointwise, pay7_apply, zero_add, gV]
theorem pay13_apply (n : Fin 1024) : k0_pay13 (F := Ideal) k0_pay30 kk v b q d l dl (ix2 0 n) = b (ix2 0 n) + gC q kk d v l dl 0 false n := by
  simp only [k0_pay13, pointwise, pay9_apply, zero_add, gC]
theorem pay12_apply (i : Fin 1024) (x : Fin 128) : k0_pay12 (F := Ideal) k0_pay30 kk v q d l dl (ix2 i x) = gQ q kk d v l dl 0 false i x := by
  simp only [k0_pay12, k0_pay10, pointwise, pay6_apply, pay9_apply, zero_add, gQ]
theorem pay61_apply (x : Fin 128) (n : Fin 1024) : k0_pay61 (F := Ideal) k0_pay30 v a d (k0_pay14 q) (k0_pay16 kk q) l dl (ix2 x n) = a (ix2 x n) + gK q kk d v l dl 1 false x n := by
  simp only [k0_pay61, k0_pay60, pointwise, pay14_apply, pay59_apply, zero_add, gK]
theorem pay58_apply (x : Fin 128) (n : Fin 1024) : k0_pay58 (F := Ideal) a d (k0_pay16 kk q) l (ix2 x n) = a (ix2 x n) + gV q kk d l 1 false x n := by
  simp only [k0_pay58, pointwise, pay57_apply, zero_add, gV]
theorem pay62_apply (n : Fin 1024) : k0_pay62 (F := Ideal) k0_pay30 v b d (k0_pay16 kk q) l dl (ix2 0 n) = b (ix2 0 n) + gC q kk d v l dl 1 false n := by
  simp only [k0_pay62, pointwise, pay59_apply, zero_add, gC]
theorem pay45_apply (x : Fin 128) (n : Fin 1024) : k0_pay45 (F := Ideal) k0_pay30 v k0_pay34 d (k0_pay38 q) (k0_pay40 kk q l) k0_pay42 dl (ix2 x n) = gK q kk d v l dl 0 true x n := by
  simp only [k0_pay45, k0_pay44, pointwise, pay38_apply, pay34_apply, pay43_apply, zero_add, gK]
theorem pay41_apply (x : Fin 128) (n : Fin 1024) : k0_pay41 (F := Ideal) kk q d l (ix2 x n) = gV q kk d l 0 true x n := by
  simp only [k0_pay41, pointwise, pay35_apply, pay40_apply, zero_add, gV]
theorem pay47_apply (n : Fin 1024) : k0_pay47 (F := Ideal) k0_pay30 v k0_pay36 d (k0_pay40 kk q l) k0_pay42 dl (ix2 0 n) = gC q kk d v l dl 0 true n := by
  simp only [k0_pay47, pointwise, pay43_apply, pay36_apply, zero_add, gC]
theorem pay46_apply (i : Fin 1024) (x : Fin 128) : k0_pay46 (F := Ideal) k0_pay30 v d (k0_pay39 kk) (k0_pay40 kk q l) k0_pay42 dl (ix2 i x) = gQ q kk d v l dl 0 true i x := by
  simp only [k0_pay46, k0_pay44, pointwise, pay39_apply, pay43_apply, zero_add, gQ]
theorem pay54_apply (x : Fin 128) (n : Fin 1024) : k0_pay54 (F := Ideal) k0_pay34 (k0_pay48 q) (k0_pay52 k0_pay30 kk v q d l dl) (ix2 x n) = gK q kk d v l dl 1 true x n := by
  simp only [k0_pay54, k0_pay53, pointwise, pay48_apply, pay34_apply, pay52_apply, zero_add, gK]
theorem pay51_apply (x : Fin 128) (n : Fin 1024) : k0_pay51 (F := Ideal) kk k0_pay35 q d l (ix2 x n) = gV q kk d l 1 true x n := by
  simp only [k0_pay51, pointwise, pay50_apply, pay35_apply, zero_add, gV]
theorem pay55_apply (n : Fin 1024) : k0_pay55 (F := Ideal) k0_pay36 (k0_pay52 k0_pay30 kk v q d l dl) (ix2 0 n) = gC q kk d v l dl 1 true n := by
  simp only [k0_pay55, pointwise, pay52_apply, pay36_apply, zero_add, gC]

theorem scale_val : Ideal.ofBits .f32 1040187392#32 = ((1 / 8 : ℝ) : EReal) := by
  simp [Ideal.ofBits, Ideal.ieee, -EReal.coe_mul]; norm_num

theorem rot_eq (x : Fin 128) (h) : (⟨(x.val + ![1024, 128] 1 - ((64#32 : BitVec 32).toNat + 0) % ![1024, 128] 1) % ![1024, 128] 1, h⟩ : Fin 128) = half x :=
  Fin.ext (by show (x.val + 128 - 64 % 128) % 128 = (x.val + 64) % 128; omega)

theorem pay63_apply (w o : Vec Ideal S1024x128 .f32) (i : Fin 1024) (x : Fin 128) :
    k0_pay63 (F := Ideal) k0_pay30 v d w (k0_pay15 kk) (k0_pay16 kk q) l dl o (ix2 i x) =
      o (ix2 i x) + (if x.val < 64 then w (ix2 i x) else gQ q kk d v l dl 1 false i (half x)) * ((1 / 8 : ℝ) : EReal) := by
  simp only [k0_pay63, k0_pay60, pointwise, zero_add]
  rw [scale_val]
  refine congrArg (fun t => o (ix2 i x) + t * ((1 / 8 : ℝ) : EReal)) ((sel30 x _ _).trans ?_)
  refine congrArg (fun t => if x.val < 64 then w (ix2 i x) else t) (Finset.sum_congr rfl fun n _ => congrArg₂ (· * ·) (pay59_apply q kk d v l dl i n) ?_)
  exact (congrArg (fun y => k0_pay15 (F := Ideal) kk (ix2 n y)) (rot_eq x _)).trans (pay15_apply kk n (half x))

theorem pay56_apply (w o : Vec Ideal S1024x128 .f32) (i : Fin 1024) (x : Fin 128) :
    k0_pay56 (F := Ideal) k0_pay30 w (k0_pay49 kk) (k0_pay52 k0_pay30 kk v q d l dl) o (ix2 i x) =
      o (ix2 i x) + (if x.val < 64 then w (ix2 i x) else gQ q kk d v l dl 1 true i (half x)) * ((1 / 8 : ℝ) : EReal) := by
  simp only [k0_pay56, k0_pay53, pointwise, zero_add]
  rw [scale_val]
  refine congrArg (fun t => o (ix2 i x) + t * ((1 / 8 : ℝ) : EReal)) ((sel30 x _ _).trans ?_)
  refine congrArg (fun t => if x.val < 64 then w (ix2 i x) else t) (Finset.sum_congr rfl fun n _ => congrArg₂ (· * ·) (pay52_apply q kk d v l dl i n) ?_)
  exact (congrArg (fun y => k0_pay49 (F := Ideal) kk (ix2 n y)) (rot_eq x _)).trans (pay49_apply kk n (half x))

theorem pay71_apply (a' : Vec Ideal S128x1024 .f32) (n : Fin 1024) (x : Fin 128) :
    k0_pay71 (F := Ideal) k0_pay30 a a' (ix2 n x) = if x.val < 64 then a (ix2 x n) else a' (ix2 (half x) n) := by
  simp only [k0_pay71, pointwise]
  exact (sel30 x _ _).trans (congrArg (fun t => if x.val < 64 then a (ix2 x n) else t) (congrArg (fun y => a' (ix2 y n)) (rot_eq x _)))

theorem pay72_apply (a' : Vec Ideal S128x1024 .f32) (n : Fin 1024) (x : Fin 128) :
    k0_pay72 (F := Ideal) k0_pay30 a a' (ix2 n x) = if x.val < 64 then a (ix2 x n) else a' (ix2 x n) := by
  simp only [k0_pay72, pointwise]
  exact sel30 _ _ _

theorem pay1_apply (n : Fin 1024) : k0_pay1 (F := Ideal) b (ix4 0 0 0 n) = 0 - b (ix2 0 n) := by
  simp only [k0_pay1, pointwise]
theorem pay2_apply (n : Fin 1024) : k0_pay2 (F := Ideal) b (ix4 0 0 0 n) = 0 - b (ix2 0 n) := by
  simp only [k0_pay2, pointwise]
theorem pay3_apply (o : Vec Ideal S4096x128 .f32) (i : Fin 4096) (x : Fin 128) : k0_pay3 o (ix2 i x) = o (ix2 i x) := by
  simp only [k0_pay3, pointwise]

end Blocks

end Cert.KernelIdeal.Attn

end
-- ==== Proof.Point.lean ====
module

public import proofs.«01_k».proof.Proof.Pay

@[expose] public section

set_option maxRecDepth 16384

noncomputable section

namespace Cert.KernelIdeal.Attn

open Cert.KernelIdeal.Gen
open Idealize.ShloMosaic Idealize.ShloMosaic.TcCoe
open Idealize.ShloMosaic.VecWindow (window put)

/-! ## One key block over the extended reals: its sums over all queries -/

/-- Row `i` of query block `r`. -/
abbrev row (r : Fin 4) (i : Fin 1024) : Fin 4096 := ⟨1024 * r.val + i.val, by have := r.isLt; have := i.isLt; omega⟩

theorem wQ_apply (x : Vec Ideal S4096x256 .bf16) (r : Fin 4) (i : Fin 1024) (y : Fin 256) : wQ (F := Ideal) x r (ix2 i y) = x (ix2 (row r i) y) :=
  congrArg x (by
    funext a; match a with
    | 0 => exact Fin.ext (by show 1024 * r.val + 1 * i.val = 1024 * r.val + i.val; omega)
    | 1 => exact Fin.ext (by show 0 + 1 * y.val = y.val; omega))
theorem wD_apply (x : Vec Ideal S4096x128 .bf16) (r : Fin 4) (i : Fin 1024) (y : Fin 128) : wD (F := Ideal) x r (ix2 i y) = x (ix2 (row r i) y) :=
  congrArg x (by
    funext a; match a with
    | 0 => exact Fin.ext (by show 1024 * r.val + 1 * i.val = 1024 * r.val + i.val; omega)
    | 1 => exact Fin.ext (by show 0 + 1 * y.val = y.val; omega))
theorem wS_apply (x : Vec Ideal S4096x128 .f32) (r : Fin 4) (i : Fin 1024) (y : Fin 128) : wS (F := Ideal) x r (ix2 i y) = x (ix2 (row r i) y) :=
  congrArg x (by
    funext a; match a with
    | 0 => exact Fin.ext (by show 1024 * r.val + 1 * i.val = 1024 * r.val + i.val; omega)
    | 1 => exact Fin.ext (by show 0 + 1 * y.val = y.val; omega))
theorem wL_apply (x : Vec Ideal S2x4096x1 .f32) (h : Fin 2) (r : Fin 4) (i : Fin 1024) : wL (F := Ideal) x h r (ix3 0 i 0) = x (ix3 h (row r i) 0) :=
  congrArg x (by
    funext a; match a with
    | 0 => exact Fin.ext (by show h.val + 1 * 0 = h.val; omega)
    | 1 => exact Fin.ext (by show 1024 * r.val + 1 * i.val = 1024 * r.val + i.val; omega)
    | 2 => exact Fin.ext (by show 0 + 1 * 0 = 0; omega))

theorem wS_put_same (x : Vec Ideal S4096x128 .f32) (r : Fin 4) (w : Vec Ideal S1024x128 .f32) : wS (F := Ideal) (putS (F := Ideal) x r w) r = w :=
  VecWindow.window_put_same x _ _ (inbD r) w
theorem wS_put_ne (x : Vec Ideal S4096x128 .f32) (r r' : Fin 4) (w : Vec Ideal S1024x128 .f32) (h : r ≠ r') : wS (F := Ideal) (putS (F := Ideal) x r' w) r = wS (F := Ideal) x r :=
  VecWindow.window_put_of_disjoint x _ _ _ _ (inbD r) w 0 (by
    have hv : r.val ≠ r'.val := fun e => h (Fin.ext e)
    show 1024 * r.val + 1024 ≤ 1024 * r'.val ∨ 1024 * r'.val + 1024 ≤ 1024 * r.val
    omega)

theorem fin4_cases : ∀ j : Fin 4, j = 0 ∨ j = 1 ∨ j = 2 ∨ j = 3 := by decide

/-- A sum collected block by block from the diagonal block on is the sum over all blocks when the earlier ones are zero. -/
theorem fold_blocks (j : Fin 4) (f : ℕ → EReal) (g : Fin 4 → EReal) (h0 : f 0 = g j) (hs : ∀ k, k < 3 - j.val → f (k + 1) = f k + g (rowOf j.val k))
    (hz : ∀ r : Fin 4, r < j → g r = 0) : f (3 - j.val) = ∑ r : Fin 4, g r := by
  rw [Fin.sum_univ_four]
  rcases fin4_cases j with rfl | rfl | rfl | rfl
  ·
    have e1 := hs 0 (by decide); have e2 := hs 1 (by decide); have e3 := hs 2 (by decide)
    show f 3 = _
    rw [e3, e2, e1, h0]; rfl
  ·
    have e1 := hs 0 (by decide); have e2 := hs 1 (by decide)
    have z0 := hz 0 (by decide)
    show f 2 = _
    rw [e2, e1, h0, z0, zero_add]; rfl
  ·
    have e1 := hs 0 (by decide)
    have z0 := hz 0 (by decide); have z1 := hz 1 (by decide)
    show f 1 = _
    rw [e1, h0, z0, z1, zero_add, zero_add]; rfl
  ·
    have z0 := hz 0 (by decide); have z1 := hz 1 (by decide); have z2 := hz 2 (by decide)
    show f 0 = _
    rw [h0, z0, z1, z2, zero_add, zero_add, zero_add]

section Whole

variable (x0 : Vec Ideal S4096x256 .bf16) (x1 : Vec Ideal S4096x128 .bf16) (x2 x3 : Vec Ideal S2x4096x1 .f32) (x4 : Vec Ideal S1024x256 .bf16) (x5 : Vec Ideal S1024x128 .bf16)

/-- The weight of key `n` of block `j` for query row `w`, head `h`. -/
def PW (j : Fin 4) (h : Fin 2) (w : Fin 4096) (n : Fin 1024) : EReal :=
  if 1024 * j.val + n.val ≤ w.val then Ideal.exp (∑ x : Fin 128, x0 (ix2 w (ln h x)) * x4 (ix2 n (ln h x)) - x2 (ix3 h w 0)) else 0
/-- The weight's gradient. -/
def DP (h : Fin 2) (w : Fin 4096) (n : Fin 1024) : EReal := ∑ x : Fin 128, if x.val / 64 = h.val then x1 (ix2 w x) * x5 (ix2 n x) else 0
/-- The score's gradient. -/
def DS (j : Fin 4) (h : Fin 2) (w : Fin 4096) (n : Fin 1024) : EReal := PW x0 x2 x4 j h w n * (DP x1 x5 h w n - x3 (ix3 h w 0))

/-- How a block lies to the diagonal: on it (masked) or below it. -/
def Below (j r : Fin 4) (mk : Bool) : Prop := (mk = true ∧ r = j) ∨ (mk = false ∧ j < r)

theorem pB_eq (j r : Fin 4) (mk : Bool) (hb : Below j r mk) (h : Fin 2) (i n : Fin 1024) :
    pB h mk (wQ (F := Ideal) x0 r) x4 (wL (F := Ideal) x2 h r) i n = PW x0 x2 x4 j h (row r i) n := by
  unfold pB PW
  have hi := i.isLt
  have hn := n.isLt
  refine if_congr ?_ ?_ rfl
  · rcases hb with ⟨rfl, rfl⟩ | ⟨rfl, hlt⟩
    · simp
    · have : j.val < r.val := hlt
      simp only [true_or, true_iff]
      omega
  · simp only [wQ_apply, wL_apply]

theorem dpB_eq (r : Fin 4) (h : Fin 2) (i n : Fin 1024) : dpB h (wD (F := Ideal) x1 r) x5 i n = DP x1 x5 h (row r i) n := by
  unfold dpB DP
  simp only [wD_apply]

theorem dsB_eq (j r : Fin 4) (mk : Bool) (hb : Below j r mk) (h : Fin 2) (i n : Fin 1024) :
    dsB h mk (wQ (F := Ideal) x0 r) x4 (wD (F := Ideal) x1 r) x5 (wL (F := Ideal) x2 h r) (wL (F := Ideal) x3 h r) i n = DS x0 x1 x2 x3 x4 x5 j h (row r i) n := by
  unfold dsB DS
  rw [pB_eq x0 x2 x4 j r mk hb, dpB_eq, wL_apply]

theorem PW_early (j r : Fin 4) (hlt : r < j) (h : Fin 2) (i n : Fin 1024) : PW x0 x2 x4 j h (row r i) n = 0 := by
  have hi := i.isLt
  have hv : r.val < j.val := hlt
  unfold PW
  rw [if_neg (by show ¬ 1024 * j.val + n.val ≤ 1024 * r.val + i.val; omega)]
theorem DS_early (j r : Fin 4) (hlt : r < j) (h : Fin 2) (i n : Fin 1024) : DS x0 x1 x2 x3 x4 x5 j h (row r i) n = 0 := by
  unfold DS
  rw [PW_early x0 x2 x4 j r hlt, zero_mul]

/-- Block `r`'s part of the keys' gradient. -/
def GK (j : Fin 4) (h : Fin 2) (x : Fin 128) (n : Fin 1024) (r : Fin 4) : EReal := ∑ i : Fin 1024, x0 (ix2 (row r i) (ln h x)) * DS x0 x1 x2 x3 x4 x5 j h (row r i) n
/-- Block `r`'s part of the values' gradient. -/
def GV (j : Fin 4) (h : Fin 2) (x : Fin 128) (n : Fin 1024) (r : Fin 4) : EReal := ∑ i : Fin 1024, x1 (ix2 (row r i) x) * PW x0 x2 x4 j h (row r i) n
/-- Block `r`'s part of the gates' gradient, its sign turned. -/
def GC (j : Fin 4) (h : Fin 2) (n : Fin 1024) (r : Fin 4) : EReal := ∑ i : Fin 1024, DS x0 x1 x2 x3 x4 x5 j h (row r i) n
/-- Key block `j`'s part of the queries' gradient, before the scale. -/
def GQ (j : Fin 4) (h : Fin 2) (w : Fin 4096) (x : Fin 128) : EReal := ∑ n : Fin 1024, DS x0 x1 x2 x3 x4 x5 j h w n * x4 (ix2 n (ln h x))

theorem gK_eq (j r : Fin 4) (mk : Bool) (hb : Below j r mk) (h : Fin 2) (x : Fin 128) (n : Fin 1024) :
    gK (wQ (F := Ideal) x0 r) x4 (wD (F := Ideal) x1 r) x5 (wL (F := Ideal) x2 h r) (wL (F := Ideal) x3 h r) h mk x n = GK x0 x1 x2 x3 x4 x5 j h x n r := by
  unfold gK GK
  simp only [dsB_eq x0 x1 x2 x3 x4 x5 j r mk hb, wQ_apply]
theorem gV_eq (j r : Fin 4) (mk : Bool) (hb : Below j r mk) (h : Fin 2) (x : Fin 128) (n : Fin 1024) :
    gV (wQ (F := Ideal) x0 r) x4 (wD (F := Ideal) x1 r) (wL (F := Ideal) x2 h r) h mk x n = GV x0 x1 x2 x4 j h x n r := by
  unfold gV GV
  simp only [pB_eq x0 x2 x4 j r mk hb, wD_apply]
theorem gC_eq (j r : Fin 4) (mk : Bool) (hb : Below j r mk) (h : Fin 2) (n : Fin 1024) :
    gC (wQ (F := Ideal) x0 r) x4 (wD (F := Ideal) x1 r) x5 (wL (F := Ideal) x2 h r) (wL (F := Ideal) x3 h r) h mk n = GC x0 x1 x2 x3 x4 x5 j h n r := by
  unfold gC GC
  simp only [dsB_eq x0 x1 x2 x3 x4 x5 j r mk hb]
theorem gQ_eq (j r : Fin 4) (mk : Bool) (hb : Below j r mk) (h : Fin 2) (i : Fin 1024) (x : Fin 128) :
    gQ (wQ (F := Ideal) x0 r) x4 (wD (F := Ideal) x1 r) x5 (wL (F := Ideal) x2 h r) (wL (F := Ideal) x3 h r) h mk i x = GQ x0 x1 x2 x3 x4 x5 j h (row r i) x := by
  unfold gQ GQ
  simp only [dsB_eq x0 x1 x2 x3 x4 x5 j r mk hb]

theorem GK_early (j r : Fin 4) (hlt : r < j) (h : Fin 2) (x : Fin 128) (n : Fin 1024) : GK x0 x1 x2 x3 x4 x5 j h x n r = 0 :=
  Finset.sum_eq_zero fun i _ => by rw [DS_early x0 x1 x2 x3 x4 x5 j r hlt, mul_zero]
theorem GV_early (j r : Fin 4) (hlt : r < j) (h : Fin 2) (x : Fin 128) (n : Fin 1024) : GV x0 x1 x2 x4 j h x n r = 0 :=
  Finset.sum_eq_zero fun i _ => by rw [PW_early x0 x2 x4 j r hlt, mul_zero]
theorem GC_early (j r : Fin 4) (hlt : r < j) (h : Fin 2) (n : Fin 1024) : GC x0 x1 x2 x3 x4 x5 j h n r = 0 :=
  Finset.sum_eq_zero fun i _ => DS_early x0 x1 x2 x3 x4 x5 j r hlt h i n
theorem GQ_early (j r : Fin 4) (hlt : r < j) (h : Fin 2) (i : Fin 1024) (x : Fin 128) : GQ x0 x1 x2 x3 x4 x5 j h (row r i) x = 0 :=
  Finset.sum_eq_zero fun n _ => by rw [DS_early x0 x1 x2 x3 x4 x5 j r hlt, zero_mul]

theorem below_diag (j : Fin 4) : Below j j true := Or.inl ⟨rfl, rfl⟩
theorem below_row (j : Fin 4) (k : ℕ) (hk : k < 3 - j.val) : Below j (rowOf j.val k) false :=
  Or.inr ⟨rfl, by show j.val < (j.val + 1 + k) % 4; omega⟩

/-- The six sums at key block `j` over any accumulator. -/
theorem endC_dkA (j : Fin 4) (xs : Vec Ideal S4096x128 .f32) (x : Fin 128) (n : Fin 1024) :
    (endC (F := Ideal) x0 x1 x2 x3 x4 x5 j xs).1 (ix2 x n) = ∑ r : Fin 4, GK x0 x1 x2 x3 x4 x5 j 0 x n r :=
  fold_blocks j (fun k => (stateAt (F := Ideal) x0 x1 x2 x3 x4 x5 j xs k).1.1 (ix2 x n)) _
    (by
      show k0_pay45 (F := Ideal) _ _ _ _ _ _ _ _ _ = _
      rw [pay33_eq, pay45_apply, gK_eq x0 x1 x2 x3 x4 x5 j j true (below_diag j)])
    (fun k hk => by
      show k0_pay11 (F := Ideal) _ _ _ _ _ _ _ _ _ = _
      rw [pay33_eq, pay32_eq, pay11_apply, gK_eq x0 x1 x2 x3 x4 x5 j _ false (below_row j k hk)])
    (fun r hr => GK_early x0 x1 x2 x3 x4 x5 j r hr 0 x n)

theorem endC_dvA (j : Fin 4) (xs : Vec Ideal S4096x128 .f32) (x : Fin 128) (n : Fin 1024) :
    (endC (F := Ideal) x0 x1 x2 x3 x4 x5 j xs).2.1 (ix2 x n) = ∑ r : Fin 4, GV x0 x1 x2 x4 j 0 x n r :=
  fold_blocks j (fun k => (stateAt (F := Ideal) x0 x1 x2 x3 x4 x5 j xs k).1.2.1 (ix2 x n)) _
    (by
      show k0_pay41 (F := Ideal) _ _ _ _ _ = _
      rw [pay41_apply, gV_eq x0 x1 x2 x4 j j true (below_diag j)])
    (fun k hk => by
      show k0_pay8 (F := Ideal) _ _ _ _ _ _ = _
      rw [pay32_eq, pay8_apply, gV_eq x0 x1 x2 x4 j _ false (below_row j k hk)])
    (fun r hr => GV_early x0 x1 x2 x4 j r hr 0 x n)

theorem endC_dcA (j : Fin 4) (xs : Vec Ideal S4096x128 .f32) (n : Fin 1024) :
    (endC (F := Ideal) x0 x1 x2 x3 x4 x5 j xs).2.2.1 (ix2 0 n) = ∑ r : Fin 4, GC x0 x1 x2 x3 x4 x5 j 0 n r :=
  fold_blocks j (fun k => (stateAt (F := Ideal) x0 x1 x2 x3 x4 x5 j xs k).1.2.2.1 (ix2 0 n)) _
    (by
      show k0_pay47 (F := Ideal) _ _ _ _ _ _ _ _ = _
      rw [pay33_eq, pay47_apply, gC_eq x0 x1 x2 x3 x4 x5 j j true (below_diag j)])
    (fun k hk => by
      show k0_pay13 (F := Ideal) _ _ _ _ _ _ _ _ _ = _
      rw [pay33_eq, pay32_eq, pay13_apply, gC_eq x0 x1 x2 x3 x4 x5 j _ false (below_row j k hk)])
    (fun r hr => GC_early x0 x1 x2 x3 x4 x5 j r hr 0 n)

theorem endC_dkB (j : Fin 4) (xs : Vec Ideal S4096x128 .f32) (x : Fin 128) (n : Fin 1024) :
    (endC (F := Ideal) x0 x1 x2 x3 x4 x5 j xs).2.2.2.1 (ix2 x n) = ∑ r : Fin 4, GK x0 x1 x2 x3 x4 x5 j 1 x n r :=
  fold_blocks j (fun k => (stateAt (F := Ideal) x0 x1 x2 x3 x4 x5 j xs k).1.2.2.2.1 (ix2 x n)) _
    (by
      show k0_pay54 (F := Ideal) _ _ (k0_pay52 _ _ _ _ _ _ _) _ = _
      rw [pay33_eq, pay32_eq, pay37_eq, pay54_apply, gK_eq x0 x1 x2 x3 x4 x5 j j true (below_diag j)])
    (fun k hk => by
      show k0_pay61 (F := Ideal) _ _ _ _ _ _ _ _ _ = _
      rw [pay33_eq, pay32_eq, pay61_apply, gK_eq x0 x1 x2 x3 x4 x5 j _ false (below_row j k hk)])
    (fun r hr => GK_early x0 x1 x2 x3 x4 x5 j r hr 1 x n)

theorem endC_dvB (j : Fin 4) (xs : Vec Ideal S4096x128 .f32) (x : Fin 128) (n : Fin 1024) :
    (endC (F := Ideal) x0 x1 x2 x3 x4 x5 j xs).2.2.2.2.1 (ix2 x n) = ∑ r : Fin 4, GV x0 x1 x2 x4 j 1 x n r :=
  fold_blocks j (fun k => (stateAt (F := Ideal) x0 x1 x2 x3 x4 x5 j xs k).1.2.2.2.2.1 (ix2 x n)) _
    (by
      show k0_pay51 (F := Ideal) _ _ _ _ _ _ = _
      rw [pay32_eq, pay37_eq, pay51_apply, gV_eq x0 x1 x2 x4 j j true (below_diag j)])
    (fun k hk => by
      show k0_pay58 (F := Ideal) _ _ _ _ _ = _
      rw [pay32_eq, pay58_apply, gV_eq x0 x1 x2 x4 j _ false (below_row j k hk)])
    (fun r hr => GV_early x0 x1 x2 x4 j r hr 1 x n)

theorem endC_dcB (j : Fin 4) (xs : Vec Ideal S4096x128 .f32) (n : Fin 1024) :
    (endC (F := Ideal) x0 x1 x2 x3 x4 x5 j xs).2.2.2.2.2 (ix2 0 n) = ∑ r : Fin 4, GC x0 x1 x2 x3 x4 x5 j 1 n r :=
  fold_blocks j (fun k => (stateAt (F := Ideal) x0 x1 x2 x3 x4 x5 j xs k).1.2.2.2.2.2 (ix2 0 n)) _
    (by
      show k0_pay55 (F := Ideal) _ (k0_pay52 _ _ _ _ _ _ _) _ = _
      rw [pay33_eq, pay32_eq, pay37_eq, pay55_apply, gC_eq x0 x1 x2 x3 x4 x5 j j true (below_diag j)])
    (fun k hk => by
      show k0_pay62 (F := Ideal) _ _ _ _ _ _ _ _ = _
      rw [pay33_eq, pay32_eq, pay62_apply, gC_eq x0 x1 x2 x3 x4 x5 j _ false (below_row j k hk)])
    (fun r hr => GC_early x0 x1 x2 x3 x4 x5 j r hr 1 n)

/-- What key block `j` adds to the accumulator at row `w`, lane `l`. -/
def TQ (j : Fin 4) (w : Fin 4096) (l : Fin 128) : EReal :=
  (if l.val < 64 then GQ x0 x1 x2 x3 x4 x5 j 0 w l else GQ x0 x1 x2 x3 x4 x5 j 1 w (half l)) * ((1 / 8 : ℝ) : EReal)

theorem TQ_early (j r : Fin 4) (hlt : r < j) (i : Fin 1024) (l : Fin 128) : TQ x0 x1 x2 x3 x4 x5 j (row r i) l = 0 := by
  unfold TQ
  rw [GQ_early x0 x1 x2 x3 x4 x5 j r hlt, GQ_early x0 x1 x2 x3 x4 x5 j r hlt, ite_self, zero_mul]

theorem diagS_apply (j : Fin 4) (o : Vec Ideal S1024x128 .f32) (i : Fin 1024) (l : Fin 128) :
    diagS (F := Ideal) x0 x1 x2 x3 x4 x5 j o (ix2 i l) = o (ix2 i l) + TQ x0 x1 x2 x3 x4 x5 j (row j i) l := by
  unfold diagS diagDs TQ
  rw [pay33_eq, pay32_eq, pay37_eq, pay56_apply, pay46_apply, gQ_eq x0 x1 x2 x3 x4 x5 j j true (below_diag j), gQ_eq x0 x1 x2 x3 x4 x5 j j true (below_diag j)]

theorem tripS_apply (j : Fin 4) (k : ℕ) (hk : k < 3 - j.val) (o : Vec Ideal S1024x128 .f32) (i : Fin 1024) (l : Fin 128) :
    tripS (F := Ideal) x0 x1 x2 x3 x4 x5 (rowOf j.val k) o (ix2 i l) = o (ix2 i l) + TQ x0 x1 x2 x3 x4 x5 j (row (rowOf j.val k) i) l := by
  unfold tripS TQ
  rw [pay33_eq, pay32_eq, pay63_apply, pay12_apply, gQ_eq x0 x1 x2 x3 x4 x5 j _ false (below_row j k hk), gQ_eq x0 x1 x2 x3 x4 x5 j _ false (below_row j k hk)]

/-- The accumulator's block `r` after the diagonal block and `k` blocks below it. -/
theorem stateS (j : Fin 4) (xs : Vec Ideal S4096x128 .f32) (k : ℕ) (hk : k ≤ 3 - j.val) (r : Fin 4) (i : Fin 1024) (l : Fin 128) :
    wS (F := Ideal) (stateAt (F := Ideal) x0 x1 x2 x3 x4 x5 j xs k).2 r (ix2 i l) =
      if j.val ≤ r.val ∧ r.val < j.val + 1 + k then wS (F := Ideal) xs r (ix2 i l) + TQ x0 x1 x2 x3 x4 x5 j (row r i) l else wS (F := Ideal) xs r (ix2 i l) := by
  induction k with
  | zero =>
    show wS (F := Ideal) (putS xs j _) r _ = _
    by_cases h : r = j
    · subst h
      rw [wS_put_same, if_pos (by omega), diagS_apply]
    · have hv : r.val ≠ j.val := fun e => h (Fin.ext e)
      rw [wS_put_ne _ _ _ _ h, if_neg (by omega)]
  | succ k ih =>
    have ih := ih (by omega)
    have hk' : k < 3 - j.val := by omega
    have hr : (rowOf j.val k).val = j.val + 1 + k := by show (j.val + 1 + k) % 4 = _; omega
    show wS (F := Ideal) (putS (stateAt (F := Ideal) x0 x1 x2 x3 x4 x5 j xs k).2 (rowOf j.val k) _) r _ = _
    by_cases h : r = rowOf j.val k
    · subst h
      rw [wS_put_same, tripS_apply x0 x1 x2 x3 x4 x5 j k hk', ih, if_neg (by omega), if_pos (by omega)]
    · have hv : r.val ≠ (rowOf j.val k).val := fun e => h (Fin.ext e)
      rw [wS_put_ne _ _ _ _ h, ih]
      exact if_congr (by omega) rfl rfl

/-- The accumulator at the end of key block `j`. -/
theorem endS_apply (j : Fin 4) (xs : Vec Ideal S4096x128 .f32) (r : Fin 4) (i : Fin 1024) (l : Fin 128) :
    endS (F := Ideal) x0 x1 x2 x3 x4 x5 j xs (ix2 (row r i) l) = xs (ix2 (row r i) l) + TQ x0 x1 x2 x3 x4 x5 j (row r i) l := by
  have h := stateS x0 x1 x2 x3 x4 x5 j xs (3 - j.val) le_rfl r i l
  rw [wS_apply, wS_apply] at h
  refine h.trans ?_
  have hr := r.isLt
  have hj := j.isLt
  by_cases hlt : r < j
  · have hv : r.val < j.val := hlt
    rw [if_neg (by omega), TQ_early x0 x1 x2 x3 x4 x5 j r hlt, add_zero]
  · have hv : ¬ r.val < j.val := hlt
    rw [if_pos (by omega)]

end Whole

end Cert.KernelIdeal.Attn

end
-- ==== Proof.Spec.lean ====
module

public import Mathlib.Analysis.SpecialFunctions.Log.Basic
public import Mathlib.Data.EReal.Operations
public import Mathlib.Algebra.BigOperators.Fin

@[expose] public section

noncomputable section

namespace Cert.Attn

/-! ## The gradient of causal attention over the real numbers -/

variable (q k v d : Fin 4096 → Fin 8 → Fin 64 → ℝ) (g : Fin 4096 → Fin 8 → ℝ)

/-- The score of key `n` for query `w` in head `h`: the scaled product of their features and the difference of their gates. -/
def sc (h : Fin 8) (w n : Fin 4096) : ℝ := (∑ e, q w h e * k n h e) * (1 / 8) + g w h - g n h
/-- The score's exponential, nothing for a key after its query. -/
def ex (h : Fin 8) (w n : Fin 4096) : ℝ := if n.val ≤ w.val then Real.exp (sc q k g h w n) else 0
/-- A query's sum of exponentials. -/
def zs (h : Fin 8) (w : Fin 4096) : ℝ := ∑ n, ex q k g h w n
/-- The attention weight. -/
def wt (h : Fin 8) (w n : Fin 4096) : ℝ := ex q k g h w n / zs q k g h w
/-- The weight's gradient. -/
def dp (h : Fin 8) (w n : Fin 4096) : ℝ := ∑ e, d w h e * v n h e
/-- The product of a query's output and its cotangent. -/
def dl (h : Fin 8) (w : Fin 4096) : ℝ := ∑ e, (∑ n, v n h e * wt q k g h w n) * d w h e
/-- The score's gradient. -/
def ds (h : Fin 8) (w n : Fin 4096) : ℝ := wt q k g h w n * (dp v d h w n - dl q k v d g h w)
/-- The queries' gradient. -/
def dq (w : Fin 4096) (h : Fin 8) (e : Fin 64) : ℝ := (∑ n, ds q k v d g h w n * k n h e) * (1 / 8)
/-- The keys' gradient. -/
def dk (n : Fin 4096) (h : Fin 8) (e : Fin 64) : ℝ := ∑ w, q w h e * (1 / 8) * ds q k v d g h w n
/-- The values' gradient. -/
def dv (n : Fin 4096) (h : Fin 8) (e : Fin 64) : ℝ := ∑ w, d w h e * wt q k g h w n
/-- The gates' gradient. -/
def dc (h : Fin 8) (n : Fin 4096) : ℝ := -∑ w, ds q k v d g h w n

theorem zs_pos (h : Fin 8) (w : Fin 4096) : 0 < zs q k g h w :=
  Finset.sum_pos' (fun n _ => by unfold ex; split_ifs; exacts [(Real.exp_pos _).le, le_rfl])
    ⟨w, Finset.mem_univ _, by unfold ex; rw [if_pos le_rfl]; exact Real.exp_pos _⟩

/-- The weight from the logarithm of the sum of exponentials. -/
theorem wt_eq (h : Fin 8) (w n : Fin 4096) : wt q k g h w n = if n.val ≤ w.val then Real.exp (sc q k g h w n - Real.log (zs q k g h w)) else 0 := by
  unfold wt ex
  split_ifs
  · rw [Real.exp_sub, Real.exp_log (zs_pos q k g h w)]
  · exact zero_div _

theorem sum_wt (h : Fin 8) (w : Fin 4096) : ∑ n, wt q k g h w n = 1 := by
  unfold wt
  simp only [div_eq_mul_inv]
  rw [← Finset.sum_mul]
  exact mul_inv_cancel₀ (zs_pos q k g h w).ne'

/-- The product of output and cotangent is the weighted sum of the weights' gradients. -/
theorem dl_eq (h : Fin 8) (w : Fin 4096) : dl q k v d g h w = ∑ n, wt q k g h w n * dp v d h w n := by
  unfold dl dp
  simp only [Finset.sum_mul, Finset.mul_sum]
  rw [Finset.sum_comm]
  exact Finset.sum_congr rfl fun n _ => Finset.sum_congr rfl fun e _ => by ring

/-- A query's score gradients sum to zero. -/
theorem sum_ds (h : Fin 8) (w : Fin 4096) : ∑ n, ds q k v d g h w n = 0 := by
  unfold ds
  simp only [mul_sub]
  rw [Finset.sum_sub_distrib, ← Finset.sum_mul, sum_wt, ← dl_eq, one_mul, sub_self]

/-! ### The same with a number taken off every score -/

variable (M : ℝ)

/-- The exponential of a score less `M`. -/
def exm (h : Fin 8) (w n : Fin 4096) : ℝ := if n.val ≤ w.val then Real.exp (sc q k g h w n - M) else 0

theorem exm_eq (h : Fin 8) (w n : Fin 4096) : exm q k g M h w n = ex q k g h w n * Real.exp (-M) := by
  unfold exm ex
  split_ifs
  · rw [sub_eq_add_neg, Real.exp_add]
  · exact (zero_mul _).symm

theorem sum_exm (h : Fin 8) (w : Fin 4096) : ∑ n, exm q k g M h w n = zs q k g h w * Real.exp (-M) := by
  simp only [exm_eq, ← Finset.sum_mul]; rfl

theorem sum_exm_pos (h : Fin 8) (w : Fin 4096) : 0 < ∑ n, exm q k g M h w n := by
  rw [sum_exm]; exact mul_pos (zs_pos q k g h w) (Real.exp_pos _)

/-- The logarithm of the sum of exponentials, taken with `M` off and given back. -/
theorem lse_eq (h : Fin 8) (w : Fin 4096) : M + Real.log (∑ n, exm q k g M h w n) = Real.log (zs q k g h w) := by
  rw [sum_exm, Real.log_mul (zs_pos q k g h w).ne' (Real.exp_pos _).ne', Real.log_exp]; ring

theorem wt_exm (h : Fin 8) (w n : Fin 4096) : exm q k g M h w n * (1 / ∑ n, exm q k g M h w n) = wt q k g h w n := by
  rw [sum_exm, exm_eq, mul_one_div, mul_div_mul_right _ _ (Real.exp_pos _).ne']; rfl

/-- The score's gradient as the derivative of a quotient of exponentials gives it. -/
theorem ds_exm (h : Fin 8) (w n : Fin 4096) :
    (dp v d h w n * (1 / ∑ n, exm q k g M h w n) + -∑ n', dp v d h w n' * (1 * (1 / ((∑ n, exm q k g M h w n) * ∑ n, exm q k g M h w n))) * exm q k g M h w n') * exm q k g M h w n
      = ds q k v d g h w n := by
  have hL := (sum_exm_pos q k g M h w).ne'
  have e : ∑ n', dp v d h w n' * (1 * (1 / ((∑ n, exm q k g M h w n) * ∑ n, exm q k g M h w n))) * exm q k g M h w n'
      = (1 / ∑ n, exm q k g M h w n) * dl q k v d g h w := by
    conv_rhs => rw [dl_eq, Finset.mul_sum]
    refine Finset.sum_congr rfl fun n' _ => ?_
    rw [← wt_exm q k g M]
    generalize (∑ n : Fin 4096, exm q k g M h w n) = L
    ring
  rw [e]
  unfold ds
  rw [← wt_exm q k g M]
  ring

/-! ### Sums of real numbers among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of masked scores is a real number. -/
theorem fold_max {ι : Type} [DecidableEq ι] (s : Finset ι) (f : ι → EReal) (h : ∀ i, f i ≠ ⊤) (i : ι) (hi : i ∈ s) (h0 : f i ≠ ⊥) :
    ∃ M : ℝ, Finset.fold max ⊥ f s = (M : EReal) := by
  have e : Finset.fold max ⊥ f s = s.sup f := rfl
  rw [e]
  have h1 : s.sup f ≠ ⊤ := by
    intro ht
    obtain ⟨j, _, hj⟩ := Finset.exists_mem_eq_sup s ⟨i, hi⟩ f
    exact h j (hj ▸ ht)
  have h2 : s.sup f ≠ ⊥ := fun hb => h0 (le_bot_iff.1 (hb ▸ Finset.le_sup hi))
  exact ⟨(s.sup f).toReal, (EReal.coe_toReal h1 h2).symm⟩

end Cert.Attn

end
-- ==== Proof.HostVals.lean ====
module

public import proofs.«01_k».proof.Proof.Point
public import Idealize.ShloMosaic.Lib.StableHlo.RunRead
public import proofs.«01_k».proof.Proof.Spec

@[expose] public section

set_option maxRecDepth 16384
set_option maxHeartbeats 1000000

noncomputable section

namespace Cert.KernelIdeal.Attn

open Cert.KernelIdeal.Gen
open Idealize.ShloMosaic Idealize.ShloMosaic.TcCoe Idealize.ShloMosaic.StableHlo

/-! ## The arrays the kernel's windows read, at an index -/

/-- Lane `x` of head `h` in the augmented queries and keys. -/
abbrev lane (h : Fin 8) (x : Fin 128) : Fin 1024 := ⟨128 * h.val + x.val, by have := h.isLt; have := x.isLt; omega⟩
/-- Feature `e` of head `h`. -/
abbrev feat (h : Fin 8) (e : Fin 64) : Fin 512 := ⟨h.val * 64 + e.val, by have := h.isLt; have := e.isLt; omega⟩

variable (m : (ℓ : Loc nD τ sig) → Buf (Elt Ideal) ℓ)

/-- What each host operation writes, in order. -/
abbrev wrote : List (Ref sig .tc) :=
  [main_v0, main_v1, main_v2, main_v3, main_v4, main_v5, main_v6, main_v7, main_v8, main_v9, main_v10, main_v11, main_v12, main_v13, main_v14, main_v15, main_cst, main_v16, main_cst_0, main_v17, main_cst_1, main_v18, main_v19, main_v20, main_v21, main_v22, main_v23, main_v24, main_v25, main_v26, main_v27, main_v28, main_cst_2, main_v29, main_v30, main_v31, main_v32, main_v33, main_v34, main_v35, main_v36, main_v37, main_v38, main_v39, main_v40, main_v41, main_v42, main_v43, main_cst_3, main_call0_v0, main_call0_v1, main_call0_v2, main_v44, main_cst_4, main_v45, main_v46, main_v47, main_v48, main_v49, main_cst_5, main_v50, main_v51, main_v52, main_v53, main_v54, main_v55, main_v56, main_v57, main_v58, main_v59, main_v60, main_v61, main_cst_6, main_v62, main_v63, main_v64]

abbrev hostOps : List (HloOp τ sig (Elt Ideal)) := List.flatten [hostOps0, hostOps0_1, hostOps0_2]

theorem wrote_eq (i : ℕ) : (hostOps.drop i).map HloOp.writes = (wrote.drop i).map fun w => {Proc.devRef (τ := τ) .tc w} := by
  rw [List.map_drop, List.map_drop]; exact congrArg (List.drop i) rfl

/-- A buffer holds what its operation left there. -/
theorem V_op (c : Dev nD) (i : ℕ) {op : HloOp τ sig (Elt Ideal)} {r : Ref sig .tc} (hseg : hostOps.drop i = op :: hostOps.drop (i + 1))
    (hr : r ∉ wrote.drop (i + 1)) : V m c r = op.result (upto hostOps (fun b => m (c, b)) i) (Proc.devRef .tc r) :=
  after_last_write (wrote.drop (i + 1)) hseg (wrote_eq (i + 1)) hr _

/-- What a buffer holds before operation `i` it holds at the end, when no later operation writes it. -/
theorem V_keep (c : Dev nD) (i : ℕ) {r : Ref sig .tc} (hr : r ∉ wrote.drop i) :
    upto hostOps (fun b => m (c, b)) i (Proc.devRef .tc r) = V m c r := by
  have h := after_unwritten (ops := hostOps.drop i) (wrote.drop i) (wrote_eq i) hr (upto hostOps (fun b => m (c, b)) i)
  rw [← h, upto, ← after_append, List.take_append_drop]

theorem V_un (c : Dev nD) (i : ℕ) {x y : Ref sig .tc} {f : x.ty.Contents (Elt Ideal) → y.ty.Contents (Elt Ideal)} {hx hy}
    (hseg : hostOps.drop i = unary x y f hx hy :: hostOps.drop (i + 1)) (hr : y ∉ wrote.drop (i + 1)) (h1 : x ∉ wrote.drop i) :
    V m c y = f (V m c x) := by
  rw [V_op m c i hseg hr, unary_result, V_keep m c i h1]

theorem V_nary (c : Dev nD) (i : ℕ) {n : ℕ} {xs : Fin n → Ref sig .tc} {y : Ref sig .tc} {f : ((k : Fin n) → (xs k).ty.Contents (Elt Ideal)) → y.ty.Contents (Elt Ideal)} {hx hy}
    (hseg : hostOps.drop i = nary xs y f hx hy :: hostOps.drop (i + 1)) (hr : y ∉ wrote.drop (i + 1)) (h1 : ∀ k, xs k ∉ wrote.drop i) :
    V m c y = f (fun k => V m c (xs k)) := by
  rw [V_op m c i hseg hr, nary_result]
  exact congrArg f (funext fun k => V_keep m c i (h1 k))

theorem v15_eq (c : Dev nD) : (V m c main_v15 : Vec Ideal S4096x8x3 .f32) = concatenate S4096x8x3 2 [⟨S4096x8x1, (V m c main_v12 : Vec Ideal S4096x8x1 .f32)⟩, ⟨S4096x8x1, (V m c main_v13 : Vec Ideal S4096x8x1 .f32)⟩, ⟨S4096x8x1, (V m c main_v14 : Vec Ideal S4096x8x1 .f32)⟩] concatenates_S4096x8x1_S4096x8x1_S4096x8x1_S4096x8x3_d2 :=
  V_nary m c 15 (xs := ![main_v12, main_v13, main_v14]) rfl (by decide) (by decide)

theorem v20_eq (c : Dev nD) : (V m c main_v20 : Vec Ideal S4096x8x128 .f32) = concatenate S4096x8x128 2 [⟨S4096x8x64, (V m c main_v19 : Vec Ideal S4096x8x64 .f32)⟩, ⟨S4096x8x3, (V m c main_v15 : Vec Ideal S4096x8x3 .f32)⟩, ⟨S4096x8x3, (V m c main_v16 : Vec Ideal S4096x8x3 .f32)⟩, ⟨S4096x8x58, (V m c main_v17 : Vec Ideal S4096x8x58 .f32)⟩] concatenates_S4096x8x64_S4096x8x3_S4096x8x3_S4096x8x58_S4096x8x128_d2 :=
  V_nary m c 23 (xs := ![main_v19, main_v15, main_v16, main_v17]) rfl (by decide) (by decide)

theorem v24_eq (c : Dev nD) : (V m c main_v24 : Vec Ideal S4096x8x128 .f32) = concatenate S4096x8x128 2 [⟨S4096x8x64, (V m c main_v1 : Vec Ideal S4096x8x64 .f32)⟩, ⟨S4096x8x3, (V m c main_v16 : Vec Ideal S4096x8x3 .f32)⟩, ⟨S4096x8x3, (V m c main_v23 : Vec Ideal S4096x8x3 .f32)⟩, ⟨S4096x8x58, (V m c main_v17 : Vec Ideal S4096x8x58 .f32)⟩] concatenates_S4096x8x64_S4096x8x3_S4096x8x3_S4096x8x58_S4096x8x128_d2 :=
  V_nary m c 27 (xs := ![main_v1, main_v16, main_v23, main_v17]) rfl (by decide) (by decide)

theorem cat3_apply (a b d : Vec Ideal S4096x8x1 .f32) (w : Fin 4096) (h : Fin 8) (x : Fin 3) :
    concatenate S4096x8x3 2 [⟨S4096x8x1, a⟩, ⟨S4096x8x1, b⟩, ⟨S4096x8x1, d⟩] concatenates_S4096x8x1_S4096x8x1_S4096x8x1_S4096x8x3_d2 (ix3 w h x)
    = if x.val = 0 then a (ix3 w h 0) else if x.val = 1 then b (ix3 w h 0) else d (ix3 w h 0) := by
  simp only [pointwise]
  have hx := x.isLt
  by_cases h0 : x.val = 0
  · rw [if_pos h0]; exact (dif_pos (by show x.val < 1; omega)).trans (congrArg a (congrArg (ix3 w h) (Fin.ext (by show x.val = 0; omega))))
  rw [if_neg h0]
  refine (dif_neg (by show ¬ x.val < 1; omega)).trans ?_
  by_cases h1 : x.val = 1
  · rw [if_pos h1]; exact (dif_pos (by show x.val - 1 < 1; omega)).trans (congrArg b (congrArg (ix3 w h) (Fin.ext (by show x.val - 1 = 0; omega))))
  rw [if_neg h1]
  exact (dif_neg (by show ¬ x.val - 1 < 1; omega)).trans (congrArg d (congrArg (ix3 w h) (Fin.ext (by show x.val - 1 - 1 = 0; omega))))

theorem cat_apply (a : Vec Ideal S4096x8x64 .f32) (b d : Vec Ideal S4096x8x3 .f32) (e : Vec Ideal S4096x8x58 .f32) (w : Fin 4096) (h : Fin 8) (x : Fin 128) : concatenate S4096x8x128 2 [⟨S4096x8x64, a⟩, ⟨S4096x8x3, b⟩, ⟨S4096x8x3, d⟩, ⟨S4096x8x58, e⟩] concatenates_S4096x8x64_S4096x8x3_S4096x8x3_S4096x8x58_S4096x8x128_d2 (ix3 w h x)
    = if h1 : x.val < 64 then a (ix3 w h ⟨x.val, h1⟩) else if h2 : x.val < 67 then b (ix3 w h ⟨x.val - 64, by omega⟩) else if h3 : x.val < 70 then d (ix3 w h ⟨x.val - 67, by omega⟩) else e (ix3 w h ⟨x.val - 70, by have := x.isLt; omega⟩) := by
  simp only [pointwise]
  by_cases h1 : x.val < 64
  · rw [dif_pos h1]; exact (dif_pos h1).trans rfl
  rw [dif_neg h1]
  refine (dif_neg h1).trans ?_
  by_cases h2 : x.val < 67
  · rw [dif_pos h2]; exact (dif_pos (by show x.val - 64 < 3; omega)).trans rfl
  rw [dif_neg h2]
  refine (dif_neg (by show ¬ x.val - 64 < 3; omega)).trans ?_
  by_cases h3 : x.val < 70
  · rw [dif_pos h3]; exact (dif_pos (by show x.val - 64 - 3 < 3; omega)).trans (congrArg d (congrArg (ix3 w h) (Fin.ext (by show x.val - 64 - 3 = x.val - 67; omega))))
  rw [dif_neg h3]
  exact (dif_neg (by show ¬ x.val - 64 - 3 < 3; omega)).trans (congrArg e (congrArg (ix3 w h) (Fin.ext (by show x.val - 64 - 3 - 3 = x.val - 70; omega))))

theorem v22_apply (c : Dev nD) (w : Fin 4096) (h : Fin 8) (x : Fin 128) : (V m c main_v22 : Vec Ideal S4096x1024 .bf16) (ix2 w (lane h x)) = (V m c main_v20 : Vec Ideal S4096x8x128 .f32) (ix3 w h x) := by
  have e : (V m c main_v22 : Vec Ideal S4096x1024 .bf16) = shapeCast S4096x1024 (V m c main_v21 : Vec Ideal S4096x8x128 .bf16) shapeCasts_S4096x8x128_S4096x1024 := by
    rw [V_op m c 25 (r := main_v22) rfl (by decide), reshape_result, V_keep m c 25 (by decide)]; rfl
  rw [e]
  simp only [pointwise]
  refine Eq.trans ?_ (congrFun (V_un m c 24 (x := main_v20) (y := main_v21) rfl (by decide) (by decide)) (ix3 w h x))
  have hx := x.isLt
  exact congrArg (V m c main_v21 : Vec Ideal S4096x8x128 .bf16) (congrArg₂ (ix3 w) (Fin.ext (by show (128 * h.val + x.val) / 128 = h.val; omega)) (Fin.ext (by show (128 * h.val + x.val) % 128 = x.val; omega)))

theorem v26_apply (c : Dev nD) (w : Fin 4096) (h : Fin 8) (x : Fin 128) : (V m c main_v26 : Vec Ideal S4096x1024 .bf16) (ix2 w (lane h x)) = (V m c main_v24 : Vec Ideal S4096x8x128 .f32) (ix3 w h x) := by
  have e : (V m c main_v26 : Vec Ideal S4096x1024 .bf16) = shapeCast S4096x1024 (V m c main_v25 : Vec Ideal S4096x8x128 .bf16) shapeCasts_S4096x8x128_S4096x1024 := by
    rw [V_op m c 29 (r := main_v26) rfl (by decide), reshape_result, V_keep m c 29 (by decide)]; rfl
  rw [e]
  simp only [pointwise]
  refine Eq.trans ?_ (congrFun (V_un m c 28 (x := main_v24) (y := main_v25) rfl (by decide) (by decide)) (ix3 w h x))
  have hx := x.isLt
  exact congrArg (V m c main_v25 : Vec Ideal S4096x8x128 .bf16) (congrArg₂ (ix3 w) (Fin.ext (by show (128 * h.val + x.val) / 128 = h.val; omega)) (Fin.ext (by show (128 * h.val + x.val) % 128 = x.val; omega)))

/-- The arguments are these real numbers. -/
structure Args (c : Dev nD) (q k v d : Fin 4096 → Fin 8 → Fin 64 → ℝ) (g : Fin 4096 → Fin 8 → ℝ) : Prop where
  q : ∀ w h e, (m (c, Proc.tc.devRef main_arg0) : Vec Ideal S4096x512 .f32) (ix2 w (feat h e)) = (q w h e : EReal)
  k : ∀ w h e, (m (c, Proc.tc.devRef main_arg1) : Vec Ideal S4096x512 .f32) (ix2 w (feat h e)) = (k w h e : EReal)
  v : ∀ w h e, (m (c, Proc.tc.devRef main_arg2) : Vec Ideal S4096x512 .f32) (ix2 w (feat h e)) = (v w h e : EReal)
  g : ∀ w h, (m (c, Proc.tc.devRef main_arg3) : Vec Ideal S4096x8 .f32) (ix2 w h) = (g w h : EReal)
  d : ∀ w h e, (m (c, Proc.tc.devRef main_arg4) : Vec Ideal S4096x512 .bf16) (ix2 w (feat h e)) = (d w h e : EReal)

/-- The augmented queries. -/
def qa (q : Fin 4096 → Fin 8 → Fin 64 → ℝ) (g : Fin 4096 → Fin 8 → ℝ) (w : Fin 4096) (h : Fin 8) (x : Fin 128) : ℝ :=
  if h1 : x.val < 64 then q w h ⟨x.val, h1⟩ * (1 / 8) else if x.val = 64 then g w h else if x.val < 67 then 0 else if x.val < 70 then 1 else 0
/-- The augmented keys. -/
def ka (k : Fin 4096 → Fin 8 → Fin 64 → ℝ) (g : Fin 4096 → Fin 8 → ℝ) (w : Fin 4096) (h : Fin 8) (x : Fin 128) : ℝ :=
  if h1 : x.val < 64 then k w h ⟨x.val, h1⟩ else if x.val < 67 then 1 else if x.val = 67 then -g w h else 0

variable {m} {c : Dev nD}
theorem one_val : (Ideal.ofBits .f32 1065353216#32 : EReal) = 1 := by
  simp [Ideal.ofBits, Ideal.ieee, -EReal.coe_mul]; norm_num

theorem v16_apply (i : S4096x8x3.Idx) : (V m c main_v16 : Vec Ideal S4096x8x3 .f32) i = (1 : EReal) := by
  rw [← one_val]
  simp only [V, hostOps0, hostOps0_1, hostOps0_2, List.flatten_cons, List.flatten_nil, List.append_nil, List.cons_append, List.nil_append]
  after_results_simp
  simp only [pointwise]
theorem v17_apply (i : S4096x8x58.Idx) : (V m c main_v17 : Vec Ideal S4096x8x58 .f32) i = (0 : EReal) := by
  simp only [V, hostOps0, hostOps0_1, hostOps0_2, List.flatten_cons, List.flatten_nil, List.append_nil, List.cons_append, List.nil_append]
  after_results_simp
  simp only [pointwise]
variable {q k v d : Fin 4096 → Fin 8 → Fin 64 → ℝ} {g : Fin 4096 → Fin 8 → ℝ} (A : Args m c q k v d g)
include A

theorem t0_apply (w : Fin 4096) (h : Fin 8) : (V m c main_v12 : Vec Ideal S4096x8x1 .f32) (ix3 w h 0) = (g w h : EReal) := by
  rw [← A.g w h]
  simp only [V, hostOps0, hostOps0_1, hostOps0_2, List.flatten_cons, List.flatten_nil, List.append_nil, List.cons_append, List.nil_append]
  after_results_simp
  simp only [pointwise]
  rfl
theorem t1_apply (w : Fin 4096) (h : Fin 8) : (V m c main_v13 : Vec Ideal S4096x8x1 .f32) (ix3 w h 0) = (0 : EReal) := by
  have e : (V m c main_v13 : Vec Ideal S4096x8x1 .f32) (ix3 w h 0) = (fun a : EReal => a - a) ((m (c, Proc.tc.devRef main_arg3) : Vec Ideal S4096x8 .f32) (ix2 w h)) := by
    simp only [V, hostOps0, hostOps0_1, hostOps0_2, List.flatten_cons, List.flatten_nil, List.append_nil, List.cons_append, List.nil_append]
    after_results_simp
    simp only [pointwise]
    rfl
  rw [e, A.g]; show (_ : EReal) = _; beta_reduce; rw [← EReal.coe_sub, sub_self, EReal.coe_zero]
theorem t2_apply (w : Fin 4096) (h : Fin 8) : (V m c main_v14 : Vec Ideal S4096x8x1 .f32) (ix3 w h 0) = (0 : EReal) := by
  have e : (V m c main_v14 : Vec Ideal S4096x8x1 .f32) (ix3 w h 0) = (fun a : EReal => (a - a) - (a - a)) ((m (c, Proc.tc.devRef main_arg3) : Vec Ideal S4096x8 .f32) (ix2 w h)) := by
    simp only [V, hostOps0, hostOps0_1, hostOps0_2, List.flatten_cons, List.flatten_nil, List.append_nil, List.cons_append, List.nil_append]
    after_results_simp
    simp only [pointwise]
    rfl
  rw [e, A.g]; show (_ : EReal) = _; beta_reduce; rw [← EReal.coe_sub, sub_self, ← EReal.coe_sub, sub_self, EReal.coe_zero]
theorem v19_apply (w : Fin 4096) (h : Fin 8) (e : Fin 64) : (V m c main_v19 : Vec Ideal S4096x8x64 .f32) (ix3 w h e) = ((q w h e * (1 / 8) : ℝ) : EReal) := by
  rw [EReal.coe_mul, ← A.q w h e, ← scale_val]
  simp only [V, hostOps0, hostOps0_1, hostOps0_2, List.flatten_cons, List.flatten_nil, List.append_nil, List.cons_append, List.nil_append]
  after_results_simp
  simp only [pointwise]
theorem v1_apply (w : Fin 4096) (h : Fin 8) (e : Fin 64) : (V m c main_v1 : Vec Ideal S4096x8x64 .f32) (ix3 w h e) = (k w h e : EReal) := by
  rw [← A.k w h e]
  simp only [V, hostOps0, hostOps0_1, hostOps0_2, List.flatten_cons, List.flatten_nil, List.append_nil, List.cons_append, List.nil_append]
  after_results_simp
  simp only [pointwise]
theorem v15_apply (w : Fin 4096) (h : Fin 8) (x : Fin 3) : (V m c main_v15 : Vec Ideal S4096x8x3 .f32) (ix3 w h x) = ((if x.val = 0 then g w h else 0 : ℝ) : EReal) := by
  rw [v15_eq, cat3_apply, t0_apply A, t1_apply A, t2_apply A, ite_self]
  split_ifs <;> rfl
theorem v23_apply (w : Fin 4096) (h : Fin 8) (x : Fin 3) : (V m c main_v23 : Vec Ideal S4096x8x3 .f32) (ix3 w h x) = ((if x.val = 0 then -g w h else 0 : ℝ) : EReal) := by
  refine (congrFun (V_un m c 26 (x := main_v15) (y := main_v23) rfl (by decide) (by decide)) (ix3 w h x)).trans ?_
  refine (congrArg (fun a : EReal => -a) (v15_apply A w h x)).trans ?_
  beta_reduce
  rw [← EReal.coe_neg]
  split_ifs <;> simp

theorem qa_apply (w : Fin 4096) (h : Fin 8) (x : Fin 128) : (V m c main_v22 : Vec Ideal S4096x1024 .bf16) (ix2 w (lane h x)) = (qa q g w h x : EReal) := by
  rw [v22_apply, v20_eq, cat_apply]
  unfold qa
  by_cases h1 : x.val < 64
  · rw [dif_pos h1, dif_pos h1, v19_apply A]
  rw [dif_neg h1, dif_neg h1]
  by_cases h2 : x.val < 67
  · rw [dif_pos h2, v15_apply A]
    by_cases h3 : x.val = 64
    · rw [if_pos h3, if_pos (by show x.val - 64 = 0; omega)]
    · rw [if_neg h3, if_pos h2, if_neg (by show ¬ x.val - 64 = 0; omega)]
  rw [dif_neg h2, if_neg (by omega), if_neg h2]
  by_cases h3 : x.val < 70
  · rw [dif_pos h3, if_pos h3, v16_apply]; rfl
  · rw [dif_neg h3, if_neg h3, v17_apply]; rfl

theorem ka_apply (w : Fin 4096) (h : Fin 8) (x : Fin 128) : (V m c main_v26 : Vec Ideal S4096x1024 .bf16) (ix2 w (lane h x)) = (ka k g w h x : EReal) := by
  rw [v26_apply, v24_eq, cat_apply]
  unfold ka
  by_cases h1 : x.val < 64
  · rw [dif_pos h1, dif_pos h1, v1_apply A]
  rw [dif_neg h1, dif_neg h1]
  by_cases h2 : x.val < 67
  · rw [dif_pos h2, if_pos h2, v16_apply]; rfl
  rw [dif_neg h2, if_neg h2]
  by_cases h3 : x.val < 70
  · rw [dif_pos h3, v23_apply A]
    by_cases h4 : x.val = 67
    · rw [if_pos h4, if_pos (by show x.val - 67 = 0; omega)]
    · rw [if_neg h4, if_neg (by show ¬ x.val - 67 = 0; omega)]
  · rw [dif_neg h3, if_neg (by omega), v17_apply]; rfl

theorem va_apply (w : Fin 4096) (h : Fin 8) (e : Fin 64) : (V m c main_v27 : Vec Ideal S4096x512 .bf16) (ix2 w (feat h e)) = (v w h e : EReal) := by
  rw [← A.v w h e]
  simp only [V, hostOps0, hostOps0_1, hostOps0_2, List.flatten_cons, List.flatten_nil, List.append_nil, List.cons_append, List.nil_append]
  after_results_simp
  simp only [pointwise]

theorem da_apply (w : Fin 4096) (h : Fin 8) (e : Fin 64) : (V m c main_arg4 : Vec Ideal S4096x512 .bf16) (ix2 w (feat h e)) = (d w h e : EReal) := by
  rw [← A.d w h e]
  simp only [V, hostOps0, hostOps0_1, hostOps0_2, List.flatten_cons, List.flatten_nil, List.append_nil, List.cons_append, List.nil_append]
  after_results_simp

omit A in
/-- The augmented features' product is the score. -/
theorem qa_ka (h : Fin 8) (w n : Fin 4096) : ∑ x : Fin 128, qa q g w h x * ka k g n h x = Cert.Attn.sc q k g h w n := by
  have e1 : ∀ f : Fin 128 → ℝ, ∑ x, f x = (∑ x : Fin 64, f (Fin.castAdd 64 x)) + ∑ x : Fin 64, f (Fin.natAdd 64 x) := fun f => Fin.sum_univ_add (a := 64) (b := 64) f
  have e2 : ∀ f : Fin 64 → ℝ, ∑ x, f x = (∑ x : Fin 6, f (Fin.castAdd 58 x)) + ∑ x : Fin 58, f (Fin.natAdd 6 x) := fun f => Fin.sum_univ_add (a := 6) (b := 58) f
  have z : ∑ x : Fin 58, qa q g w h (Fin.natAdd 64 (Fin.natAdd 6 x)) * ka k g n h (Fin.natAdd 64 (Fin.natAdd 6 x)) = 0 :=
    Finset.sum_eq_zero fun x _ => by
      unfold qa ka
      simp only [Fin.val_natAdd]
      rw [dif_neg (by omega), if_neg (by omega), if_neg (by omega), if_neg (by omega), zero_mul]
  have a : ∑ x : Fin 64, qa q g w h (Fin.castAdd 64 x) * ka k g n h (Fin.castAdd 64 x) = (∑ e, q w h e * k n h e) * (1 / 8) := by
    rw [Finset.sum_mul]
    refine Finset.sum_congr rfl fun x _ => ?_
    unfold qa ka
    rw [dif_pos (show (Fin.castAdd 64 x).val < 64 from x.isLt), dif_pos (show (Fin.castAdd 64 x).val < 64 from x.isLt)]
    show q w h x * (1 / 8) * k n h x = _
    ring
  rw [e1, a, e2 (fun x => qa q g w h (Fin.natAdd 64 x) * ka k g n h (Fin.natAdd 64 x)), z, Fin.sum_univ_six]
  unfold Cert.Attn.sc
  simp [qa, ka]
  ring

end Cert.KernelIdeal.Attn

end
-- ==== Proof.KernelVals.lean ====
module

public import proofs.«01_k».proof.Proof.Point
public import proofs.«01_k».proof.Proof.HostVals
public import proofs.«01_k».proof.Proof.Spec

@[expose] public section

set_option maxRecDepth 16384

noncomputable section

namespace Cert.KernelIdeal.Attn

open Cert.KernelIdeal.Gen
open Idealize.ShloMosaic Idealize.ShloMosaic.TcCoe

/-! ## One point's sums over real inputs -/

/-- Head `h` of pair `p`. -/
abbrev hd (p : Fin 4) (h : Fin 2) : Fin 8 := ⟨2 * p.val + h.val, by have := p.isLt; have := h.isLt; omega⟩
/-- The feature of lane `x` within its head. -/
abbrev ft (x : Fin 128) : Fin 64 := ⟨x.val % 64, Nat.mod_lt _ (by decide)⟩
/-- The head of lane `x` within its pair. -/
abbrev hf (x : Fin 128) : Fin 2 := ⟨x.val / 64, by have := x.isLt; omega⟩

/-- What the six blocks of a point hold, as real numbers. -/
structure Blocks (q k v d : Fin 4096 → Fin 8 → Fin 64 → ℝ) (g : Fin 4096 → Fin 8 → ℝ) (p j : Fin 4)
    (x0 : Vec Ideal S4096x256 .bf16) (x1 : Vec Ideal S4096x128 .bf16) (x2 x3 : Vec Ideal S2x4096x1 .f32) (x4 : Vec Ideal S1024x256 .bf16) (x5 : Vec Ideal S1024x128 .bf16) : Prop where
  h0 : ∀ w h x, x0 (ix2 w (ln h x)) = ((qa q g w (hd p h) x : ℝ) : EReal)
  h1 : ∀ w x, x1 (ix2 w x) = ((d w (hd p (hf x)) (ft x) : ℝ) : EReal)
  h2 : ∀ h w, x2 (ix3 h w 0) = ((Real.log (Cert.Attn.zs q k g (hd p h) w) : ℝ) : EReal)
  h3 : ∀ h w, x3 (ix3 h w 0) = ((Cert.Attn.dl q k v d g (hd p h) w : ℝ) : EReal)
  h4 : ∀ n h x, x4 (ix2 n (ln h x)) = ((ka k g (row j n) (hd p h) x : ℝ) : EReal)
  h5 : ∀ n x, x5 (ix2 n x) = ((v (row j n) (hd p (hf x)) (ft x) : ℝ) : EReal)

variable {q k v d : Fin 4096 → Fin 8 → Fin 64 → ℝ} {g : Fin 4096 → Fin 8 → ℝ} {p j : Fin 4}
variable {x0 : Vec Ideal S4096x256 .bf16} {x1 : Vec Ideal S4096x128 .bf16} {x2 x3 : Vec Ideal S2x4096x1 .f32} {x4 : Vec Ideal S1024x256 .bf16} {x5 : Vec Ideal S1024x128 .bf16}
variable (B : Blocks q k v d g p j x0 x1 x2 x3 x4 x5)

/-- A sum over four blocks of rows is the sum over all rows. -/
theorem sum_rows (f : Fin 4096 → ℝ) : ∑ r : Fin 4, ∑ i : Fin 1024, f (row r i) = ∑ w, f w := by
  rw [← Fintype.sum_prod_type' (f := fun (r : Fin 4) (i : Fin 1024) => f (row r i))]
  refine Fintype.sum_equiv (finProdFinEquiv (m := 4) (n := 1024)) _ f fun y => congrArg f (Fin.ext ?_)
  show 1024 * y.1.val + y.2.val = y.2.val + 1024 * y.1.val
  omega

/-- A sum over a pair's lanes that keeps one head's. -/
theorem sum_half (h : Fin 2) (f : Fin 2 → Fin 64 → ℝ) : ∑ x : Fin 128, (if x.val / 64 = h.val then f (hf x) (ft x) else 0) = ∑ e, f h e := by
  rw [Fin.sum_univ_add (a := 64) (b := 64)]
  have ea : ∀ e : Fin 64, (Fin.castAdd 64 e).val / 64 = 0 := fun e => Nat.div_eq_of_lt e.isLt
  have eb : ∀ e : Fin 64, (Fin.natAdd 64 e).val / 64 = 1 := fun e => by show (64 + e.val) / 64 = 1; have := e.isLt; omega
  have fa : ∀ e : Fin 64, ft (Fin.castAdd 64 e) = e := fun e => Fin.ext (Nat.mod_eq_of_lt e.isLt)
  have fb : ∀ e : Fin 64, ft (Fin.natAdd 64 e) = e := fun e => Fin.ext (by show (64 + e.val) % 64 = e.val; have := e.isLt; omega)
  have ga : ∀ e : Fin 64, hf (Fin.castAdd 64 e) = 0 := fun e => Fin.ext (ea e)
  have gb : ∀ e : Fin 64, hf (Fin.natAdd 64 e) = 1 := fun e => Fin.ext (eb e)
  simp only [ea, eb, fa, fb, ga, gb]
  match h with
  | 0 => simp
  | 1 => simp

include B

theorem PW_real (h : Fin 2) (w : Fin 4096) (n : Fin 1024) : PW x0 x2 x4 j h w n = ((Cert.Attn.wt q k g (hd p h) w (row j n) : ℝ) : EReal) := by
  unfold PW
  rw [Cert.Attn.wt_eq]
  simp only [B.h0, B.h2, B.h4]
  simp only [← EReal.coe_mul]
  rw [Cert.Attn.coe_sum, qa_ka, ← EReal.coe_sub]
  split_ifs
  · exact Ideal.exp_coe _
  · rfl

theorem DP_real (h : Fin 2) (w : Fin 4096) (n : Fin 1024) : DP x1 x5 h w n = ((Cert.Attn.dp v d (hd p h) w (row j n) : ℝ) : EReal) := by
  unfold DP Cert.Attn.dp
  rw [← sum_half h (fun h e => d w (hd p h) e * v (row j n) (hd p h) e), ← Cert.Attn.coe_sum]
  refine Finset.sum_congr rfl fun x _ => ?_
  split_ifs
  · rw [B.h1, B.h5, ← EReal.coe_mul]
  · rfl

theorem DS_real (h : Fin 2) (w : Fin 4096) (n : Fin 1024) : DS x0 x1 x2 x3 x4 x5 j h w n = ((Cert.Attn.ds q k v d g (hd p h) w (row j n) : ℝ) : EReal) := by
  unfold DS Cert.Attn.ds
  rw [PW_real B, DP_real B, B.h3, ← EReal.coe_sub, ← EReal.coe_mul]

/-- The keys' gradient, on a head's features. -/
theorem GK_real (h : Fin 2) (e : Fin 64) (n : Fin 1024) :
    ∑ r : Fin 4, GK x0 x1 x2 x3 x4 x5 j h (Fin.castAdd 64 e) n r = ((Cert.Attn.dk q k v d g (row j n) (hd p h) e : ℝ) : EReal) := by
  unfold GK Cert.Attn.dk
  rw [← sum_rows, ← Cert.Attn.coe_sum]
  refine Finset.sum_congr rfl fun r _ => ?_
  rw [← Cert.Attn.coe_sum]
  refine Finset.sum_congr rfl fun i _ => ?_
  rw [B.h0, DS_real B, ← EReal.coe_mul]
  unfold qa
  rw [dif_pos (show (Fin.castAdd 64 e).val < 64 from e.isLt)]
  rfl

/-- The values' gradient. -/
theorem GV_real (h : Fin 2) (x : Fin 128) (hx : hf x = h) (n : Fin 1024) :
    ∑ r : Fin 4, GV x0 x1 x2 x4 j h x n r = ((Cert.Attn.dv q k d g (row j n) (hd p h) (ft x) : ℝ) : EReal) := by
  unfold GV Cert.Attn.dv
  rw [← sum_rows, ← Cert.Attn.coe_sum]
  refine Finset.sum_congr rfl fun r _ => ?_
  rw [← Cert.Attn.coe_sum]
  refine Finset.sum_congr rfl fun i _ => ?_
  rw [B.h1, PW_real B, ← EReal.coe_mul, hx]

/-- The gates' gradient, its sign turned. -/
theorem GC_real (h : Fin 2) (n : Fin 1024) :
    ∑ r : Fin 4, GC x0 x1 x2 x3 x4 x5 j h n r = ((∑ w, Cert.Attn.ds q k v d g (hd p h) w (row j n) : ℝ) : EReal) := by
  unfold GC
  rw [← sum_rows, ← Cert.Attn.coe_sum]
  refine Finset.sum_congr rfl fun r _ => ?_
  rw [← Cert.Attn.coe_sum]
  exact Finset.sum_congr rfl fun i _ => DS_real B h (row r i) n

/-- A key block's part of the queries' gradient. -/
theorem GQ_real (h : Fin 2) (w : Fin 4096) (e : Fin 64) :
    GQ x0 x1 x2 x3 x4 x5 j h w (Fin.castAdd 64 e) = ((∑ n, Cert.Attn.ds q k v d g (hd p h) w (row j n) * k (row j n) (hd p h) e : ℝ) : EReal) := by
  unfold GQ
  rw [← Cert.Attn.coe_sum]
  refine Finset.sum_congr rfl fun n _ => ?_
  rw [B.h4, DS_real B, ← EReal.coe_mul]
  unfold ka
  rw [dif_pos (show (Fin.castAdd 64 e).val < 64 from e.isLt)]
  rfl

theorem TQ_real (w : Fin 4096) (l : Fin 128) :
    TQ x0 x1 x2 x3 x4 x5 j w l = (((∑ n, Cert.Attn.ds q k v d g (hd p (hf l)) w (row j n) * k (row j n) (hd p (hf l)) (ft l)) * (1 / 8) : ℝ) : EReal) := by
  unfold TQ
  have hl := l.isLt
  rw [EReal.coe_mul]
  refine congrArg₂ (fun a b : EReal => a * b) ?_ rfl
  by_cases h : l.val < 64
  · rw [if_pos h]
    have e : l = Fin.castAdd 64 (ft l) := Fin.ext (Nat.mod_eq_of_lt h).symm
    have e2 : hf l = 0 := Fin.ext (Nat.div_eq_of_lt h)
    rw [e2, ← GQ_real B, ← e]
  · rw [if_neg h]
    have e : half l = Fin.castAdd 64 (ft l) := Fin.ext (by show (l.val + 64) % 128 = l.val % 64; omega)
    have e2 : hf l = 1 := Fin.ext (by show l.val / 64 = 1; omega)
    rw [e2, ← GQ_real B, ← e]

/-! ### The blocks a point writes -/

theorem outK_real (xs : Vec Ideal S4096x128 .f32) (n : Fin 1024) (l : Fin 128) :
    (outK (F := Ideal) (endC (F := Ideal) x0 x1 x2 x3 x4 x5 j xs)) (ix2 n l) = ((Cert.Attn.dk q k v d g (row j n) (hd p (hf l)) (ft l) : ℝ) : EReal) := by
  have hl := l.isLt
  refine (pay71_apply _ _ n l).trans ?_
  by_cases h : l.val < 64
  · rw [if_pos h, endC_dkA]
    have e : l = Fin.castAdd 64 (ft l) := Fin.ext (Nat.mod_eq_of_lt h).symm
    have e2 : hf l = 0 := Fin.ext (Nat.div_eq_of_lt h)
    rw [e2, ← GK_real B, ← e]
  · rw [if_neg h, endC_dkB]
    have e : half l = Fin.castAdd 64 (ft l) := Fin.ext (by show (l.val + 64) % 128 = l.val % 64; omega)
    have e2 : hf l = 1 := Fin.ext (by show l.val / 64 = 1; omega)
    rw [e2, ← GK_real B, ← e]

theorem outV_real (xs : Vec Ideal S4096x128 .f32) (n : Fin 1024) (l : Fin 128) :
    (outV (F := Ideal) (endC (F := Ideal) x0 x1 x2 x3 x4 x5 j xs)) (ix2 n l) = ((Cert.Attn.dv q k d g (row j n) (hd p (hf l)) (ft l) : ℝ) : EReal) := by
  have hl := l.isLt
  refine (pay72_apply _ _ n l).trans ?_
  by_cases h : l.val < 64
  · have e2 : hf l = 0 := Fin.ext (Nat.div_eq_of_lt h)
    rw [if_pos h, endC_dvA, GV_real B 0 l e2, e2]
  · have e2 : hf l = 1 := Fin.ext (by show l.val / 64 = 1; omega)
    rw [if_neg h, endC_dvB, GV_real B 1 l e2, e2]

theorem outC_real (xs : Vec Ideal S4096x128 .f32) (h : Fin 2) (n : Fin 1024) :
    (outC (F := Ideal) (endC (F := Ideal) x0 x1 x2 x3 x4 x5 j xs)) (ix4 h 0 0 n) = ((Cert.Attn.dc q k v d g (hd p h) (row j n) : ℝ) : EReal) := by
  unfold outC Cert.Attn.dc
  rw [EReal.coe_neg, ← GC_real B]
  match h with
  | 0 =>
    refine (if_pos rfl).trans ?_
    refine (pay1_apply _ n).trans ?_
    rw [endC_dcA, zero_sub]
  | 1 =>
    refine (if_neg Nat.one_ne_zero).trans ?_
    refine (pay2_apply _ n).trans ?_
    rw [endC_dcB, zero_sub]

end Cert.KernelIdeal.Attn

end
-- ==== Proof.HostSaved.lean ====
module

public import proofs.«01_k».proof.Proof.HostVals

@[expose] public section

set_option maxRecDepth 16384
set_option maxHeartbeats 1000000

noncomputable section

namespace Cert.KernelIdeal.Attn

open Cert.KernelIdeal.Gen
open Idealize.ShloMosaic Idealize.ShloMosaic.TcCoe Idealize.ShloMosaic.StableHlo

section
variable {m : (ℓ : Loc nD τ sig) → Buf (Elt Ideal) ℓ}

theorem V_tern (c : Dev nD) (i : ℕ) {x a b y : Ref sig .tc} {f : x.ty.Contents (Elt Ideal) → a.ty.Contents (Elt Ideal) → b.ty.Contents (Elt Ideal) → y.ty.Contents (Elt Ideal)} {hx ha hb hy}
    (hseg : hostOps.drop i = ternary x a b y f hx ha hb hy :: hostOps.drop (i + 1)) (hr : y ∉ wrote.drop (i + 1)) (h1 : x ∉ wrote.drop i) (h2 : a ∉ wrote.drop i) (h3 : b ∉ wrote.drop i) :
    V m c y = f (V m c x) (V m c a) (V m c b) := by
  rw [V_op m c i hseg hr, ternary_result, V_keep m c i h1, V_keep m c i h2, V_keep m c i h3]

theorem s44_eq (c : Dev nD) : (V m c main_v44 : Vec Ideal S8x4096x4096 .f32) = select (V m c main_call0_v1 : Vec Ideal S8x4096x4096 .i1) (V m c main_v37 : Vec Ideal S8x4096x4096 .f32) (V m c main_call0_v2 : Vec Ideal S8x4096x4096 .f32) :=
  V_tern c 52 (x := main_call0_v1) (a := main_v37) (b := main_call0_v2) (y := main_v44) rfl (by decide) (by decide) (by decide) (by decide)

theorem s44a_eq (c : Dev nD) : (V m c main_call0_v1 : Vec Ideal S8x4096x4096 .i1) = broadcastInDim S8x4096x4096 ![1, 2] bcast_S4096x4096_S8x4096x4096_1_2 (V m c main_v43 : Vec Ideal S4096x4096 .i1) :=
  V_un m c 50 (x := main_v43) (y := main_call0_v1) rfl (by decide) (by decide)

theorem s44b_eq (c : Dev nD) : (V m c main_call0_v2 : Vec Ideal S8x4096x4096 .f32) = broadcastInDim S8x4096x4096 ![] bcast_S_S8x4096x4096 (V m c main_call0_v0 : Vec Ideal S_ .f32) :=
  V_un m c 51 (x := main_call0_v0) (y := main_call0_v2) rfl (by decide) (by decide)

theorem s44c_eq (c : Dev nD) : (V m c main_call0_v0 : Vec Ideal S_ .f32) = (V m c main_cst_3 : Vec Ideal S_ .f32) :=
  V_un m c 49 (x := main_cst_3) (y := main_call0_v0) rfl (by decide) (by decide)

theorem s44d_eq (c : Dev nD) : (V m c main_cst_3 : Vec Ideal S_ .f32) = (constant S_ .f32 0xFF800000#32 : FVec Ideal S_ .f32) := by
  rw [V_op m c 48 (r := main_cst_3) rfl (by decide), nullary_result]

theorem s43_apply (c : Dev nD) (w n : Fin 4096) : (V m c main_v43 : Vec Ideal S4096x4096 .i1) (ix2 w n) = if n.val ≤ w.val then 1#1 else 0#1 := by
  simp only [V, hostOps0, hostOps0_1, hostOps0_2, List.flatten_cons, List.flatten_nil, List.append_nil, List.cons_append, List.nil_append]
  after_results_simp
  simp only [pointwise]
  show IntOp.cmpi CmpIPredicate.sge (BitVec.ofNat 32 w.val) (BitVec.ofNat 32 n.val) = _
  rw [WordCmp.cmpi_sge_eq, WordCmp.toInt_ofNat_of_lt (by omega), WordCmp.toInt_ofNat_of_lt (by omega)]
  by_cases hh : n.val ≤ w.val <;> simp [hh]

theorem bot_val : (Ideal.ofBits .f32 4286578688#32 : EReal) = ⊥ := by
  simp [Ideal.ofBits, Ideal.ieee, -EReal.coe_mul]

variable {c : Dev nD} {q k v d : Fin 4096 → Fin 8 → Fin 64 → ℝ} {g : Fin 4096 → Fin 8 → ℝ} (A : Args m c q k v d g)

theorem V_bin (c : Dev nD) (i : ℕ) {x a y : Ref sig .tc} {f : x.ty.Contents (Elt Ideal) → a.ty.Contents (Elt Ideal) → y.ty.Contents (Elt Ideal)} {hx ha hy}
    (hseg : hostOps.drop i = binary x a y f hx ha hy :: hostOps.drop (i + 1)) (hr : y ∉ wrote.drop (i + 1)) (h1 : x ∉ wrote.drop i) (h2 : a ∉ wrote.drop i) :
    V m c y = f (V m c x) (V m c a) := by
  rw [V_op m c i hseg hr, binary_result, V_keep m c i h1, V_keep m c i h2]

section
include A
theorem s37_apply (h : Fin 8) (w n : Fin 4096) : (V m c main_v37 : Vec Ideal S8x4096x4096 .f32) (ix3 h w n) = (Cert.Attn.sc q k g h w n : EReal) := by
  have e : (V m c main_v37 : Vec Ideal S8x4096x4096 .f32) (ix3 h w n) = (∑ e : Fin 64, HMul.hMul (α := EReal) (β := EReal) (γ := EReal) ((m (c, Proc.tc.devRef main_arg0) : Vec Ideal S4096x512 .f32) (ix2 w (feat h e))) ((m (c, Proc.tc.devRef main_arg1) : Vec Ideal S4096x512 .f32) (ix2 n (feat h e)))) * ((1 / 8 : ℝ) : EReal) + ((m (c, Proc.tc.devRef main_arg3) : Vec Ideal S4096x8 .f32) (ix2 w h) : EReal) - ((m (c, Proc.tc.devRef main_arg3) : Vec Ideal S4096x8 .f32) (ix2 n h) : EReal) := by
    rw [← scale_val]
    simp only [V, hostOps0, hostOps0_1, hostOps0_2, List.flatten_cons, List.flatten_nil, List.append_nil, List.cons_append, List.nil_append]
    after_results_simp
    simp only [pointwise]
    rw [zero_add]
    rfl
  rw [e, A.g, A.g]
  simp only [A.q, A.k, ← EReal.coe_mul, Cert.Attn.coe_sum, ← EReal.coe_add, ← EReal.coe_sub]
  rfl

theorem s44_apply (h : Fin 8) (w n : Fin 4096) : (V m c main_v44 : Vec Ideal S8x4096x4096 .f32) (ix3 h w n) = if n.val ≤ w.val then (Cert.Attn.sc q k g h w n : EReal) else ⊥ := by
  have e : (V m c main_v44 : Vec Ideal S8x4096x4096 .f32) (ix3 h w n) = Scalar.select ((V m c main_v43 : Vec Ideal S4096x4096 .i1) (ix2 w n)) ((V m c main_v37 : Vec Ideal S8x4096x4096 .f32) (ix3 h w n)) (Ideal.ofBits .f32 4286578688#32) := by
    rw [s44_eq, s44a_eq, s44b_eq, s44c_eq, s44d_eq]
    simp only [pointwise]
    rfl
  rw [e, s43_apply, s37_apply A, bot_val]
  split_ifs <;> rfl
end

/-! ### The saved numbers, operation by operation -/

theorem cst_4_eq (c : Dev nD) : V m c main_cst_4 = ((constant S_ .f32 0xFF800000#32) : FVec Ideal S_ .f32) := by
  rw [V_op m c 53 (r := main_cst_4) rfl (by decide), nullary_result]
theorem v45_eq (c : Dev nD) : V m c main_v45 = ((fun x v => Host.reduce FloatOps.maximumf x v reducesTo_S8x4096x4096_S8x4096_d2 h_S_) : FVec Ideal S8x4096x4096 .f32 → FVec Ideal S_ .f32 → FVec Ideal S8x4096 .f32) (V m c main_v44) (V m c main_cst_4) :=
  V_bin c 54 (x := main_v44) (a := main_cst_4) (y := main_v45) rfl (by decide) (by decide) (by decide)
theorem v46_eq (c : Dev nD) : V m c main_v46 = (broadcastInDim S8x4096x1 ![0, 1] bcast_S8x4096_S8x4096x1_0_1 : FVec Ideal S8x4096 .f32 → FVec Ideal S8x4096x1 .f32) (V m c main_v45) :=
  V_un m c 55 (x := main_v45) (y := main_v46) rfl (by decide) (by decide)
theorem v47_eq (c : Dev nD) : V m c main_v47 = (broadcastInDim S8x4096x4096 ![0, 1, 2] bcast_S8x4096x1_S8x4096x4096_0_1_2 : FVec Ideal S8x4096x1 .f32 → FVec Ideal S8x4096x4096 .f32) (V m c main_v46) :=
  V_un m c 56 (x := main_v46) (y := main_v47) rfl (by decide) (by decide)
theorem v48_eq (c : Dev nD) : V m c main_v48 = (subf : FVec Ideal S8x4096x4096 .f32 → FVec Ideal S8x4096x4096 .f32 → FVec Ideal S8x4096x4096 .f32) (V m c main_v44) (V m c main_v47) :=
  V_bin c 57 (x := main_v44) (a := main_v47) (y := main_v48) rfl (by decide) (by decide) (by decide)
theorem v49_eq (c : Dev nD) : V m c main_v49 = (Host.exp : FVec Ideal S8x4096x4096 .f32 → FVec Ideal S8x4096x4096 .f32) (V m c main_v48) :=
  V_un m c 58 (x := main_v48) (y := main_v49) rfl (by decide) (by decide)
theorem cst_5_eq (c : Dev nD) : V m c main_cst_5 = ((constant S_ .f32 0x00000000#32) : FVec Ideal S_ .f32) := by
  rw [V_op m c 59 (r := main_cst_5) rfl (by decide), nullary_result]
theorem v50_eq (c : Dev nD) : V m c main_v50 = ((fun x v => Host.reduceAdd x v reducesTo_S8x4096x4096_S8x4096_d2 h_S_) : FVec Ideal S8x4096x4096 .f32 → FVec Ideal S_ .f32 → FVec Ideal S8x4096 .f32) (V m c main_v49) (V m c main_cst_5) :=
  V_bin c 60 (x := main_v49) (a := main_cst_5) (y := main_v50) rfl (by decide) (by decide) (by decide)
theorem v51_eq (c : Dev nD) : V m c main_v51 = (broadcastInDim S8x4096x1 ![0, 1] bcast_S8x4096_S8x4096x1_0_1 : FVec Ideal S8x4096 .f32 → FVec Ideal S8x4096x1 .f32) (V m c main_v50) :=
  V_un m c 61 (x := main_v50) (y := main_v51) rfl (by decide) (by decide)
theorem v52_eq (c : Dev nD) : V m c main_v52 = (Host.log : FVec Ideal S8x4096x1 .f32 → FVec Ideal S8x4096x1 .f32) (V m c main_v51) :=
  V_un m c 62 (x := main_v51) (y := main_v52) rfl (by decide) (by decide)
theorem v53_eq (c : Dev nD) : V m c main_v53 = (addf : FVec Ideal S8x4096x1 .f32 → FVec Ideal S8x4096x1 .f32 → FVec Ideal S8x4096x1 .f32) (V m c main_v46) (V m c main_v52) :=
  V_bin c 63 (x := main_v46) (a := main_v52) (y := main_v53) rfl (by decide) (by decide) (by decide)
theorem v54_eq (c : Dev nD) : V m c main_v54 = (broadcastInDim S8x4096x4096 ![0, 1, 2] bcast_S8x4096x1_S8x4096x4096_0_1_2 : FVec Ideal S8x4096x1 .f32 → FVec Ideal S8x4096x4096 .f32) (V m c main_v53) :=
  V_un m c 64 (x := main_v53) (y := main_v54) rfl (by decide) (by decide)
theorem v55_eq (c : Dev nD) : V m c main_v55 = (subf : FVec Ideal S8x4096x4096 .f32 → FVec Ideal S8x4096x4096 .f32 → FVec Ideal S8x4096x4096 .f32) (V m c main_v44) (V m c main_v54) :=
  V_bin c 65 (x := main_v44) (a := main_v54) (y := main_v55) rfl (by decide) (by decide) (by decide)
theorem v56_eq (c : Dev nD) : V m c main_v56 = (Host.exp : FVec Ideal S8x4096x4096 .f32 → FVec Ideal S8x4096x4096 .f32) (V m c main_v55) :=
  V_un m c 66 (x := main_v55) (y := main_v56) rfl (by decide) (by decide)
theorem v57_eq (c : Dev nD) : V m c main_v57 = ((fun l r => Host.dotGeneral dot_S4096x8x64_S8x4096x4096_S8x64x4096_0_2_2_1_1_0 none l r) : FVec Ideal S4096x8x64 .f32 → FVec Ideal S8x4096x4096 .f32 → FVec Ideal S8x64x4096 .f32) (V m c main_v2) (V m c main_v56) :=
  V_bin c 67 (x := main_v2) (a := main_v56) (y := main_v57) rfl (by decide) (by decide) (by decide)
theorem v58_eq (c : Dev nD) : V m c main_v58 = ((transpose S4096x8x64 [2, 0, 1] · transposes_S8x64x4096_S4096x8x64_2_0_1) : FVec Ideal S8x64x4096 .f32 → FVec Ideal S4096x8x64 .f32) (V m c main_v57) :=
  V_un m c 68 (x := main_v57) (y := main_v58) rfl (by decide) (by decide)
theorem v59_eq (c : Dev nD) : V m c main_v59 = ((extf .f32 · bitsLt_bf16_f32) : FVec Ideal S4096x512 .bf16 → FVec Ideal S4096x512 .f32) (V m c main_arg4) :=
  V_un m c 69 (x := main_arg4) (y := main_v59) rfl (by decide) (by decide)
theorem v61_eq (c : Dev nD) : V m c main_v61 = (mulf : FVec Ideal S4096x8x64 .f32 → FVec Ideal S4096x8x64 .f32 → FVec Ideal S4096x8x64 .f32) (V m c main_v58) (V m c main_v60) :=
  V_bin c 71 (x := main_v58) (a := main_v60) (y := main_v61) rfl (by decide) (by decide) (by decide)
theorem cst_6_eq (c : Dev nD) : V m c main_cst_6 = ((constant S_ .f32 0x00000000#32) : FVec Ideal S_ .f32) := by
  rw [V_op m c 72 (r := main_cst_6) rfl (by decide), nullary_result]
theorem v62_eq (c : Dev nD) : V m c main_v62 = ((fun x v => Host.reduceAdd x v reducesTo_S4096x8x64_S4096x8_d2 h_S_) : FVec Ideal S4096x8x64 .f32 → FVec Ideal S_ .f32 → FVec Ideal S4096x8 .f32) (V m c main_v61) (V m c main_cst_6) :=
  V_bin c 73 (x := main_v61) (a := main_cst_6) (y := main_v62) rfl (by decide) (by decide) (by decide)
theorem v63_eq (c : Dev nD) : V m c main_v63 = ((transpose S8x4096 [1, 0] · transposes_S4096x8_S8x4096_1_0) : FVec Ideal S4096x8 .f32 → FVec Ideal S8x4096 .f32) (V m c main_v62) :=
  V_un m c 74 (x := main_v62) (y := main_v63) rfl (by decide) (by decide)
theorem v64_eq (c : Dev nD) : V m c main_v64 = (broadcastInDim S8x4096x1 ![0, 1] bcast_S8x4096_S8x4096x1_0_1 : FVec Ideal S8x4096 .f32 → FVec Ideal S8x4096x1 .f32) (V m c main_v63) :=
  V_un m c 75 (x := main_v63) (y := main_v64) rfl (by decide) (by decide)

theorem v45_apply (h : Fin 8) (w : Fin 4096) : (V m c main_v45 : Vec Ideal S8x4096 .f32) (ix2 h w) = Finset.fold max (⊥ : EReal) (fun n : Fin 4096 => (V m c main_v44 : Vec Ideal S8x4096x4096 .f32) (ix3 h w n)) Finset.univ := by
  rw [v45_eq, cst_4_eq]
  generalize V m c main_v44 = S
  simp only [pointwise]
  rw [bot_val]
theorem v50_apply (h : Fin 8) (w : Fin 4096) : (V m c main_v50 : Vec Ideal S8x4096 .f32) (ix2 h w) = (∑ n : Fin 4096, (V m c main_v49 : Vec Ideal S8x4096x4096 .f32) (ix3 h w n) : EReal) := by
  rw [v50_eq, cst_5_eq]
  generalize V m c main_v49 = S
  simp only [pointwise]
  exact zero_add (M := EReal) _
theorem v49_apply (h : Fin 8) (w n : Fin 4096) : (V m c main_v49 : Vec Ideal S8x4096x4096 .f32) (ix3 h w n) = Ideal.exp (HSub.hSub (α := EReal) (β := EReal) (γ := EReal) ((V m c main_v44 : Vec Ideal S8x4096x4096 .f32) (ix3 h w n)) ((V m c main_v45 : Vec Ideal S8x4096 .f32) (ix2 h w))) := by
  rw [v49_eq, v48_eq, v47_eq, v46_eq]
  generalize V m c main_v44 = S0
  generalize V m c main_v45 = S1
  simp only [pointwise]
  rfl
theorem row_apply (a : Vec Ideal S8x4096 .f32) (h : Fin 8) (w : Fin 4096) : broadcastInDim S8x4096x1 ![0, 1] bcast_S8x4096_S8x4096x1_0_1 a (ix3 h w 0) = a (ix2 h w) := by
  simp only [pointwise]
  rfl
theorem v53_apply (h : Fin 8) (w : Fin 4096) : (V m c main_v53 : Vec Ideal S8x4096x1 .f32) (ix3 h w 0) = HAdd.hAdd (α := EReal) (β := EReal) (γ := EReal) ((V m c main_v45 : Vec Ideal S8x4096 .f32) (ix2 h w)) (Ideal.log ((V m c main_v50 : Vec Ideal S8x4096 .f32) (ix2 h w))) := by
  have e : ∀ (S0 S1 : Vec Ideal S8x4096 .f32), (addf (broadcastInDim S8x4096x1 ![0, 1] bcast_S8x4096_S8x4096x1_0_1 S0) (Host.log (broadcastInDim S8x4096x1 ![0, 1] bcast_S8x4096_S8x4096x1_0_1 S1) : FVec Ideal S8x4096x1 .f32) : FVec Ideal S8x4096x1 .f32) (ix3 h w 0) = (S0 (ix2 h w) : EReal) + Ideal.log (S1 (ix2 h w)) :=
    fun S0 S1 => congrArg₂ (fun a b : EReal => a + Ideal.log b) (row_apply S0 h w) (row_apply S1 h w)
  have h1 : (V m c main_v53 : FVec Ideal S8x4096x1 .f32) = addf (broadcastInDim S8x4096x1 ![0, 1] bcast_S8x4096_S8x4096x1_0_1 (V m c main_v45 : FVec Ideal S8x4096 .f32)) (Host.log (broadcastInDim S8x4096x1 ![0, 1] bcast_S8x4096_S8x4096x1_0_1 (V m c main_v50 : FVec Ideal S8x4096 .f32)) : FVec Ideal S8x4096x1 .f32) :=
    (v53_eq c).trans (congrArg₂ (addf : FVec Ideal S8x4096x1 .f32 → FVec Ideal S8x4096x1 .f32 → FVec Ideal S8x4096x1 .f32) (v46_eq c) ((v52_eq c).trans (congrArg (Host.log : FVec Ideal S8x4096x1 .f32 → FVec Ideal S8x4096x1 .f32) (v51_eq c))))
  exact (congrFun h1 (ix3 h w 0)).trans (e _ _)
theorem v56_apply (h : Fin 8) (w n : Fin 4096) : (V m c main_v56 : Vec Ideal S8x4096x4096 .f32) (ix3 h w n) = Ideal.exp (HSub.hSub (α := EReal) (β := EReal) (γ := EReal) ((V m c main_v44 : Vec Ideal S8x4096x4096 .f32) (ix3 h w n)) ((V m c main_v53 : Vec Ideal S8x4096x1 .f32) (ix3 h w 0))) := by
  rw [v56_eq, v55_eq, v54_eq]
  generalize V m c main_v44 = S0
  generalize V m c main_v53 = S1
  simp only [pointwise]
  rfl
theorem v58_apply (w : Fin 4096) (h : Fin 8) (e : Fin 64) : (V m c main_v58 : Vec Ideal S4096x8x64 .f32) (ix3 w h e) = (∑ n : Fin 4096, HMul.hMul (α := EReal) (β := EReal) (γ := EReal) ((V m c main_v2 : Vec Ideal S4096x8x64 .f32) (ix3 n h e)) ((V m c main_v56 : Vec Ideal S8x4096x4096 .f32) (ix3 h w n))) := by
  rw [v58_eq, v57_eq]
  generalize V m c main_v2 = S0
  generalize V m c main_v56 = S1
  simp only [pointwise]
  exact zero_add (M := EReal) _
theorem v64_apply (h : Fin 8) (w : Fin 4096) : (V m c main_v64 : Vec Ideal S8x4096x1 .f32) (ix3 h w 0) = (∑ e : Fin 64, HMul.hMul (α := EReal) (β := EReal) (γ := EReal) ((V m c main_v58 : Vec Ideal S4096x8x64 .f32) (ix3 w h e)) ((V m c main_v60 : Vec Ideal S4096x8x64 .f32) (ix3 w h e))) := by
  rw [v64_eq, v63_eq, v62_eq, v61_eq, cst_6_eq]
  generalize V m c main_v58 = S0
  generalize V m c main_v60 = S1
  simp only [pointwise]
  exact zero_add (M := EReal) _

section
include A

theorem v2_apply (w : Fin 4096) (h : Fin 8) (e : Fin 64) : (V m c main_v2 : Vec Ideal S4096x8x64 .f32) (ix3 w h e) = (v w h e : EReal) := by
  rw [← A.v w h e]
  simp only [V, hostOps0, hostOps0_1, hostOps0_2, List.flatten_cons, List.flatten_nil, List.append_nil, List.cons_append, List.nil_append]
  after_results_simp
  simp only [pointwise]

theorem v60_apply (w : Fin 4096) (h : Fin 8) (e : Fin 64) : (V m c main_v60 : Vec Ideal S4096x8x64 .f32) (ix3 w h e) = (d w h e : EReal) := by
  rw [← A.d w h e]
  simp only [V, hostOps0, hostOps0_1, hostOps0_2, List.flatten_cons, List.flatten_nil, List.append_nil, List.cons_append, List.nil_append]
  after_results_simp
  simp only [pointwise]

/-- A row's largest score is a real number. -/
theorem max_apply (h : Fin 8) (w : Fin 4096) : ∃ M : ℝ, (V m c main_v45 : Vec Ideal S8x4096 .f32) (ix2 h w) = (M : EReal) := by
  rw [v45_apply]
  simp only [s44_apply A]
  refine Cert.Attn.fold_max _ _ (fun n => ?_) w (Finset.mem_univ _) ?_
  · split_ifs
    · exact EReal.coe_ne_top _
    · exact bot_ne_top
  · rw [if_pos le_rfl]; exact EReal.coe_ne_bot _

omit A in
/-- The exponential of a masked score with a number taken off. -/
theorem exp_mask (p : Prop) [Decidable p] (x y : ℝ) : Ideal.exp ((if p then (x : EReal) else ⊥) - (y : EReal)) = ((if p then Real.exp (x - y) else 0 : ℝ) : EReal) := by
  split_ifs
  · rw [← EReal.coe_sub]; exact Ideal.exp_coe _
  · rw [sub_eq_add_neg, EReal.bot_add]; rfl

/-- The saved logarithm of a row's sum of exponentials. -/
theorem lse_apply (h : Fin 8) (w : Fin 4096) : (V m c main_v53 : Vec Ideal S8x4096x1 .f32) (ix3 h w 0) = (Real.log (Cert.Attn.zs q k g h w) : EReal) := by
  obtain ⟨M, hM⟩ := max_apply A h w
  have e49 : ∀ n : Fin 4096, (V m c main_v49 : Vec Ideal S8x4096x4096 .f32) (ix3 h w n) = (Cert.Attn.exm q k g M h w n : EReal) := fun n => by
    rw [v49_apply, s44_apply A, hM]
    exact exp_mask _ _ _
  have e50 : (V m c main_v50 : Vec Ideal S8x4096 .f32) (ix2 h w) = ((∑ n, Cert.Attn.exm q k g M h w n : ℝ) : EReal) := by
    rw [v50_apply]; simp only [e49]; exact Cert.Attn.coe_sum _ _
  rw [v53_apply, e50, hM, Ideal.log_coe, if_neg (not_le.2 (Cert.Attn.sum_exm_pos q k g M h w))]
  show (M : EReal) + (Real.log _ : EReal) = _
  rw [← EReal.coe_add, Cert.Attn.lse_eq]

/-- The saved product of a query's output and cotangent. -/
theorem delta_apply (h : Fin 8) (w : Fin 4096) : (V m c main_v64 : Vec Ideal S8x4096x1 .f32) (ix3 h w 0) = (Cert.Attn.dl q k v d g h w : EReal) := by
  have e56 : ∀ n : Fin 4096, (V m c main_v56 : Vec Ideal S8x4096x4096 .f32) (ix3 h w n) = (Cert.Attn.wt q k g h w n : EReal) := fun n => by
    rw [v56_apply, s44_apply A, lse_apply A, Cert.Attn.wt_eq]
    exact exp_mask _ _ _
  have e58 : ∀ e : Fin 64, (V m c main_v58 : Vec Ideal S4096x8x64 .f32) (ix3 w h e) = ((∑ n, v n h e * Cert.Attn.wt q k g h w n : ℝ) : EReal) := fun e => by
    rw [v58_apply]
    simp only [e56, v2_apply A, ← EReal.coe_mul]
    exact Cert.Attn.coe_sum _ _
  rw [v64_apply]
  simp only [e58, v60_apply A, ← EReal.coe_mul]
  exact Cert.Attn.coe_sum _ _

end
end
end Cert.KernelIdeal.Attn

end
-- ==== Proof.OutVals.lean ====
module

public import proofs.«01_k».proof.Proof.Frame
public import proofs.«01_k».proof.Proof.KernelVals
public import proofs.«01_k».proof.Proof.HostSaved
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.SL.Sem
open Idealize.ShloMosaic.Pipeline (Dat)

/-! ## The result arrays over real arguments -/

variable {m : (ℓ : Loc nD τ sig) → Buf (Elt Ideal) ℓ} {c : Dev nD}

/-- The point's pair of heads. -/
abbrev pOf (t : Fin cfg0.N) : Fin 4 := ⟨t.val / 4, by have ht : t.val < 16 := Nat.lt_of_lt_of_eq t.isLt N_0; omega⟩

theorem idx_0 : ∀ t : Fin cfg0.N, win0_0.index t 0 = 0 ∧ win0_0.index t 1 = t.val / 4 := by decide +kernel
theorem idx_1 : ∀ t : Fin cfg0.N, win0_1.index t 0 = 0 ∧ win0_1.index t 1 = t.val / 4 := by decide +kernel
theorem idx_2 : ∀ t : Fin cfg0.N, win0_2.index t 0 = t.val / 4 ∧ win0_2.index t 1 = 0 ∧ win0_2.index t 2 = 0 := by decide +kernel
theorem idx_3 : ∀ t : Fin cfg0.N, win0_3.index t 0 = t.val / 4 ∧ win0_3.index t 1 = 0 ∧ win0_3.index t 2 = 0 := by decide +kernel
theorem idx_4 : ∀ t : Fin cfg0.N, win0_4.index t 0 = t.val % 4 ∧ win0_4.index t 1 = t.val / 4 := by decide +kernel
theorem idx_5 : ∀ t : Fin cfg0.N, win0_5.index t 0 = t.val % 4 ∧ win0_5.index t 1 = t.val / 4 := by decide +kernel
theorem idx_6 : ∀ t : Fin cfg0.N, win0_6.index t 0 = 0 ∧ win0_6.index t 1 = t.val / 4 := by decide +kernel
theorem idx_7 : ∀ t : Fin cfg0.N, win0_7.index t 0 = t.val % 4 ∧ win0_7.index t 1 = t.val / 4 := by decide +kernel
theorem idx_8 : ∀ t : Fin cfg0.N, win0_8.index t 0 = t.val % 4 ∧ win0_8.index t 1 = t.val / 4 := by decide +kernel
theorem idx_9 : ∀ t : Fin cfg0.N, win0_9.index t 0 = t.val / 4 ∧ win0_9.index t 1 = t.val % 4 ∧ win0_9.index t 2 = 0 ∧ win0_9.index t 3 = 0 := by decide +kernel

/-! ### The input blocks -/

theorem rd_0 (U : Vec Ideal S4096x1024 .bf16) (t : Fin cfg0.N) (w : Fin 4096) (h : Fin 2) (x : Fin 128) :
    (((cfg0.win 0).blk t).view.read (Elt Ideal) U : Vec Ideal S4096x256 .bf16) (ix2 w (ln h x)) = U (ix2 w (lane (hd (pOf t) h) x)) := by
  rw [View.read_apply]
  refine congrArg U ?_
  funext a
  match a with
  | 0 => exact Fin.ext (by show win0_0.index t 0 * 4096 + 1 * w.val = w.val; rw [(idx_0 t).1]; omega)
  | 1 => exact Fin.ext (by show win0_0.index t 1 * 256 + 1 * (128 * h.val + x.val) = 128 * (2 * (t.val / 4) + h.val) + x.val; rw [(idx_0 t).2]; omega)
theorem rd_1 (U : Vec Ideal S4096x512 .bf16) (t : Fin cfg0.N) (w : Fin 4096) (x : Fin 128) :
    (((cfg0.win 1).blk t).view.read (Elt Ideal) U : Vec Ideal S4096x128 .bf16) (ix2 w x) = U (ix2 w (feat (hd (pOf t) (hf x)) (ft x))) := by
  rw [View.read_apply]
  refine congrArg U ?_
  funext a
  match a with
  | 0 => exact Fin.ext (by show win0_1.index t 0 * 4096 + 1 * w.val = w.val; rw [(idx_1 t).1]; omega)
  | 1 => exact Fin.ext (by show win0_1.index t 1 * 128 + 1 * x.val = (2 * (t.val / 4) + x.val / 64) * 64 + x.val % 64; rw [(idx_1 t).2]; omega)
theorem rd_2 (U : Vec Ideal S8x4096x1 .f32) (t : Fin cfg0.N) (h : Fin 2) (w : Fin 4096) :
    (((cfg0.win 2).blk t).view.read (Elt Ideal) U : Vec Ideal S2x4096x1 .f32) (ix3 h w 0) = U (ix3 (hd (pOf t) h) w 0) := by
  rw [View.read_apply]
  refine congrArg U ?_
  funext a
  match a with
  | 0 => exact Fin.ext (by show win0_2.index t 0 * 2 + 1 * h.val = 2 * (t.val / 4) + h.val; rw [(idx_2 t).1]; omega)
  | 1 => exact Fin.ext (by show win0_2.index t 1 * 4096 + 1 * w.val = w.val; rw [(idx_2 t).2.1]; omega)
  | 2 => exact Fin.ext (by show win0_2.index t 2 * 1 + 1 * 0 = 0; rw [(idx_2 t).2.2])
theorem rd_3 (U : Vec Ideal S8x4096x1 .f32) (t : Fin cfg0.N) (h : Fin 2) (w : Fin 4096) :
    (((cfg0.win 3).blk t).view.read (Elt Ideal) U : Vec Ideal S2x4096x1 .f32) (ix3 h w 0) = U (ix3 (hd (pOf t) h) w 0) := by
  rw [View.read_apply]
  refine congrArg U ?_
  funext a
  match a with
  | 0 => exact Fin.ext (by show win0_3.index t 0 * 2 + 1 * h.val = 2 * (t.val / 4) + h.val; rw [(idx_3 t).1]; omega)
  | 1 => exact Fin.ext (by show win0_3.index t 1 * 4096 + 1 * w.val = w.val; rw [(idx_3 t).2.1]; omega)
  | 2 => exact Fin.ext (by show win0_3.index t 2 * 1 + 1 * 0 = 0; rw [(idx_3 t).2.2])
theorem rd_4 (U : Vec Ideal S4096x1024 .bf16) (t : Fin cfg0.N) (n : Fin 1024) (h : Fin 2) (x : Fin 128) :
    (((cfg0.win 4).blk t).view.read (Elt Ideal) U : Vec Ideal S1024x256 .bf16) (ix2 n (ln h x)) = U (ix2 (row (jOf t) n) (lane (hd (pOf t) h) x)) := by
  rw [View.read_apply]
  refine congrArg U ?_
  funext a
  match a with
  | 0 => exact Fin.ext (by show win0_4.index t 0 * 1024 + 1 * n.val = 1024 * (grid0.coords t 1).val + n.val; rw [(idx_4 t).1, coords_snd]; omega)
  | 1 => exact Fin.ext (by show win0_4.index t 1 * 256 + 1 * (128 * h.val + x.val) = 128 * (2 * (t.val / 4) + h.val) + x.val; rw [(idx_4 t).2]; omega)
theorem rd_5 (U : Vec Ideal S4096x512 .bf16) (t : Fin cfg0.N) (n : Fin 1024) (x : Fin 128) :
    (((cfg0.win 5).blk t).view.read (Elt Ideal) U : Vec Ideal S1024x128 .bf16) (ix2 n x) = U (ix2 (row (jOf t) n) (feat (hd (pOf t) (hf x)) (ft x))) := by
  rw [View.read_apply]
  refine congrArg U ?_
  funext a
  match a with
  | 0 => exact Fin.ext (by show win0_5.index t 0 * 1024 + 1 * n.val = 1024 * (grid0.coords t 1).val + n.val; rw [(idx_5 t).1, coords_snd]; omega)
  | 1 => exact Fin.ext (by show win0_5.index t 1 * 128 + 1 * x.val = (2 * (t.val / 4) + x.val / 64) * 64 + x.val % 64; rw [(idx_5 t).2]; omega)

theorem in_0 (t : Fin cfg0.N) (w : Fin 4096) (h : Fin 2) (x : Fin 128) :
    (iblk m c 0 t : Vec Ideal S4096x256 .bf16) (ix2 w (ln h x)) = (V m c main_v22 : Vec Ideal S4096x1024 .bf16) (ix2 w (lane (hd (pOf t) h) x)) := rd_0 (V m c main_v22) t w h x
theorem in_1 (t : Fin cfg0.N) (w : Fin 4096) (x : Fin 128) :
    (iblk m c 1 t : Vec Ideal S4096x128 .bf16) (ix2 w x) = (V m c main_arg4 : Vec Ideal S4096x512 .bf16) (ix2 w (feat (hd (pOf t) (hf x)) (ft x))) := rd_1 (V m c main_arg4) t w x
theorem in_2 (t : Fin cfg0.N) (h : Fin 2) (w : Fin 4096) :
    (iblk m c 2 t : Vec Ideal S2x4096x1 .f32) (ix3 h w 0) = (V m c main_v53 : Vec Ideal S8x4096x1 .f32) (ix3 (hd (pOf t) h) w 0) := rd_2 (V m c main_v53) t h w
theorem in_3 (t : Fin cfg0.N) (h : Fin 2) (w : Fin 4096) :
    (iblk m c 3 t : Vec Ideal S2x4096x1 .f32) (ix3 h w 0) = (V m c main_v64 : Vec Ideal S8x4096x1 .f32) (ix3 (hd (pOf t) h) w 0) := rd_3 (V m c main_v64) t h w
theorem in_4 (t : Fin cfg0.N) (n : Fin 1024) (h : Fin 2) (x : Fin 128) :
    (iblk m c 4 t : Vec Ideal S1024x256 .bf16) (ix2 n (ln h x)) = (V m c main_v26 : Vec Ideal S4096x1024 .bf16) (ix2 (row (jOf t) n) (lane (hd (pOf t) h) x)) := rd_4 (V m c main_v26) t n h x
theorem in_5 (t : Fin cfg0.N) (n : Fin 1024) (x : Fin 128) :
    (iblk m c 5 t : Vec Ideal S1024x128 .bf16) (ix2 n x) = (V m c main_v27 : Vec Ideal S4096x512 .bf16) (ix2 (row (jOf t) n) (feat (hd (pOf t) (hf x)) (ft x))) := rd_5 (V m c main_v27) t n x

variable {q k v d : Fin 4096 → Fin 8 → Fin 64 → ℝ} {g : Fin 4096 → Fin 8 → ℝ} (A : Args m c q k v d g)
include A

theorem blocks (t : Fin cfg0.N) : Blocks q k v d g (pOf t) (jOf t) (iblk m c 0 t) (iblk m c 1 t) (iblk m c 2 t) (iblk m c 3 t) (iblk m c 4 t) (iblk m c 5 t) where
  h0 w h x := (in_0 t w h x).trans (qa_apply A w _ x)
  h1 w x := (in_1 t w x).trans (da_apply A w _ _)
  h2 h w := (in_2 t h w).trans (lse_apply A _ w)
  h3 h w := (in_3 t h w).trans (delta_apply A _ w)
  h4 n h x := (in_4 t n h x).trans (ka_apply A _ _ x)
  h5 n x := (in_5 t n x).trans (va_apply A _ _ _)

/-! ### The accumulator -/

omit A in
/-- The part of a query's gradient from key block `j`. -/
def qp (q k v d : Fin 4096 → Fin 8 → Fin 64 → ℝ) (g : Fin 4096 → Fin 8 → ℝ) (w : Fin 4096) (h : Fin 8) (e : Fin 64) (j : ℕ) : ℝ :=
  if hj : j < 4 then (∑ n, Cert.Attn.ds q k v d g h w (row ⟨j, hj⟩ n) * k (row ⟨j, hj⟩ n) h e) * (1 / 8) else 0

omit A in
theorem sum_qp (w : Fin 4096) (h : Fin 8) (e : Fin 64) : ∑ j ∈ Finset.range 4, qp q k v d g w h e j = Cert.Attn.dq q k v d g w h e := by
  unfold Cert.Attn.dq
  rw [Finset.sum_range, ← sum_rows (fun n => Cert.Attn.ds q k v d g h w n * k n h e), Finset.sum_mul]
  exact Finset.sum_congr rfl fun j _ => dif_pos j.isLt

theorem acc_step (t : Fin cfg0.N) (xs : Vec Ideal S4096x128 .f32) (w : Fin 4096) (l : Fin 128) :
    accAt m c t xs (ix2 w l) = xs (ix2 w l) + ((qp q k v d g w (hd (pOf t) (hf l)) (ft l) (t.val % 4) : ℝ) : EReal) := by
  have hw := w.isLt
  obtain ⟨r, i, rfl⟩ : ∃ (r : Fin 4) (i : Fin 1024), w = row r i :=
    ⟨⟨w.val / 1024, by omega⟩, ⟨w.val % 1024, Nat.mod_lt _ (by decide)⟩, Fin.ext (by show w.val = 1024 * (w.val / 1024) + w.val % 1024; omega)⟩
  refine (endS_apply (iblk m c 0 t) (iblk m c 1 t) (iblk m c 2 t) (iblk m c 3 t) (iblk m c 4 t) (iblk m c 5 t) (jOf t) xs r i l).trans ?_
  refine congrArg (fun a : EReal => xs (ix2 (row r i) l) + a) ?_
  rw [TQ_real (blocks A t)]
  unfold qp
  rw [dif_pos (show t.val % 4 < 4 from Nat.mod_lt _ (by decide))]
  have e : (⟨t.val % 4, Nat.mod_lt _ (by decide)⟩ : Fin 4) = jOf t := Fin.ext (coords_snd t).symm
  rw [e]

theorem acc_real (w : Fin 4096) (l : Fin 128) : ∀ (n : ℕ) (h : n < cfg0.N),
    accAt m c ⟨n, h⟩ (scIn m c n h) (ix2 w l) = ((∑ j ∈ Finset.range (n % 4 + 1), qp q k v d g w (hd (pOf ⟨n, h⟩) (hf l)) (ft l) j : ℝ) : EReal) := by
  intro n
  induction n with
  | zero =>
    intro h
    rw [acc_step A, scIn_first m c 0 h rfl]
    refine (congrArg (fun a : EReal => a + _) (pay31_apply w l)).trans ?_
    show (0 : EReal) + _ = _
    rw [zero_add (M := EReal)]
    simp
  | succ n ih =>
    intro h
    by_cases hn : (n + 1) % 4 = 0
    · rw [acc_step A, scIn_first m c (n + 1) h hn]
      refine (congrArg (fun a : EReal => a + _) (pay31_apply w l)).trans ?_
      show (0 : EReal) + _ = _
      rw [zero_add (M := EReal)]
      simp only [hn]
      simp
    · rw [acc_step A, scIn_next m c n h hn, ih (Nat.lt_of_succ_lt h)]
      have e1 : (n + 1) % 4 = n % 4 + 1 := by omega
      have e2 : pOf ⟨n, Nat.lt_of_succ_lt h⟩ = pOf ⟨n + 1, h⟩ := Fin.ext (by show n / 4 = (n + 1) / 4; omega)
      rw [e2, e1, Finset.sum_range_succ _ (n % 4 + 1), EReal.coe_add]

end Cert.KernelIdeal.Attn

end
-- ==== Proof.OutArr.lean ====
module

public import proofs.«01_k».proof.Proof.OutVals

@[expose] public section

set_option maxRecDepth 16384

noncomputable section

namespace Cert.KernelIdeal.Attn

open Cert.KernelIdeal.Gen
open Idealize.ShloMosaic Idealize.ShloMosaic.TcCoe Idealize.SL.Sem
open Idealize.ShloMosaic.Pipeline (Dat)

/-! ## The result arrays, whole -/

/-- The head of a feature column. -/
abbrev hd8 (l : Fin 512) : Fin 8 := ⟨l.val / 64, by have := l.isLt; omega⟩
/-- The feature of a feature column within its head. -/
abbrev ft8 (l : Fin 512) : Fin 64 := ⟨l.val % 64, Nat.mod_lt _ (by decide)⟩

theorem hd8_feat (h : Fin 8) (e : Fin 64) : hd8 (feat h e) = h := Fin.ext (by show (h.val * 64 + e.val) / 64 = h.val; have := e.isLt; omega)
theorem ft8_feat (h : Fin 8) (e : Fin 64) : ft8 (feat h e) = e := Fin.ext (by show (h.val * 64 + e.val) % 64 = e.val; have := e.isLt; omega)

variable (q k v d : Fin 4096 → Fin 8 → Fin 64 → ℝ) (g : Fin 4096 → Fin 8 → ℝ)

/-- The queries' gradient, as an array. -/
def gQ' : Vec Ideal S4096x512 .bf16 := fun i => ((Cert.Attn.dq q k v d g (i 0) (hd8 (i 1)) (ft8 (i 1)) : ℝ) : EReal)
/-- The keys' gradient, as an array. -/
def gK' : Vec Ideal S4096x512 .bf16 := fun i => ((Cert.Attn.dk q k v d g (i 0) (hd8 (i 1)) (ft8 (i 1)) : ℝ) : EReal)
/-- The values' gradient, as an array. -/
def gV' : Vec Ideal S4096x512 .bf16 := fun i => ((Cert.Attn.dv q k d g (i 0) (hd8 (i 1)) (ft8 (i 1)) : ℝ) : EReal)
/-- The gates' gradient, as an array: head by head, block of keys by block of keys. -/
def gC' : Vec Ideal S8x4x1x1024 .f32 := fun i => ((Cert.Attn.dc q k v d g (i 0) (row (i 1) (i 3)) : ℝ) : EReal)

theorem gQ'_apply (w : Fin 4096) (h : Fin 8) (e : Fin 64) : gQ' q k v d g (ix2 w (feat h e)) = ((Cert.Attn.dq q k v d g w h e : ℝ) : EReal) := by
  show ((Cert.Attn.dq q k v d g w (hd8 (feat h e)) (ft8 (feat h e)) : ℝ) : EReal) = _
  rw [hd8_feat, ft8_feat]
theorem gK'_apply (w : Fin 4096) (h : Fin 8) (e : Fin 64) : gK' q k v d g (ix2 w (feat h e)) = ((Cert.Attn.dk q k v d g w h e : ℝ) : EReal) := by
  show ((Cert.Attn.dk q k v d g w (hd8 (feat h e)) (ft8 (feat h e)) : ℝ) : EReal) = _
  rw [hd8_feat, ft8_feat]
theorem gV'_apply (w : Fin 4096) (h : Fin 8) (e : Fin 64) : gV' q k d g (ix2 w (feat h e)) = ((Cert.Attn.dv q k d g w h e : ℝ) : EReal) := by
  show ((Cert.Attn.dv q k d g w (hd8 (feat h e)) (ft8 (feat h e)) : ℝ) : EReal) = _
  rw [hd8_feat, ft8_feat]

variable {m : (ℓ : Loc nD τ sig) → Buf (Elt Ideal) ℓ} {c : Dev nD}

theorem rd_6 (U : Vec Ideal S4096x512 .bf16) (t : Fin cfg0.N) (w : Fin 4096) (l : Fin 128) :
    (((cfg0.win 6).blk t).view.read (Elt Ideal) U : Vec Ideal S4096x128 .bf16) (ix2 w l) = U (ix2 w (feat (hd (pOf t) (hf l)) (ft l))) := by
  rw [View.read_apply]
  refine congrArg U ?_
  funext a
  match a with
  | 0 => exact Fin.ext (by show win0_6.index t 0 * 4096 + 1 * w.val = w.val; rw [(idx_6 t).1]; omega)
  | 1 => exact Fin.ext (by show win0_6.index t 1 * 128 + 1 * l.val = (2 * (t.val / 4) + l.val / 64) * 64 + l.val % 64; rw [(idx_6 t).2]; omega)
theorem rd_7 (U : Vec Ideal S4096x512 .bf16) (t : Fin cfg0.N) (n : Fin 1024) (l : Fin 128) :
    (((cfg0.win 7).blk t).view.read (Elt Ideal) U : Vec Ideal S1024x128 .bf16) (ix2 n l) = U (ix2 (row (jOf t) n) (feat (hd (pOf t) (hf l)) (ft l))) := by
  rw [View.read_apply]
  refine congrArg U ?_
  funext a
  match a with
  | 0 => exact Fin.ext (by show win0_7.index t 0 * 1024 + 1 * n.val = 1024 * (grid0.coords t 1).val + n.val; rw [(idx_7 t).1, coords_snd]; omega)
  | 1 => exact Fin.ext (by show win0_7.index t 1 * 128 + 1 * l.val = (2 * (t.val / 4) + l.val / 64) * 64 + l.val % 64; rw [(idx_7 t).2]; omega)
theorem rd_8 (U : Vec Ideal S4096x512 .bf16) (t : Fin cfg0.N) (n : Fin 1024) (l : Fin 128) :
    (((cfg0.win 8).blk t).view.read (Elt Ideal) U : Vec Ideal S1024x128 .bf16) (ix2 n l) = U (ix2 (row (jOf t) n) (feat (hd (pOf t) (hf l)) (ft l))) := by
  rw [View.read_apply]
  refine congrArg U ?_
  funext a
  match a with
  | 0 => exact Fin.ext (by show win0_8.index t 0 * 1024 + 1 * n.val = 1024 * (grid0.coords t 1).val + n.val; rw [(idx_8 t).1, coords_snd]; omega)
  | 1 => exact Fin.ext (by show win0_8.index t 1 * 128 + 1 * l.val = (2 * (t.val / 4) + l.val / 64) * 64 + l.val % 64; rw [(idx_8 t).2]; omega)
theorem rd_9 (U : Vec Ideal S8x4x1x1024 .f32) (t : Fin cfg0.N) (h : Fin 2) (n : Fin 1024) :
    (((cfg0.win 9).blk t).view.read (Elt Ideal) U : Vec Ideal S2x1x1x1024 .f32) (ix4 h 0 0 n) = U (ix4 (hd (pOf t) h) (jOf t) 0 n) := by
  rw [View.read_apply]
  refine congrArg U ?_
  funext a
  match a with
  | 0 => exact Fin.ext (by show win0_9.index t 0 * 2 + 1 * h.val = 2 * (t.val / 4) + h.val; rw [(idx_9 t).1]; omega)
  | 1 => exact Fin.ext (by show win0_9.index t 1 * 1 + 1 * 0 = (grid0.coords t 1).val; rw [(idx_9 t).2.1, coords_snd]; omega)
  | 2 => exact Fin.ext (by show win0_9.index t 2 * 1 + 1 * 0 = 0; rw [(idx_9 t).2.2.1])
  | 3 => exact Fin.ext (by show win0_9.index t 3 * 1024 + 1 * n.val = n.val; rw [(idx_9 t).2.2.2]; omega)

variable {q k v d g} (A : Args m c q k v d g)

/-! ### What a point writes back is its block -/

include A

theorem flushed_6 (t : Fin cfg0.N) (hf6 : (cfg0.win 6).flush t = true) : (dats m 0 c).flushed 6 t = ((cfg0.win 6).blk t).view.read (Elt Ideal) (gQ' q k v d g) := by
  have h3 : t.val % 4 = 3 := (flush0_6 t).mp hf6
  show (cfg0.win 6).cut (grid0.coords t) ((dats m 0 c).after 6 t) = _
  rw [after_6]
  have key : ∀ (w : Fin 4096) (l : Fin 128), (k0_pay3 (accAt m c t (scIn m c t.val t.isLt)) : Vec Ideal S4096x128 .bf16) (ix2 w l)
      = (((cfg0.win 6).blk t).view.read (Elt Ideal) (gQ' q k v d g) : Vec Ideal S4096x128 .bf16) (ix2 w l) := fun w l => by
    rw [rd_6, gQ'_apply]
    refine (pay3_apply _ w l).trans ?_
    refine (acc_real A w l t.val t.isLt).trans ?_
    rw [h3, sum_qp]
  generalize (((cfg0.win 6).blk t).view.read (Elt Ideal) (gQ' q k v d g)) = R at key ⊢
  generalize (k0_pay3 (accAt m c t (scIn m c t.val t.isLt)) : Vec Ideal S4096x128 .bf16) = P at key ⊢
  have e : (P : Vec Ideal S4096x128 .bf16) = R := funext fun y => by rw [eq_ix2 y]; exact key _ _
  exact e

theorem flushed_7 (t : Fin cfg0.N) : (dats m 0 c).flushed 7 t = ((cfg0.win 7).blk t).view.read (Elt Ideal) (gK' q k v d g) := by
  show (cfg0.win 7).cut (grid0.coords t) ((dats m 0 c).after 7 t) = _
  rw [after_7]
  have key : ∀ (n : Fin 1024) (l : Fin 128), (outK (sumsAt m c t (scIn m c t.val t.isLt)) : Vec Ideal S1024x128 .bf16) (ix2 n l)
      = (((cfg0.win 7).blk t).view.read (Elt Ideal) (gK' q k v d g) : Vec Ideal S1024x128 .bf16) (ix2 n l) := fun n l => by
    rw [rd_7, gK'_apply]
    exact outK_real (blocks A t) _ n l
  generalize (((cfg0.win 7).blk t).view.read (Elt Ideal) (gK' q k v d g)) = R at key ⊢
  generalize (outK (sumsAt m c t (scIn m c t.val t.isLt)) : Vec Ideal S1024x128 .bf16) = P at key ⊢
  have e : (P : Vec Ideal S1024x128 .bf16) = R := funext fun y => by rw [eq_ix2 y]; exact key _ _
  exact e

theorem flushed_8 (t : Fin cfg0.N) : (dats m 0 c).flushed 8 t = ((cfg0.win 8).blk t).view.read (Elt Ideal) (gV' q k d g) := by
  show (cfg0.win 8).cut (grid0.coords t) ((dats m 0 c).after 8 t) = _
  rw [after_8]
  have key : ∀ (n : Fin 1024) (l : Fin 128), (outV (sumsAt m c t (scIn m c t.val t.isLt)) : Vec Ideal S1024x128 .bf16) (ix2 n l)
      = (((cfg0.win 8).blk t).view.read (Elt Ideal) (gV' q k d g) : Vec Ideal S1024x128 .bf16) (ix2 n l) := fun n l => by
    rw [rd_8, gV'_apply]
    exact outV_real (blocks A t) _ n l
  generalize (((cfg0.win 8).blk t).view.read (Elt Ideal) (gV' q k d g)) = R at key ⊢
  generalize (outV (sumsAt m c t (scIn m c t.val t.isLt)) : Vec Ideal S1024x128 .bf16) = P at key ⊢
  have e : (P : Vec Ideal S1024x128 .bf16) = R := funext fun y => by rw [eq_ix2 y]; exact key _ _
  exact e

theorem flushed_9 (t : Fin cfg0.N) : (dats m 0 c).flushed 9 t = ((cfg0.win 9).blk t).view.read (Elt Ideal) (gC' q k v d g) := by
  show (cfg0.win 9).cut (grid0.coords t) ((dats m 0 c).after 9 t) = _
  rw [after_9]
  have key : ∀ (h : Fin 2) (n : Fin 1024), (outC (sumsAt m c t (scIn m c t.val t.isLt)) : Vec Ideal S2x1x1x1024 .f32) (ix4 h 0 0 n)
      = (((cfg0.win 9).blk t).view.read (Elt Ideal) (gC' q k v d g) : Vec Ideal S2x1x1x1024 .f32) (ix4 h 0 0 n) := fun h n => by
    rw [rd_9]
    exact outC_real (blocks A t) _ h n
  generalize (((cfg0.win 9).blk t).view.read (Elt Ideal) (gC' q k v d g)) = R at key ⊢
  generalize (outC (sumsAt m c t (scIn m c t.val t.isLt)) : Vec Ideal S2x1x1x1024 .f32) = P at key ⊢
  have e : (P : Vec Ideal S2x1x1x1024 .f32) = R := funext fun y => by
    have h1 : y 1 = (0 : Fin 1) := Subsingleton.elim (α := Fin 1) (y 1) 0
    have h2 : y 2 = (0 : Fin 1) := Subsingleton.elim (α := Fin 1) (y 2) 0
    have ey : y = ix4 (y 0) 0 0 (y 3) := by
      funext a
      match a with
      | 0 => rfl
      | 1 => exact h1
      | 2 => exact h2
      | 3 => rfl
    rw [ey]; exact key _ _
  exact e

omit A

/-! ### The blocks cover the arrays -/

theorem cover_6 (i : S4096x512.Idx) : ∃ t : Fin cfg0.N, (cfg0.win 6).flush t = true ∧ i ∈ ((cfg0.win 6).blk t).view.set := by
  have h0 : (i 0 : Nat) < 4096 := (i 0).isLt
  have h1 : (i 1 : Nat) < 512 := (i 1).isLt
  obtain ⟨t, ht⟩ : ∃ t : Fin cfg0.N, t.val = 4 * ((i 1 : Nat) / 128) + 3 := ⟨⟨4 * ((i 1 : Nat) / 128) + 3, Nat.lt_of_lt_of_eq (by omega) N_0.symm⟩, rfl⟩
  refine ⟨t, (flush0_6 t).mpr (by omega), ?_⟩
  show i ∈ ((View.whole main_v65_0).slice (win0_6.rect t)).set
  rw [View.set_slice_whole, Rect.mem_set_unit]
  intro a
  match a with
  | ⟨0, _⟩ => show win0_6.index t 0 * 4096 ≤ (i 0 : Nat) ∧ (i 0 : Nat) < win0_6.index t 0 * 4096 + 4096
              rw [(idx_6 t).1]; omega
  | ⟨1, _⟩ => show win0_6.index t 1 * 128 ≤ (i 1 : Nat) ∧ (i 1 : Nat) < win0_6.index t 1 * 128 + 128
              rw [(idx_6 t).2]; omega

theorem cover_7 (i : S4096x512.Idx) : ∃ t : Fin cfg0.N, (cfg0.win 7).flush t = true ∧ i ∈ ((cfg0.win 7).blk t).view.set := by
  have h0 : (i 0 : Nat) < 4096 := (i 0).isLt
  have h1 : (i 1 : Nat) < 512 := (i 1).isLt
  obtain ⟨t, ht⟩ : ∃ t : Fin cfg0.N, t.val = 4 * ((i 1 : Nat) / 128) + (i 0 : Nat) / 1024 := ⟨⟨4 * ((i 1 : Nat) / 128) + (i 0 : Nat) / 1024, Nat.lt_of_lt_of_eq (by omega) N_0.symm⟩, rfl⟩
  refine ⟨t, flush0_7 t, ?_⟩
  show i ∈ ((View.whole main_v65_1).slice (win0_7.rect t)).set
  rw [View.set_slice_whole, Rect.mem_set_unit]
  intro a
  match a with
  | ⟨0, _⟩ => show win0_7.index t 0 * 1024 ≤ (i 0 : Nat) ∧ (i 0 : Nat) < win0_7.index t 0 * 1024 + 1024
              rw [(idx_7 t).1]; omega
  | ⟨1, _⟩ => show win0_7.index t 1 * 128 ≤ (i 1 : Nat) ∧ (i 1 : Nat) < win0_7.index t 1 * 128 + 128
              rw [(idx_7 t).2]; omega

theorem cover_8 (i : S4096x512.Idx) : ∃ t : Fin cfg0.N, (cfg0.win 8).flush t = true ∧ i ∈ ((cfg0.win 8).blk t).view.set := by
  have h0 : (i 0 : Nat) < 4096 := (i 0).isLt
  have h1 : (i 1 : Nat) < 512 := (i 1).isLt
  obtain ⟨t, ht⟩ : ∃ t : Fin cfg0.N, t.val = 4 * ((i 1 : Nat) / 128) + (i 0 : Nat) / 1024 := ⟨⟨4 * ((i 1 : Nat) / 128) + (i 0 : Nat) / 1024, Nat.lt_of_lt_of_eq (by omega) N_0.symm⟩, rfl⟩
  refine ⟨t, flush0_8 t, ?_⟩
  show i ∈ ((View.whole main_v65_2).slice (win0_8.rect t)).set
  rw [View.set_slice_whole, Rect.mem_set_unit]
  intro a
  match a with
  | ⟨0, _⟩ => show win0_8.index t 0 * 1024 ≤ (i 0 : Nat) ∧ (i 0 : Nat) < win0_8.index t 0 * 1024 + 1024
              rw [(idx_8 t).1]; omega
  | ⟨1, _⟩ => show win0_8.index t 1 * 128 ≤ (i 1 : Nat) ∧ (i 1 : Nat) < win0_8.index t 1 * 128 + 128
              rw [(idx_8 t).2]; omega

theorem cover_9 (i : S8x4x1x1024.Idx) : ∃ t : Fin cfg0.N, (cfg0.win 9).flush t = true ∧ i ∈ ((cfg0.win 9).blk t).view.set := by
  have h0 : (i 0 : Nat) < 8 := (i 0).isLt
  have h1 : (i 1 : Nat) < 4 := (i 1).isLt
  have h2 : (i 2 : Nat) < 1 := (i 2).isLt
  have h3 : (i 3 : Nat) < 1024 := (i 3).isLt
  obtain ⟨t, ht⟩ : ∃ t : Fin cfg0.N, t.val = 4 * ((i 0 : Nat) / 2) + (i 1 : Nat) := ⟨⟨4 * ((i 0 : Nat) / 2) + (i 1 : Nat), Nat.lt_of_lt_of_eq (by omega) N_0.symm⟩, rfl⟩
  refine ⟨t, flush0_9 t, ?_⟩
  show i ∈ ((View.whole main_v65_3).slice (win0_9.rect t)).set
  rw [View.set_slice_whole, Rect.mem_set_unit]
  intro a
  match a with
  | ⟨0, _⟩ => show win0_9.index t 0 * 2 ≤ (i 0 : Nat) ∧ (i 0 : Nat) < win0_9.index t 0 * 2 + 2
              rw [(idx_9 t).1]; omega
  | ⟨1, _⟩ => show win0_9.index t 1 * 1 ≤ (i 1 : Nat) ∧ (i 1 : Nat) < win0_9.index t 1 * 1 + 1
              rw [(idx_9 t).2.1]; omega
  | ⟨2, _⟩ => show win0_9.index t 2 * 1 ≤ (i 2 : Nat) ∧ (i 2 : Nat) < win0_9.index t 2 * 1 + 1
              rw [(idx_9 t).2.2.1]; omega
  | ⟨3, _⟩ => show win0_9.index t 3 * 1024 ≤ (i 3 : Nat) ∧ (i 3 : Nat) < win0_9.index t 3 * 1024 + 1024
              rw [(idx_9 t).2.2.2]; omega

include A

theorem final_6 : (dats m 0 c).arrAt 6 cfg0.N = gQ' q k v d g := (dats m 0 c).arrAt_eq_of_cover 6 (gQ' q k v d g) (flushed_6 A) cover_6
theorem final_7 : (dats m 0 c).arrAt 7 cfg0.N = gK' q k v d g := (dats m 0 c).arrAt_eq_of_cover 7 (gK' q k v d g) (fun t _ => flushed_7 A t) cover_7
theorem final_8 : (dats m 0 c).arrAt 8 cfg0.N = gV' q k d g := (dats m 0 c).arrAt_eq_of_cover 8 (gV' q k d g) (fun t _ => flushed_8 A t) cover_8
theorem final_9 : (dats m 0 c).arrAt 9 cfg0.N = gC' q k v d g := (dats m 0 c).arrAt_eq_of_cover 9 (gC' q k v d g) (fun t _ => flushed_9 A t) cover_9

end Cert.KernelIdeal.Attn

end
-- ==== Proof.RefOps.lean ====
module

public import proofs.«01_k».proof.Proof.Gen.ReferenceIdeal.Run
public import Idealize.ShloMosaic.Lib.StableHlo.RunRead

@[expose] public section

set_option maxRecDepth 16384
set_option maxHeartbeats 1000000

noncomputable section

namespace Cert.ReferenceIdeal.Attn

open Cert.ReferenceIdeal.Gen Cert.ReferenceIdeal.Value
open Idealize.ShloMosaic Idealize.ShloMosaic.TcCoe Idealize.ShloMosaic.StableHlo Idealize.SL.Sem

/-! ## The reference's arrays, operation by operation -/

variable (m : (ℓ : Loc nD τ sig) → Buf (Elt Ideal) ℓ) (c : Dev nD)

/-- What each operation writes, in order. -/
abbrev wrote : List (Ref sig .tc) :=
  [main_v0, main_v1, main_v2, main_cst, main_v3, main_v4, main_v5, main_v6, main_v7, main_v8, main_v9, main_v10, main_v11, main_v12, main_v13, main_v14, main_v15, main_v16, main_v17, main_cst_0, main_call0_v0, main_v18_1, main_call0_v2, main_v18_0, main_call0_cst, main_v18_2, main_cst_1, main_v19, main_v20, main_v21, main_v22, main_v23, main_cst_2, main_v24, main_cst_3, main_v25, main_v26, main_cst_4, main_v27, main_v28, main_cst_5, main_v29, main_v30, main_cst_6, main_v31, main_cst_7, main_v32, main_cst_8, main_v33, main_v34, main_v35, main_v36, main_v37, main_v38, main_v39, main_cst_9, main_v40, main_v41, main_v42, main_v43, main_v44, main_cst_10, main_v45, main_v46, main_v47, main_v48, main_v49, main_v50, main_v51, main_v52, main_v53, main_v54, main_v55, main_v56, main_v57, main_v58, main_v59, main_v60, main_cst_11, main_v61, main_v62, main_v63, main_v64, main_v65, main_cst_12, main_v66, main_v67, main_v68, main_v69, main_call1_cst, main_call1_v0, main_v70, main_v71, main_cst_13, main_v72, main_v73, main_cst_14, main_v74, main_cst_15, main_v75, main_v76, main_cst_16, main_v77, main_v78, main_v79, main_cst_17, main_v80, main_v81, main_v82, main_v83, main_v84, main_v85, main_v86, main_v87, main_v88, main_v89, main_v90, main_v91, main_v92]

/-- What the array of a reference holds at the end. -/
def Rd (r : Ref sig .tc) : r.ty.Contents (Elt Ideal) := after (ops (F := Ideal)) (fun b => m (c, b)) (Proc.devRef .tc r)

theorem wrote_eq (i : ℕ) : ((ops (F := Ideal)).drop i).map HloOp.writes = (wrote.drop i).map fun w => {Proc.devRef (τ := τ) .tc w} := by
  rw [List.map_drop, List.map_drop]; exact congrArg (List.drop i) rfl

theorem after_append (l₁ l₂ : List (HloOp τ sig (Elt Ideal))) (V : Valuation τ sig (Elt Ideal)) : after (l₁ ++ l₂) V = after l₂ (after l₁ V) := by
  induction l₁ generalizing V with
  | nil => rfl
  | cons op l₁ ih => exact ih _

/-- A buffer holds what its operation left there. -/
theorem Rd_op (i : ℕ) {op : HloOp τ sig (Elt Ideal)} {r : Ref sig .tc} (hseg : (ops (F := Ideal)).drop i = op :: (ops (F := Ideal)).drop (i + 1))
    (hr : r ∉ wrote.drop (i + 1)) : Rd m c r = op.result (upto (ops (F := Ideal)) (fun b => m (c, b)) i) (Proc.devRef .tc r) :=
  after_last_write (wrote.drop (i + 1)) hseg (wrote_eq (i + 1)) hr _

/-- What a buffer holds before operation `i` it holds at the end, when no later operation writes it. -/
theorem Rd_keep (i : ℕ) {r : Ref sig .tc} (hr : r ∉ wrote.drop i) :
    upto (ops (F := Ideal)) (fun b => m (c, b)) i (Proc.devRef .tc r) = Rd m c r := by
  have h := after_unwritten (ops := (ops (F := Ideal)).drop i) (wrote.drop i) (wrote_eq i) hr (upto (ops (F := Ideal)) (fun b => m (c, b)) i)
  unfold Rd
  rw [← h, upto, ← after_append, List.take_append_drop]

/-- What no operation writes is kept. -/
theorem Rd_arg {r : Ref sig .tc} (hr : r ∉ wrote) : Rd m c r = m (c, Proc.devRef .tc r) :=
  after_unwritten (ops := ops (F := Ideal)) wrote (wrote_eq 0) hr _

theorem Rd_un (i : ℕ) {x y : Ref sig .tc} {f : x.ty.Contents (Elt Ideal) → y.ty.Contents (Elt Ideal)} {hx hy}
    (hseg : (ops (F := Ideal)).drop i = unary x y f hx hy :: (ops (F := Ideal)).drop (i + 1)) (hr : y ∉ wrote.drop (i + 1)) (h1 : x ∉ wrote.drop i) :
    Rd m c y = f (Rd m c x) := by
  rw [Rd_op m c i hseg hr, unary_result, Rd_keep m c i h1]
theorem Rd_bin (i : ℕ) {x a y : Ref sig .tc} {f : x.ty.Contents (Elt Ideal) → a.ty.Contents (Elt Ideal) → y.ty.Contents (Elt Ideal)} {hx ha hy}
    (hseg : (ops (F := Ideal)).drop i = binary x a y f hx ha hy :: (ops (F := Ideal)).drop (i + 1)) (hr : y ∉ wrote.drop (i + 1)) (h1 : x ∉ wrote.drop i) (h2 : a ∉ wrote.drop i) :
    Rd m c y = f (Rd m c x) (Rd m c a) := by
  rw [Rd_op m c i hseg hr, binary_result, Rd_keep m c i h1, Rd_keep m c i h2]
theorem Rd_tern (i : ℕ) {x a b y : Ref sig .tc} {f : x.ty.Contents (Elt Ideal) → a.ty.Contents (Elt Ideal) → b.ty.Contents (Elt Ideal) → y.ty.Contents (Elt Ideal)} {hx ha hb hy}
    (hseg : (ops (F := Ideal)).drop i = ternary x a b y f hx ha hb hy :: (ops (F := Ideal)).drop (i + 1)) (hr : y ∉ wrote.drop (i + 1)) (h1 : x ∉ wrote.drop i) (h2 : a ∉ wrote.drop i) (h3 : b ∉ wrote.drop i) :
    Rd m c y = f (Rd m c x) (Rd m c a) (Rd m c b) := by
  rw [Rd_op m c i hseg hr, ternary_result, Rd_keep m c i h1, Rd_keep m c i h2, Rd_keep m c i h3]

/-- The run: every array at what the operations leave there. -/
theorem run_read (ρ : Dev nD → PrngReg) : θ_run defs (onTc (τ := τ) (main (F := Ideal))) ⟨m, fun _ => 0, ρ⟩ fun r => ∀ (c : Dev nD) (b : Ref sig .tc),
    r.2.mem ((c.tc : Thread nD τ).loc b) = Rd m c b :=
  (θ_run defs _ _).mono (fun _ h c b => (h c b).trans rfl) (run_seq scopedRefs_eq scopedSems_eq defs main (fun _ => ops) main_eq (fun _ => ops_sub) m ρ)

theorem v0_eq : (Rd m c main_v0 : FVec Ideal S4096x8x64 .f32) = shapeCast S4096x8x64 (Rd m c main_arg0 : FVec Ideal S4096x512 .f32) shapeCasts_S4096x512_S4096x8x64 := by
  rw [Rd_op m c 0 (r := main_v0) rfl (by decide), reshape_result, Rd_keep m c 0 (by decide)]; rfl
theorem v1_eq : (Rd m c main_v1 : FVec Ideal S4096x8x64 .f32) = shapeCast S4096x8x64 (Rd m c main_arg1 : FVec Ideal S4096x512 .f32) shapeCasts_S4096x512_S4096x8x64 := by
  rw [Rd_op m c 1 (r := main_v1) rfl (by decide), reshape_result, Rd_keep m c 1 (by decide)]; rfl
theorem v2_eq : Rd m c main_v2 = ((fun l r => Host.dotGeneral dot_S4096x8x64_S4096x8x64_S8x4096x4096_2_2_0_0_1_1 none l r) : FVec Ideal S4096x8x64 .f32 → FVec Ideal S4096x8x64 .f32 → FVec Ideal S8x4096x4096 .f32) (Rd m c main_v0) (Rd m c main_v1) :=
  Rd_bin m c 2 (x := main_v0) (a := main_v1) (y := main_v2) rfl (by decide) (by decide) (by decide)
theorem cst_eq : Rd m c main_cst = ((constant S_ .f32 0x3E000000#32) : FVec Ideal S_ .f32) := by
  rw [Rd_op m c 3 (r := main_cst) rfl (by decide), nullary_result]
theorem v3_eq : Rd m c main_v3 = (broadcastInDim S8x4096x4096 ![] bcast_S_S8x4096x4096 : FVec Ideal S_ .f32 → FVec Ideal S8x4096x4096 .f32) (Rd m c main_cst) :=
  Rd_un m c 4 (x := main_cst) (y := main_v3) rfl (by decide) (by decide)
theorem v4_eq : Rd m c main_v4 = (mulf : FVec Ideal S8x4096x4096 .f32 → FVec Ideal S8x4096x4096 .f32 → FVec Ideal S8x4096x4096 .f32) (Rd m c main_v2) (Rd m c main_v3) :=
  Rd_bin m c 5 (x := main_v2) (a := main_v3) (y := main_v4) rfl (by decide) (by decide) (by decide)
theorem v5_eq : Rd m c main_v5 = ((transpose S8x4096 [1, 0] · transposes_S4096x8_S8x4096_1_0) : FVec Ideal S4096x8 .f32 → FVec Ideal S8x4096 .f32) (Rd m c main_arg3) :=
  Rd_un m c 6 (x := main_arg3) (y := main_v5) rfl (by decide) (by decide)
theorem v6_eq : Rd m c main_v6 = (broadcastInDim S8x4096x1 ![0, 1] bcast_S8x4096_S8x4096x1_0_1 : FVec Ideal S8x4096 .f32 → FVec Ideal S8x4096x1 .f32) (Rd m c main_v5) :=
  Rd_un m c 7 (x := main_v5) (y := main_v6) rfl (by decide) (by decide)
theorem v7_eq : Rd m c main_v7 = (broadcastInDim S8x4096x4096 ![0, 1, 2] bcast_S8x4096x1_S8x4096x4096_0_1_2 : FVec Ideal S8x4096x1 .f32 → FVec Ideal S8x4096x4096 .f32) (Rd m c main_v6) :=
  Rd_un m c 8 (x := main_v6) (y := main_v7) rfl (by decide) (by decide)
theorem v8_eq : Rd m c main_v8 = (addf : FVec Ideal S8x4096x4096 .f32 → FVec Ideal S8x4096x4096 .f32 → FVec Ideal S8x4096x4096 .f32) (Rd m c main_v4) (Rd m c main_v7) :=
  Rd_bin m c 9 (x := main_v4) (a := main_v7) (y := main_v8) rfl (by decide) (by decide) (by decide)
theorem v9_eq : Rd m c main_v9 = (broadcastInDim S8x1x4096 ![0, 2] bcast_S8x4096_S8x1x4096_0_2 : FVec Ideal S8x4096 .f32 → FVec Ideal S8x1x4096 .f32) (Rd m c main_v5) :=
  Rd_un m c 10 (x := main_v5) (y := main_v9) rfl (by decide) (by decide)
theorem v10_eq : Rd m c main_v10 = (broadcastInDim S8x4096x4096 ![0, 1, 2] bcast_S8x1x4096_S8x4096x4096_0_1_2 : FVec Ideal S8x1x4096 .f32 → FVec Ideal S8x4096x4096 .f32) (Rd m c main_v9) :=
  Rd_un m c 11 (x := main_v9) (y := main_v10) rfl (by decide) (by decide)
theorem v11_eq : Rd m c main_v11 = (subf : FVec Ideal S8x4096x4096 .f32 → FVec Ideal S8x4096x4096 .f32 → FVec Ideal S8x4096x4096 .f32) (Rd m c main_v8) (Rd m c main_v10) :=
  Rd_bin m c 12 (x := main_v8) (a := main_v10) (y := main_v11) rfl (by decide) (by decide) (by decide)
theorem v12_eq : Rd m c main_v12 = ((iotaInDim S4096 32 0) : Vec Ideal S4096 .i32) := by
  rw [Rd_op m c 13 (r := main_v12) rfl (by decide), nullary_result]
theorem v13_eq : Rd m c main_v13 = (broadcastInDim S4096x1 ![0] bcast_S4096_S4096x1_0 : Vec Ideal S4096 .i32 → Vec Ideal S4096x1 .i32) (Rd m c main_v12) :=
  Rd_un m c 14 (x := main_v12) (y := main_v13) rfl (by decide) (by decide)
theorem v14_eq : Rd m c main_v14 = (broadcastInDim S1x4096 ![1] bcast_S4096_S1x4096_1 : Vec Ideal S4096 .i32 → Vec Ideal S1x4096 .i32) (Rd m c main_v12) :=
  Rd_un m c 15 (x := main_v12) (y := main_v14) rfl (by decide) (by decide)
theorem v15_eq : Rd m c main_v15 = (broadcastInDim S4096x4096 ![0, 1] bcast_S4096x1_S4096x4096_0_1 : Vec Ideal S4096x1 .i32 → Vec Ideal S4096x4096 .i32) (Rd m c main_v13) :=
  Rd_un m c 16 (x := main_v13) (y := main_v15) rfl (by decide) (by decide)
theorem v16_eq : Rd m c main_v16 = (broadcastInDim S4096x4096 ![0, 1] bcast_S1x4096_S4096x4096_0_1 : Vec Ideal S1x4096 .i32 → Vec Ideal S4096x4096 .i32) (Rd m c main_v14) :=
  Rd_un m c 17 (x := main_v14) (y := main_v16) rfl (by decide) (by decide)
theorem v17_eq : Rd m c main_v17 = (cmpi .sge : Vec Ideal S4096x4096 .i32 → Vec Ideal S4096x4096 .i32 → Vec Ideal S4096x4096 .i1) (Rd m c main_v15) (Rd m c main_v16) :=
  Rd_bin m c 18 (x := main_v15) (a := main_v16) (y := main_v17) rfl (by decide) (by decide) (by decide)
theorem cst_0_eq : Rd m c main_cst_0 = ((constant S_ .f32 0xFF800000#32) : FVec Ideal S_ .f32) := by
  rw [Rd_op m c 19 (r := main_cst_0) rfl (by decide), nullary_result]
theorem call0_v0_eq : Rd m c main_call0_v0 = (id : FVec Ideal S_ .f32 → FVec Ideal S_ .f32) (Rd m c main_cst_0) :=
  Rd_un m c 20 (x := main_cst_0) (y := main_call0_v0) rfl (by decide) (by decide)
theorem v18_1_eq : Rd m c main_v18_1 = ((broadcastInDim S8x4096x4096 ![1, 2] bcast_S4096x4096_S8x4096x4096_1_2) : Vec Ideal S4096x4096 .i1 → Vec Ideal S8x4096x4096 .i1) (Rd m c main_v17) :=
  Rd_un m c 21 (x := main_v17) (y := main_v18_1) rfl (by decide) (by decide)
theorem call0_v2_eq : Rd m c main_call0_v2 = ((broadcastInDim S8x4096x4096 ![] bcast_S_S8x4096x4096) : FVec Ideal S_ .f32 → FVec Ideal S8x4096x4096 .f32) (Rd m c main_call0_v0) :=
  Rd_un m c 22 (x := main_call0_v0) (y := main_call0_v2) rfl (by decide) (by decide)
theorem v18_0_eq : Rd m c main_v18_0 = (select : Vec Ideal S8x4096x4096 .i1 → FVec Ideal S8x4096x4096 .f32 → FVec Ideal S8x4096x4096 .f32 → FVec Ideal S8x4096x4096 .f32) (Rd m c main_v18_1) (Rd m c main_v11) (Rd m c main_call0_v2) :=
  Rd_tern m c 23 (x := main_v18_1) (a := main_v11) (b := main_call0_v2) (y := main_v18_0) rfl (by decide) (by decide) (by decide) (by decide)
theorem cst_1_eq : Rd m c main_cst_1 = ((constant S_ .f32 0xFF800000#32) : FVec Ideal S_ .f32) := by
  rw [Rd_op m c 26 (r := main_cst_1) rfl (by decide), nullary_result]
theorem v19_eq : Rd m c main_v19 = ((fun x v => Host.reduce FloatOps.maximumf x v reducesTo_S8x4096x4096_S8x4096_d2 h_S_) : FVec Ideal S8x4096x4096 .f32 → FVec Ideal S_ .f32 → FVec Ideal S8x4096 .f32) (Rd m c main_v18_0) (Rd m c main_cst_1) :=
  Rd_bin m c 27 (x := main_v18_0) (a := main_cst_1) (y := main_v19) rfl (by decide) (by decide) (by decide)
theorem cst_3_eq : Rd m c main_cst_3 = ((constant S_ .f32 0xFF800000#32) : FVec Ideal S_ .f32) := by
  rw [Rd_op m c 34 (r := main_cst_3) rfl (by decide), nullary_result]
theorem v25_eq : Rd m c main_v25 = (broadcastInDim S8x4096 ![] bcast_S_S8x4096 : FVec Ideal S_ .f32 → FVec Ideal S8x4096 .f32) (Rd m c main_cst_3) :=
  Rd_un m c 35 (x := main_cst_3) (y := main_v25) rfl (by decide) (by decide)
theorem v26_eq : Rd m c main_v26 = (maximumf : FVec Ideal S8x4096 .f32 → FVec Ideal S8x4096 .f32 → FVec Ideal S8x4096 .f32) (Rd m c main_v25) (Rd m c main_v19) :=
  Rd_bin m c 36 (x := main_v25) (a := main_v19) (y := main_v26) rfl (by decide) (by decide) (by decide)
theorem v36_eq : Rd m c main_v36 = (broadcastInDim S8x4096x1 ![0, 1] bcast_S8x4096_S8x4096x1_0_1 : FVec Ideal S8x4096 .f32 → FVec Ideal S8x4096x1 .f32) (Rd m c main_v26) :=
  Rd_un m c 51 (x := main_v26) (y := main_v36) rfl (by decide) (by decide)
theorem v37_eq : Rd m c main_v37 = (broadcastInDim S8x4096x4096 ![0, 1, 2] bcast_S8x4096x1_S8x4096x4096_0_1_2 : FVec Ideal S8x4096x1 .f32 → FVec Ideal S8x4096x4096 .f32) (Rd m c main_v36) :=
  Rd_un m c 52 (x := main_v36) (y := main_v37) rfl (by decide) (by decide)
theorem v38_eq : Rd m c main_v38 = (subf : FVec Ideal S8x4096x4096 .f32 → FVec Ideal S8x4096x4096 .f32 → FVec Ideal S8x4096x4096 .f32) (Rd m c main_v18_0) (Rd m c main_v37) :=
  Rd_bin m c 53 (x := main_v18_0) (a := main_v37) (y := main_v38) rfl (by decide) (by decide) (by decide)
theorem v39_eq : Rd m c main_v39 = (Host.exp : FVec Ideal S8x4096x4096 .f32 → FVec Ideal S8x4096x4096 .f32) (Rd m c main_v38) :=
  Rd_un m c 54 (x := main_v38) (y := main_v39) rfl (by decide) (by decide)
theorem cst_9_eq : Rd m c main_cst_9 = ((constant S_ .f32 0x00000000#32) : FVec Ideal S_ .f32) := by
  rw [Rd_op m c 55 (r := main_cst_9) rfl (by decide), nullary_result]
theorem v40_eq : Rd m c main_v40 = ((fun x v => Host.reduceAdd x v reducesTo_S8x4096x4096_S8x4096_d2 h_S_) : FVec Ideal S8x4096x4096 .f32 → FVec Ideal S_ .f32 → FVec Ideal S8x4096 .f32) (Rd m c main_v39) (Rd m c main_cst_9) :=
  Rd_bin m c 56 (x := main_v39) (a := main_cst_9) (y := main_v40) rfl (by decide) (by decide) (by decide)
theorem v41_eq : Rd m c main_v41 = (broadcastInDim S8x4096x1 ![0, 1] bcast_S8x4096_S8x4096x1_0_1 : FVec Ideal S8x4096 .f32 → FVec Ideal S8x4096x1 .f32) (Rd m c main_v40) :=
  Rd_un m c 57 (x := main_v40) (y := main_v41) rfl (by decide) (by decide)
theorem v42_eq : Rd m c main_v42 = (broadcastInDim S8x4096x4096 ![0, 1, 2] bcast_S8x4096x1_S8x4096x4096_0_1_2 : FVec Ideal S8x4096x1 .f32 → FVec Ideal S8x4096x4096 .f32) (Rd m c main_v41) :=
  Rd_un m c 58 (x := main_v41) (y := main_v42) rfl (by decide) (by decide)
theorem v43_eq : Rd m c main_v43 = (Host.divf : FVec Ideal S8x4096x4096 .f32 → FVec Ideal S8x4096x4096 .f32 → FVec Ideal S8x4096x4096 .f32) (Rd m c main_v39) (Rd m c main_v42) :=
  Rd_bin m c 59 (x := main_v39) (a := main_v42) (y := main_v43) rfl (by decide) (by decide) (by decide)
theorem v44_eq : Rd m c main_v44 = (mulf : FVec Ideal S8x4096x1 .f32 → FVec Ideal S8x4096x1 .f32 → FVec Ideal S8x4096x1 .f32) (Rd m c main_v41) (Rd m c main_v41) :=
  Rd_bin m c 60 (x := main_v41) (a := main_v41) (y := main_v44) rfl (by decide) (by decide) (by decide)
theorem cst_10_eq : Rd m c main_cst_10 = ((constant S_ .f32 0x3F800000#32) : FVec Ideal S_ .f32) := by
  rw [Rd_op m c 61 (r := main_cst_10) rfl (by decide), nullary_result]
theorem v45_eq : Rd m c main_v45 = (broadcastInDim S8x4096x1 ![] bcast_S_S8x4096x1 : FVec Ideal S_ .f32 → FVec Ideal S8x4096x1 .f32) (Rd m c main_cst_10) :=
  Rd_un m c 62 (x := main_cst_10) (y := main_v45) rfl (by decide) (by decide)
theorem v46_eq : Rd m c main_v46 = (Host.divf : FVec Ideal S8x4096x1 .f32 → FVec Ideal S8x4096x1 .f32 → FVec Ideal S8x4096x1 .f32) (Rd m c main_v45) (Rd m c main_v44) :=
  Rd_bin m c 63 (x := main_v45) (a := main_v44) (y := main_v46) rfl (by decide) (by decide) (by decide)
theorem v47_eq : (Rd m c main_v47 : FVec Ideal S4096x8x64 .f32) = shapeCast S4096x8x64 (Rd m c main_arg2 : FVec Ideal S4096x512 .f32) shapeCasts_S4096x512_S4096x8x64 := by
  rw [Rd_op m c 64 (r := main_v47) rfl (by decide), reshape_result, Rd_keep m c 64 (by decide)]; rfl
theorem v51_eq : Rd m c main_v51 = ((extf .f32 · bitsLt_bf16_f32) : FVec Ideal S4096x512 .bf16 → FVec Ideal S4096x512 .f32) (Rd m c main_arg4) :=
  Rd_un m c 68 (x := main_arg4) (y := main_v51) rfl (by decide) (by decide)
theorem v52_eq : (Rd m c main_v52 : FVec Ideal S4096x8x64 .f32) = shapeCast S4096x8x64 (Rd m c main_v51 : FVec Ideal S4096x512 .f32) shapeCasts_S4096x512_S4096x8x64 := by
  rw [Rd_op m c 69 (r := main_v52) rfl (by decide), reshape_result, Rd_keep m c 69 (by decide)]; rfl
theorem v53_eq : Rd m c main_v53 = ((transpose S8x64x4096 [1, 2, 0] · transposes_S4096x8x64_S8x64x4096_1_2_0) : FVec Ideal S4096x8x64 .f32 → FVec Ideal S8x64x4096 .f32) (Rd m c main_v52) :=
  Rd_un m c 70 (x := main_v52) (y := main_v53) rfl (by decide) (by decide)
theorem v54_eq : Rd m c main_v54 = ((fun l r => Host.dotGeneral dot_S8x64x4096_S4096x8x64_S8x4096x4096_1_2_2_0_0_1 none l r) : FVec Ideal S8x64x4096 .f32 → FVec Ideal S4096x8x64 .f32 → FVec Ideal S8x4096x4096 .f32) (Rd m c main_v53) (Rd m c main_v47) :=
  Rd_bin m c 71 (x := main_v53) (a := main_v47) (y := main_v54) rfl (by decide) (by decide) (by decide)
theorem v55_eq : Rd m c main_v55 = ((fun l r => Host.dotGeneral dot_S8x64x4096_S8x4096x4096_S8x64x4096_2_1_1_2_0_0 none l r) : FVec Ideal S8x64x4096 .f32 → FVec Ideal S8x4096x4096 .f32 → FVec Ideal S8x64x4096 .f32) (Rd m c main_v53) (Rd m c main_v43) :=
  Rd_bin m c 72 (x := main_v53) (a := main_v43) (y := main_v55) rfl (by decide) (by decide) (by decide)
theorem v56_eq : Rd m c main_v56 = ((transpose S4096x8x64 [2, 0, 1] · transposes_S8x64x4096_S4096x8x64_2_0_1) : FVec Ideal S8x64x4096 .f32 → FVec Ideal S4096x8x64 .f32) (Rd m c main_v55) :=
  Rd_un m c 73 (x := main_v55) (y := main_v56) rfl (by decide) (by decide)
theorem v57_eq : (Rd m c main_v57 : FVec Ideal S4096x512 .f32) = shapeCast S4096x512 (Rd m c main_v56 : FVec Ideal S4096x8x64 .f32) shapeCasts_S4096x8x64_S4096x512 := by
  rw [Rd_op m c 74 (r := main_v57) rfl (by decide), reshape_result, Rd_keep m c 74 (by decide)]; rfl
theorem v58_eq : Rd m c main_v58 = (broadcastInDim S8x4096x4096 ![0, 1, 2] bcast_S8x4096x1_S8x4096x4096_0_1_2 : FVec Ideal S8x4096x1 .f32 → FVec Ideal S8x4096x4096 .f32) (Rd m c main_v46) :=
  Rd_un m c 75 (x := main_v46) (y := main_v58) rfl (by decide) (by decide)
theorem v59_eq : Rd m c main_v59 = (mulf : FVec Ideal S8x4096x4096 .f32 → FVec Ideal S8x4096x4096 .f32 → FVec Ideal S8x4096x4096 .f32) (Rd m c main_v54) (Rd m c main_v58) :=
  Rd_bin m c 76 (x := main_v54) (a := main_v58) (y := main_v59) rfl (by decide) (by decide) (by decide)
theorem v60_eq : Rd m c main_v60 = (mulf : FVec Ideal S8x4096x4096 .f32 → FVec Ideal S8x4096x4096 .f32 → FVec Ideal S8x4096x4096 .f32) (Rd m c main_v59) (Rd m c main_v39) :=
  Rd_bin m c 77 (x := main_v59) (a := main_v39) (y := main_v60) rfl (by decide) (by decide) (by decide)
theorem cst_11_eq : Rd m c main_cst_11 = ((constant S_ .f32 0x00000000#32) : FVec Ideal S_ .f32) := by
  rw [Rd_op m c 78 (r := main_cst_11) rfl (by decide), nullary_result]
theorem v61_eq : Rd m c main_v61 = ((fun x v => Host.reduceAdd x v reducesTo_S8x4096x4096_S8x4096_d2 h_S_) : FVec Ideal S8x4096x4096 .f32 → FVec Ideal S_ .f32 → FVec Ideal S8x4096 .f32) (Rd m c main_v60) (Rd m c main_cst_11) :=
  Rd_bin m c 79 (x := main_v60) (a := main_cst_11) (y := main_v61) rfl (by decide) (by decide) (by decide)
theorem v62_eq : (Rd m c main_v62 : FVec Ideal S8x4096x1 .f32) = shapeCast S8x4096x1 (Rd m c main_v61 : FVec Ideal S8x4096 .f32) shapeCasts_S8x4096_S8x4096x1 := by
  rw [Rd_op m c 80 (r := main_v62) rfl (by decide), reshape_result, Rd_keep m c 80 (by decide)]; rfl
theorem v63_eq : Rd m c main_v63 = (Host.negf : FVec Ideal S8x4096x1 .f32 → FVec Ideal S8x4096x1 .f32) (Rd m c main_v62) :=
  Rd_un m c 81 (x := main_v62) (y := main_v63) rfl (by decide) (by decide)
theorem v64_eq : Rd m c main_v64 = (broadcastInDim S8x4096x4096 ![0, 1, 2] bcast_S8x4096x1_S8x4096x4096_0_1_2 : FVec Ideal S8x4096x1 .f32 → FVec Ideal S8x4096x4096 .f32) (Rd m c main_v41) :=
  Rd_un m c 82 (x := main_v41) (y := main_v64) rfl (by decide) (by decide)
theorem v65_eq : Rd m c main_v65 = (Host.divf : FVec Ideal S8x4096x4096 .f32 → FVec Ideal S8x4096x4096 .f32 → FVec Ideal S8x4096x4096 .f32) (Rd m c main_v54) (Rd m c main_v64) :=
  Rd_bin m c 83 (x := main_v54) (a := main_v64) (y := main_v65) rfl (by decide) (by decide) (by decide)
theorem cst_12_eq : Rd m c main_cst_12 = ((constant S_ .f32 0x00000000#32) : FVec Ideal S_ .f32) := by
  rw [Rd_op m c 84 (r := main_cst_12) rfl (by decide), nullary_result]
theorem v66_eq : Rd m c main_v66 = ((fun x v => Host.reduceAdd x v reducesTo_S8x4096x1_S8x4096_d2 h_S_) : FVec Ideal S8x4096x1 .f32 → FVec Ideal S_ .f32 → FVec Ideal S8x4096 .f32) (Rd m c main_v63) (Rd m c main_cst_12) :=
  Rd_bin m c 85 (x := main_v63) (a := main_cst_12) (y := main_v66) rfl (by decide) (by decide) (by decide)
theorem v67_eq : Rd m c main_v67 = (broadcastInDim S8x4096x4096 ![0, 1] bcast_S8x4096_S8x4096x4096_0_1 : FVec Ideal S8x4096 .f32 → FVec Ideal S8x4096x4096 .f32) (Rd m c main_v66) :=
  Rd_un m c 86 (x := main_v66) (y := main_v67) rfl (by decide) (by decide)
theorem v68_eq : Rd m c main_v68 = (addf : FVec Ideal S8x4096x4096 .f32 → FVec Ideal S8x4096x4096 .f32 → FVec Ideal S8x4096x4096 .f32) (Rd m c main_v65) (Rd m c main_v67) :=
  Rd_bin m c 87 (x := main_v65) (a := main_v67) (y := main_v68) rfl (by decide) (by decide) (by decide)
theorem v69_eq : Rd m c main_v69 = (mulf : FVec Ideal S8x4096x4096 .f32 → FVec Ideal S8x4096x4096 .f32 → FVec Ideal S8x4096x4096 .f32) (Rd m c main_v68) (Rd m c main_v39) :=
  Rd_bin m c 88 (x := main_v68) (a := main_v39) (y := main_v69) rfl (by decide) (by decide) (by decide)
theorem call1_cst_eq : Rd m c main_call1_cst = ((constant S_ .f32 0x00000000#32) : FVec Ideal S_ .f32) := by
  rw [Rd_op m c 89 (r := main_call1_cst) rfl (by decide), nullary_result]; rfl
theorem call1_v0_eq : Rd m c main_call1_v0 = ((broadcastInDim S8x4096x4096 ![] bcast_S_S8x4096x4096) : FVec Ideal S_ .f32 → FVec Ideal S8x4096x4096 .f32) (Rd m c main_call1_cst) :=
  Rd_un m c 90 (x := main_call1_cst) (y := main_call1_v0) rfl (by decide) (by decide)
theorem v70_eq : Rd m c main_v70 = (select : Vec Ideal S8x4096x4096 .i1 → FVec Ideal S8x4096x4096 .f32 → FVec Ideal S8x4096x4096 .f32 → FVec Ideal S8x4096x4096 .f32) (Rd m c main_v18_1) (Rd m c main_v69) (Rd m c main_call1_v0) :=
  Rd_tern m c 91 (x := main_v18_1) (a := main_v69) (b := main_call1_v0) (y := main_v70) rfl (by decide) (by decide) (by decide) (by decide)
theorem v71_eq : Rd m c main_v71 = (Host.negf : FVec Ideal S8x4096x4096 .f32 → FVec Ideal S8x4096x4096 .f32) (Rd m c main_v70) :=
  Rd_un m c 92 (x := main_v70) (y := main_v71) rfl (by decide) (by decide)
theorem cst_13_eq : Rd m c main_cst_13 = ((constant S_ .f32 0x00000000#32) : FVec Ideal S_ .f32) := by
  rw [Rd_op m c 93 (r := main_cst_13) rfl (by decide), nullary_result]
theorem v72_eq : Rd m c main_v72 = ((fun x v => Host.reduceAdd x v reducesTo_S8x4096x4096_S8x4096_d1 h_S_) : FVec Ideal S8x4096x4096 .f32 → FVec Ideal S_ .f32 → FVec Ideal S8x4096 .f32) (Rd m c main_v71) (Rd m c main_cst_13) :=
  Rd_bin m c 94 (x := main_v71) (a := main_cst_13) (y := main_v72) rfl (by decide) (by decide) (by decide)
theorem v73_eq : (Rd m c main_v73 : FVec Ideal S8x1x4096 .f32) = shapeCast S8x1x4096 (Rd m c main_v72 : FVec Ideal S8x4096 .f32) shapeCasts_S8x4096_S8x1x4096 := by
  rw [Rd_op m c 95 (r := main_v73) rfl (by decide), reshape_result, Rd_keep m c 95 (by decide)]; rfl
theorem cst_14_eq : Rd m c main_cst_14 = ((constant S_ .f32 0x00000000#32) : FVec Ideal S_ .f32) := by
  rw [Rd_op m c 96 (r := main_cst_14) rfl (by decide), nullary_result]
theorem v74_eq : Rd m c main_v74 = ((fun x v => Host.reduceAdd x v reducesTo_S8x1x4096_S8x4096_d1 h_S_) : FVec Ideal S8x1x4096 .f32 → FVec Ideal S_ .f32 → FVec Ideal S8x4096 .f32) (Rd m c main_v73) (Rd m c main_cst_14) :=
  Rd_bin m c 97 (x := main_v73) (a := main_cst_14) (y := main_v74) rfl (by decide) (by decide) (by decide)
theorem cst_15_eq : Rd m c main_cst_15 = ((constant S_ .f32 0x00000000#32) : FVec Ideal S_ .f32) := by
  rw [Rd_op m c 98 (r := main_cst_15) rfl (by decide), nullary_result]
theorem v75_eq : Rd m c main_v75 = ((fun x v => Host.reduceAdd x v reducesTo_S8x4096x4096_S8x4096_d2 h_S_) : FVec Ideal S8x4096x4096 .f32 → FVec Ideal S_ .f32 → FVec Ideal S8x4096 .f32) (Rd m c main_v70) (Rd m c main_cst_15) :=
  Rd_bin m c 99 (x := main_v70) (a := main_cst_15) (y := main_v75) rfl (by decide) (by decide) (by decide)
theorem v76_eq : (Rd m c main_v76 : FVec Ideal S8x4096x1 .f32) = shapeCast S8x4096x1 (Rd m c main_v75 : FVec Ideal S8x4096 .f32) shapeCasts_S8x4096_S8x4096x1 := by
  rw [Rd_op m c 100 (r := main_v76) rfl (by decide), reshape_result, Rd_keep m c 100 (by decide)]; rfl
theorem cst_16_eq : Rd m c main_cst_16 = ((constant S_ .f32 0x00000000#32) : FVec Ideal S_ .f32) := by
  rw [Rd_op m c 101 (r := main_cst_16) rfl (by decide), nullary_result]
theorem v77_eq : Rd m c main_v77 = ((fun x v => Host.reduceAdd x v reducesTo_S8x4096x1_S8x4096_d2 h_S_) : FVec Ideal S8x4096x1 .f32 → FVec Ideal S_ .f32 → FVec Ideal S8x4096 .f32) (Rd m c main_v76) (Rd m c main_cst_16) :=
  Rd_bin m c 102 (x := main_v76) (a := main_cst_16) (y := main_v77) rfl (by decide) (by decide) (by decide)
theorem v78_eq : Rd m c main_v78 = (addf : FVec Ideal S8x4096 .f32 → FVec Ideal S8x4096 .f32 → FVec Ideal S8x4096 .f32) (Rd m c main_v74) (Rd m c main_v77) :=
  Rd_bin m c 103 (x := main_v74) (a := main_v77) (y := main_v78) rfl (by decide) (by decide) (by decide)
theorem v79_eq : Rd m c main_v79 = ((transpose S4096x8 [1, 0] · transposes_S8x4096_S4096x8_1_0) : FVec Ideal S8x4096 .f32 → FVec Ideal S4096x8 .f32) (Rd m c main_v78) :=
  Rd_un m c 104 (x := main_v78) (y := main_v79) rfl (by decide) (by decide)
theorem cst_17_eq : Rd m c main_cst_17 = ((constant S_ .f32 0x3E000000#32) : FVec Ideal S_ .f32) := by
  rw [Rd_op m c 105 (r := main_cst_17) rfl (by decide), nullary_result]
theorem v80_eq : Rd m c main_v80 = (broadcastInDim S8x4096x4096 ![] bcast_S_S8x4096x4096 : FVec Ideal S_ .f32 → FVec Ideal S8x4096x4096 .f32) (Rd m c main_cst_17) :=
  Rd_un m c 106 (x := main_cst_17) (y := main_v80) rfl (by decide) (by decide)
theorem v81_eq : Rd m c main_v81 = (mulf : FVec Ideal S8x4096x4096 .f32 → FVec Ideal S8x4096x4096 .f32 → FVec Ideal S8x4096x4096 .f32) (Rd m c main_v70) (Rd m c main_v80) :=
  Rd_bin m c 107 (x := main_v70) (a := main_v80) (y := main_v81) rfl (by decide) (by decide) (by decide)
theorem v82_eq : Rd m c main_v82 = ((fun l r => Host.dotGeneral dot_S8x4096x4096_S4096x8x64_S8x4096x64_1_0_2_2_0_1 none l r) : FVec Ideal S8x4096x4096 .f32 → FVec Ideal S4096x8x64 .f32 → FVec Ideal S8x4096x64 .f32) (Rd m c main_v81) (Rd m c main_v0) :=
  Rd_bin m c 108 (x := main_v81) (a := main_v0) (y := main_v82) rfl (by decide) (by decide) (by decide)
theorem v83_eq : Rd m c main_v83 = ((transpose S4096x8x64 [1, 0, 2] · transposes_S8x4096x64_S4096x8x64_1_0_2) : FVec Ideal S8x4096x64 .f32 → FVec Ideal S4096x8x64 .f32) (Rd m c main_v82) :=
  Rd_un m c 109 (x := main_v82) (y := main_v83) rfl (by decide) (by decide)
theorem v84_eq : Rd m c main_v84 = ((fun l r => Host.dotGeneral dot_S8x4096x4096_S4096x8x64_S8x4096x64_2_0_1_2_0_1 none l r) : FVec Ideal S8x4096x4096 .f32 → FVec Ideal S4096x8x64 .f32 → FVec Ideal S8x4096x64 .f32) (Rd m c main_v81) (Rd m c main_v1) :=
  Rd_bin m c 110 (x := main_v81) (a := main_v1) (y := main_v84) rfl (by decide) (by decide) (by decide)
theorem v85_eq : Rd m c main_v85 = ((transpose S4096x8x64 [1, 0, 2] · transposes_S8x4096x64_S4096x8x64_1_0_2) : FVec Ideal S8x4096x64 .f32 → FVec Ideal S4096x8x64 .f32) (Rd m c main_v84) :=
  Rd_un m c 111 (x := main_v84) (y := main_v85) rfl (by decide) (by decide)
theorem v86_eq : (Rd m c main_v86 : FVec Ideal S4096x512 .f32) = shapeCast S4096x512 (Rd m c main_v83 : FVec Ideal S4096x8x64 .f32) shapeCasts_S4096x8x64_S4096x512 := by
  rw [Rd_op m c 112 (r := main_v86) rfl (by decide), reshape_result, Rd_keep m c 112 (by decide)]; rfl
theorem v87_eq : (Rd m c main_v87 : FVec Ideal S4096x512 .f32) = shapeCast S4096x512 (Rd m c main_v85 : FVec Ideal S4096x8x64 .f32) shapeCasts_S4096x8x64_S4096x512 := by
  rw [Rd_op m c 113 (r := main_v87) rfl (by decide), reshape_result, Rd_keep m c 113 (by decide)]; rfl
theorem v88_eq : Rd m c main_v88 = ((truncf .bf16 · bitsLt_bf16_f32) : FVec Ideal S4096x512 .f32 → FVec Ideal S4096x512 .bf16) (Rd m c main_v87) :=
  Rd_un m c 114 (x := main_v87) (y := main_v88) rfl (by decide) (by decide)
theorem v89_eq : Rd m c main_v89 = ((truncf .bf16 · bitsLt_bf16_f32) : FVec Ideal S4096x512 .f32 → FVec Ideal S4096x512 .bf16) (Rd m c main_v86) :=
  Rd_un m c 115 (x := main_v86) (y := main_v89) rfl (by decide) (by decide)
theorem v90_eq : Rd m c main_v90 = ((truncf .bf16 · bitsLt_bf16_f32) : FVec Ideal S4096x512 .f32 → FVec Ideal S4096x512 .bf16) (Rd m c main_v57) :=
  Rd_un m c 116 (x := main_v57) (y := main_v90) rfl (by decide) (by decide)
theorem v91_eq : Rd m c main_v91 = ((transpose S8x4096 [1, 0] · transposes_S4096x8_S8x4096_1_0) : FVec Ideal S4096x8 .f32 → FVec Ideal S8x4096 .f32) (Rd m c main_v79) :=
  Rd_un m c 117 (x := main_v79) (y := main_v91) rfl (by decide) (by decide)
theorem v92_eq : (Rd m c main_v92 : FVec Ideal S8x4x1x1024 .f32) = shapeCast S8x4x1x1024 (Rd m c main_v91 : FVec Ideal S8x4096 .f32) shapeCasts_S8x4096_S8x4x1x1024 := by
  rw [Rd_op m c 118 (r := main_v92) rfl (by decide), reshape_result, Rd_keep m c 118 (by decide)]; rfl

end Cert.ReferenceIdeal.Attn

end
-- ==== Proof.RefVals.lean ====
module

public import proofs.«01_k».proof.Proof.RefOps
public import proofs.«01_k».proof.Proof.Spec
public import Idealize.ShloMosaic.Lib.WordCmp
public import Idealize.ShloMosaic.Lib.Pointwise

@[expose] public section

set_option maxRecDepth 16384
set_option maxHeartbeats 1000000

noncomputable section

namespace Cert.ReferenceIdeal.Attn

open Cert.ReferenceIdeal.Gen Cert.ReferenceIdeal.Value
open Idealize.ShloMosaic Idealize.ShloMosaic.TcCoe Idealize.ShloMosaic.StableHlo

/-! ## The reference's arrays at an index -/

/-- Feature `e` of head `h`. -/
abbrev feat (h : Fin 8) (e : Fin 64) : Fin 512 := ⟨h.val * 64 + e.val, by have := h.isLt; have := e.isLt; omega⟩
/-- Key `n` of block `j`. -/
abbrev row (r : Fin 4) (i : Fin 1024) : Fin 4096 := ⟨1024 * r.val + i.val, by have := r.isLt; have := i.isLt; omega⟩

variable (m : (ℓ : Loc nD τ sig) → Buf (Elt Ideal) ℓ)

/-- The arguments are these real numbers. -/
structure Args (c : Dev nD) (q k v d : Fin 4096 → Fin 8 → Fin 64 → ℝ) (g : Fin 4096 → Fin 8 → ℝ) : Prop where
  q : ∀ w h e, (m (c, Proc.tc.devRef main_arg0) : Vec Ideal S4096x512 .f32) (ix2 w (feat h e)) = (q w h e : EReal)
  k : ∀ w h e, (m (c, Proc.tc.devRef main_arg1) : Vec Ideal S4096x512 .f32) (ix2 w (feat h e)) = (k w h e : EReal)
  v : ∀ w h e, (m (c, Proc.tc.devRef main_arg2) : Vec Ideal S4096x512 .f32) (ix2 w (feat h e)) = (v w h e : EReal)
  g : ∀ w h, (m (c, Proc.tc.devRef main_arg3) : Vec Ideal S4096x8 .f32) (ix2 w h) = (g w h : EReal)
  d : ∀ w h e, (m (c, Proc.tc.devRef main_arg4) : Vec Ideal S4096x512 .bf16) (ix2 w (feat h e)) = (d w h e : EReal)

variable {m} {c : Dev nD} {q k v d : Fin 4096 → Fin 8 → Fin 64 → ℝ} {g : Fin 4096 → Fin 8 → ℝ}

theorem bot_val : (Ideal.ofBits .f32 4286578688#32 : EReal) = ⊥ := by
  simp [Ideal.ofBits, Ideal.ieee, -EReal.coe_mul]
theorem one_val : (Ideal.ofBits .f32 1065353216#32 : EReal) = 1 := by
  simp [Ideal.ofBits, Ideal.ieee, -EReal.coe_mul]; norm_num
theorem scale_val : (Ideal.ofBits .f32 1040187392#32 : EReal) = ((1 / 8 : ℝ) : EReal) := by
  simp [Ideal.ofBits, Ideal.ieee, -EReal.coe_mul]; norm_num

/-! ### Operation by operation -/

theorem cast3_apply (a : Vec Ideal S4096x512 .f32) (w : Fin 4096) (h : Fin 8) (e : Fin 64) : shapeCast S4096x8x64 a shapeCasts_S4096x512_S4096x8x64 (ix3 w h e) = a (ix2 w (feat h e)) := by
  simp only [pointwise]
theorem cast2_apply (a : Vec Ideal S4096x8x64 .f32) (w : Fin 4096) (h : Fin 8) (e : Fin 64) : shapeCast S4096x512 a shapeCasts_S4096x8x64_S4096x512 (ix2 w (feat h e)) = a (ix3 w h e) := by
  simp only [pointwise]
  have he := e.isLt
  exact congrArg a (congrArg₂ (ix3 w) (Fin.ext (by show (h.val * 64 + e.val) / 64 = h.val; omega)) (Fin.ext (by show (h.val * 64 + e.val) % 64 = e.val; omega)))

theorem v2_at (h : Fin 8) (w n : Fin 4096) : (Rd m c main_v2 : FVec Ideal S8x4096x4096 .f32) (ix3 h w n)
    = (∑ e : Fin 64, HMul.hMul (α := EReal) (β := EReal) (γ := EReal) ((Rd m c main_v0 : FVec Ideal S4096x8x64 .f32) (ix3 w h e)) ((Rd m c main_v1 : FVec Ideal S4096x8x64 .f32) (ix3 n h e))) := by
  rw [v2_eq]
  generalize Rd m c main_v0 = S0
  generalize Rd m c main_v1 = S1
  simp only [pointwise]
  exact zero_add (M := EReal) _
theorem v11_at (h : Fin 8) (w n : Fin 4096) : (Rd m c main_v11 : FVec Ideal S8x4096x4096 .f32) (ix3 h w n)
    = (fun a b e : EReal => a * ((1 / 8 : ℝ) : EReal) + b - e) ((Rd m c main_v2 : FVec Ideal S8x4096x4096 .f32) (ix3 h w n)) ((Rd m c main_arg3 : FVec Ideal S4096x8 .f32) (ix2 w h)) ((Rd m c main_arg3 : FVec Ideal S4096x8 .f32) (ix2 n h)) := by
  rw [v11_eq, v10_eq, v9_eq, v8_eq, v7_eq, v6_eq, v5_eq, v4_eq, v3_eq, cst_eq, ← scale_val]
  generalize Rd m c main_v2 = S0
  generalize Rd m c main_arg3 = S1
  simp only [pointwise]
  rfl
theorem v17_at (w n : Fin 4096) : (Rd m c main_v17 : Vec Ideal S4096x4096 .i1) (ix2 w n) = if n.val ≤ w.val then 1#1 else 0#1 := by
  rw [v17_eq, v16_eq, v15_eq, v14_eq, v13_eq, v12_eq]
  simp only [pointwise]
  show IntOp.cmpi CmpIPredicate.sge (BitVec.ofNat 32 w.val) (BitVec.ofNat 32 n.val) = _
  rw [WordCmp.cmpi_sge_eq, WordCmp.toInt_ofNat_of_lt (by omega), WordCmp.toInt_ofNat_of_lt (by omega)]
  by_cases hh : n.val ≤ w.val <;> simp [hh]
theorem mask_at (h : Fin 8) (w n : Fin 4096) : (Rd m c main_v18_1 : Vec Ideal S8x4096x4096 .i1) (ix3 h w n) = if n.val ≤ w.val then 1#1 else 0#1 := by
  rw [← v17_at (m := m) (c := c), v18_1_eq]
  generalize Rd m c main_v17 = S0
  simp only [pointwise]
  rfl
theorem v18_0_at (h : Fin 8) (w n : Fin 4096) : (Rd m c main_v18_0 : FVec Ideal S8x4096x4096 .f32) (ix3 h w n)
    = Scalar.select ((Rd m c main_v18_1 : Vec Ideal S8x4096x4096 .i1) (ix3 h w n)) ((Rd m c main_v11 : FVec Ideal S8x4096x4096 .f32) (ix3 h w n)) (Ideal.ofBits .f32 4286578688#32) := by
  rw [v18_0_eq, call0_v2_eq, call0_v0_eq, cst_0_eq]
  generalize Rd m c main_v18_1 = S0
  generalize Rd m c main_v11 = S1
  simp only [pointwise]
  rfl
theorem v19_at (h : Fin 8) (w : Fin 4096) : (Rd m c main_v19 : FVec Ideal S8x4096 .f32) (ix2 h w) = Finset.fold max (⊥ : EReal) (fun n : Fin 4096 => (Rd m c main_v18_0 : Vec Ideal S8x4096x4096 .f32) (ix3 h w n)) Finset.univ := by
  rw [v19_eq, cst_1_eq]
  generalize Rd m c main_v18_0 = S
  simp only [pointwise]
  rw [bot_val]
theorem v26_at (h : Fin 8) (w : Fin 4096) : (Rd m c main_v26 : FVec Ideal S8x4096 .f32) (ix2 h w) = (fun a : EReal => max ⊥ a) ((Rd m c main_v19 : FVec Ideal S8x4096 .f32) (ix2 h w)) := by
  have e : (Rd m c main_v25 : FVec Ideal S8x4096 .f32) (ix2 h w) = (⊥ : EReal) := by
    rw [v25_eq, cst_3_eq, ← bot_val]
    simp only [pointwise]
  rw [v26_eq, ← e]
  generalize Rd m c main_v19 = S
  generalize Rd m c main_v25 = B
  exact maximumf_apply (F := Ideal) (s := S8x4096) (φ := .f32) B S (ix2 h w)
theorem v39_at (h : Fin 8) (w n : Fin 4096) : (Rd m c main_v39 : FVec Ideal S8x4096x4096 .f32) (ix3 h w n)
    = (fun a b : EReal => Ideal.exp (a - b)) ((Rd m c main_v18_0 : FVec Ideal S8x4096x4096 .f32) (ix3 h w n)) ((Rd m c main_v26 : FVec Ideal S8x4096 .f32) (ix2 h w)) := by
  rw [v39_eq, v38_eq, v37_eq, v36_eq]
  generalize Rd m c main_v18_0 = S0
  generalize Rd m c main_v26 = S1
  simp only [pointwise]
  rfl
theorem v40_at (h : Fin 8) (w : Fin 4096) : (Rd m c main_v40 : FVec Ideal S8x4096 .f32) (ix2 h w) = (∑ n : Fin 4096, (Rd m c main_v39 : FVec Ideal S8x4096x4096 .f32) (ix3 h w n) : EReal) := by
  rw [v40_eq, cst_9_eq]
  generalize Rd m c main_v39 = S
  simp only [pointwise]
  exact zero_add (M := EReal) _
theorem v41_at (h : Fin 8) (w : Fin 4096) : (Rd m c main_v41 : FVec Ideal S8x4096x1 .f32) (ix3 h w 0) = (Rd m c main_v40 : FVec Ideal S8x4096 .f32) (ix2 h w) := by
  rw [v41_eq]
  generalize Rd m c main_v40 = S
  simp only [pointwise]
  rfl
theorem v43_at (h : Fin 8) (w n : Fin 4096) : (Rd m c main_v43 : FVec Ideal S8x4096x4096 .f32) (ix3 h w n)
    = (fun a b : EReal => Ideal.div a b) ((Rd m c main_v39 : FVec Ideal S8x4096x4096 .f32) (ix3 h w n)) ((Rd m c main_v41 : FVec Ideal S8x4096x1 .f32) (ix3 h w 0)) := by
  rw [v43_eq, v42_eq]
  generalize Rd m c main_v39 = S0
  generalize Rd m c main_v41 = S1
  simp only [pointwise]
  rfl
theorem v46_at (h : Fin 8) (w : Fin 4096) : (Rd m c main_v46 : FVec Ideal S8x4096x1 .f32) (ix3 h w 0)
    = (fun a : EReal => Ideal.div 1 (a * a)) ((Rd m c main_v41 : FVec Ideal S8x4096x1 .f32) (ix3 h w 0)) := by
  rw [v46_eq, v45_eq, v44_eq, cst_10_eq, ← one_val]
  generalize Rd m c main_v41 = S1
  simp only [pointwise]
theorem v53_at (h : Fin 8) (e : Fin 64) (w : Fin 4096) : (Rd m c main_v53 : FVec Ideal S8x64x4096 .f32) (ix3 h e w) = (Rd m c main_arg4 : FVec Ideal S4096x512 .bf16) (ix2 w (feat h e)) := by
  rw [v53_eq, v52_eq, v51_eq]
  generalize Rd m c main_arg4 = S1
  simp only [pointwise]
theorem v54_at (h : Fin 8) (w n : Fin 4096) : (Rd m c main_v54 : FVec Ideal S8x4096x4096 .f32) (ix3 h w n)
    = (∑ e : Fin 64, HMul.hMul (α := EReal) (β := EReal) (γ := EReal) ((Rd m c main_v53 : FVec Ideal S8x64x4096 .f32) (ix3 h e w)) ((Rd m c main_v47 : FVec Ideal S4096x8x64 .f32) (ix3 n h e))) := by
  rw [v54_eq]
  generalize Rd m c main_v53 = S0
  generalize Rd m c main_v47 = S1
  simp only [pointwise]
  exact zero_add (M := EReal) _
theorem v55_at (h : Fin 8) (e : Fin 64) (n : Fin 4096) : (Rd m c main_v55 : FVec Ideal S8x64x4096 .f32) (ix3 h e n)
    = (∑ w : Fin 4096, HMul.hMul (α := EReal) (β := EReal) (γ := EReal) ((Rd m c main_v53 : FVec Ideal S8x64x4096 .f32) (ix3 h e w)) ((Rd m c main_v43 : FVec Ideal S8x4096x4096 .f32) (ix3 h w n))) := by
  rw [v55_eq]
  generalize Rd m c main_v53 = S0
  generalize Rd m c main_v43 = S1
  simp only [pointwise]
  exact zero_add (M := EReal) _
theorem v60_at (h : Fin 8) (w n : Fin 4096) : (Rd m c main_v60 : FVec Ideal S8x4096x4096 .f32) (ix3 h w n)
    = (fun a b e : EReal => a * b * e) ((Rd m c main_v54 : FVec Ideal S8x4096x4096 .f32) (ix3 h w n)) ((Rd m c main_v46 : FVec Ideal S8x4096x1 .f32) (ix3 h w 0)) ((Rd m c main_v39 : FVec Ideal S8x4096x4096 .f32) (ix3 h w n)) := by
  rw [v60_eq, v59_eq, v58_eq]
  generalize Rd m c main_v54 = S0
  generalize Rd m c main_v46 = S1
  generalize Rd m c main_v39 = S2
  simp only [pointwise]
  rfl
theorem v61_at (h : Fin 8) (w : Fin 4096) : (Rd m c main_v61 : FVec Ideal S8x4096 .f32) (ix2 h w) = (∑ n : Fin 4096, (Rd m c main_v60 : FVec Ideal S8x4096x4096 .f32) (ix3 h w n) : EReal) := by
  rw [v61_eq, cst_11_eq]
  generalize Rd m c main_v60 = S
  simp only [pointwise]
  exact zero_add (M := EReal) _
theorem v66_at (h : Fin 8) (w : Fin 4096) : (Rd m c main_v66 : FVec Ideal S8x4096 .f32) (ix2 h w) = (fun a : EReal => -a) ((Rd m c main_v61 : FVec Ideal S8x4096 .f32) (ix2 h w)) := by
  rw [v66_eq, cst_12_eq, v63_eq, v62_eq]
  generalize Rd m c main_v61 = S
  simp only [pointwise]
  refine (zero_add (M := EReal) _).trans ?_
  simp
theorem v69_at (h : Fin 8) (w n : Fin 4096) : (Rd m c main_v69 : FVec Ideal S8x4096x4096 .f32) (ix3 h w n)
    = (fun a l b e : EReal => (Ideal.div a l + b) * e) ((Rd m c main_v54 : FVec Ideal S8x4096x4096 .f32) (ix3 h w n)) ((Rd m c main_v41 : FVec Ideal S8x4096x1 .f32) (ix3 h w 0)) ((Rd m c main_v66 : FVec Ideal S8x4096 .f32) (ix2 h w)) ((Rd m c main_v39 : FVec Ideal S8x4096x4096 .f32) (ix3 h w n)) := by
  rw [v69_eq, v68_eq, v67_eq, v65_eq, v64_eq]
  generalize Rd m c main_v54 = S0
  generalize Rd m c main_v41 = S1
  generalize Rd m c main_v66 = S2
  generalize Rd m c main_v39 = S3
  simp only [pointwise]
  rfl
theorem v70_at (h : Fin 8) (w n : Fin 4096) : (Rd m c main_v70 : FVec Ideal S8x4096x4096 .f32) (ix3 h w n)
    = Scalar.select ((Rd m c main_v18_1 : Vec Ideal S8x4096x4096 .i1) (ix3 h w n)) ((Rd m c main_v69 : FVec Ideal S8x4096x4096 .f32) (ix3 h w n)) (0 : EReal) := by
  rw [v70_eq, call1_v0_eq, call1_cst_eq]
  generalize Rd m c main_v18_1 = S0
  generalize Rd m c main_v69 = S1
  simp only [pointwise]
theorem v74_at (h : Fin 8) (n : Fin 4096) : (Rd m c main_v74 : FVec Ideal S8x4096 .f32) (ix2 h n) = (∑ w : Fin 4096, (fun a : EReal => -a) ((Rd m c main_v70 : FVec Ideal S8x4096x4096 .f32) (ix3 h w n)) : EReal) := by
  rw [v74_eq, cst_14_eq, v73_eq, v72_eq, cst_13_eq, v71_eq]
  generalize Rd m c main_v70 = S
  simp only [pointwise]
  refine (zero_add (M := EReal) _).trans ?_
  simp
theorem v77_at (h : Fin 8) (w : Fin 4096) : (Rd m c main_v77 : FVec Ideal S8x4096 .f32) (ix2 h w) = (∑ n : Fin 4096, (Rd m c main_v70 : FVec Ideal S8x4096x4096 .f32) (ix3 h w n) : EReal) := by
  rw [v77_eq, cst_16_eq, v76_eq, v75_eq, cst_15_eq]
  generalize Rd m c main_v70 = S
  simp only [pointwise]
  refine (zero_add (M := EReal) _).trans ?_
  simp
theorem v92_at (h : Fin 8) (j : Fin 4) (n : Fin 1024) : (Rd m c main_v92 : FVec Ideal S8x4x1x1024 .f32) (ix4 h j 0 n)
    = (fun a b : EReal => a + b) ((Rd m c main_v74 : FVec Ideal S8x4096 .f32) (ix2 h (row j n))) ((Rd m c main_v77 : FVec Ideal S8x4096 .f32) (ix2 h (row j n))) := by
  rw [v92_eq, v91_eq, v79_eq, v78_eq]
  generalize Rd m c main_v74 = S0
  generalize Rd m c main_v77 = S1
  simp only [pointwise]
  have e : (⟨j.val * 1024 + n.val, by omega⟩ : Fin 4096) = row j n := Fin.ext (by show j.val * 1024 + n.val = 1024 * j.val + n.val; omega)
  exact congrArg₂ (fun a b : EReal => a + b) (congrArg S0 (congrArg (ix2 h) e)) (congrArg S1 (congrArg (ix2 h) e))
theorem v81_at (h : Fin 8) (w n : Fin 4096) : (Rd m c main_v81 : FVec Ideal S8x4096x4096 .f32) (ix3 h w n)
    = (fun a : EReal => a * ((1 / 8 : ℝ) : EReal)) ((Rd m c main_v70 : FVec Ideal S8x4096x4096 .f32) (ix3 h w n)) := by
  rw [v81_eq, v80_eq, cst_17_eq, ← scale_val]
  generalize Rd m c main_v70 = S0
  simp only [pointwise]
theorem v83_at (n : Fin 4096) (h : Fin 8) (e : Fin 64) : (Rd m c main_v83 : FVec Ideal S4096x8x64 .f32) (ix3 n h e)
    = (∑ w : Fin 4096, HMul.hMul (α := EReal) (β := EReal) (γ := EReal) ((Rd m c main_v81 : FVec Ideal S8x4096x4096 .f32) (ix3 h w n)) ((Rd m c main_v0 : FVec Ideal S4096x8x64 .f32) (ix3 w h e))) := by
  rw [v83_eq, v82_eq]
  generalize Rd m c main_v81 = S0
  generalize Rd m c main_v0 = S1
  simp only [pointwise]
  exact zero_add (M := EReal) _
theorem v85_at (w : Fin 4096) (h : Fin 8) (e : Fin 64) : (Rd m c main_v85 : FVec Ideal S4096x8x64 .f32) (ix3 w h e)
    = (∑ n : Fin 4096, HMul.hMul (α := EReal) (β := EReal) (γ := EReal) ((Rd m c main_v81 : FVec Ideal S8x4096x4096 .f32) (ix3 h w n)) ((Rd m c main_v1 : FVec Ideal S4096x8x64 .f32) (ix3 n h e))) := by
  rw [v85_eq, v84_eq]
  generalize Rd m c main_v81 = S0
  generalize Rd m c main_v1 = S1
  simp only [pointwise]
  exact zero_add (M := EReal) _
theorem v56_at (n : Fin 4096) (h : Fin 8) (e : Fin 64) : (Rd m c main_v56 : FVec Ideal S4096x8x64 .f32) (ix3 n h e) = (Rd m c main_v55 : FVec Ideal S8x64x4096 .f32) (ix3 h e n) := by
  rw [v56_eq]
  generalize Rd m c main_v55 = S0
  simp only [pointwise]
theorem cut_apply (a : FVec Ideal S4096x512 .f32) (i : S4096x512.Idx) : (truncf .bf16 a bitsLt_bf16_f32 : FVec Ideal S4096x512 .bf16) i = a i := rfl
theorem v88_at (w : Fin 4096) (h : Fin 8) (e : Fin 64) : (Rd m c main_v88 : FVec Ideal S4096x512 .bf16) (ix2 w (feat h e)) = (Rd m c main_v85 : FVec Ideal S4096x8x64 .f32) (ix3 w h e) := by
  rw [v88_eq, v87_eq]
  generalize Rd m c main_v85 = S0
  exact cast2_apply S0 w h e
theorem v89_at (w : Fin 4096) (h : Fin 8) (e : Fin 64) : (Rd m c main_v89 : FVec Ideal S4096x512 .bf16) (ix2 w (feat h e)) = (Rd m c main_v83 : FVec Ideal S4096x8x64 .f32) (ix3 w h e) := by
  rw [v89_eq, v86_eq]
  generalize Rd m c main_v83 = S0
  exact cast2_apply S0 w h e
theorem v90_at (w : Fin 4096) (h : Fin 8) (e : Fin 64) : (Rd m c main_v90 : FVec Ideal S4096x512 .bf16) (ix2 w (feat h e)) = (Rd m c main_v56 : FVec Ideal S4096x8x64 .f32) (ix3 w h e) := by
  rw [v90_eq, v57_eq]
  generalize Rd m c main_v56 = S0
  exact cast2_apply S0 w h e

end Cert.ReferenceIdeal.Attn

end
-- ==== Proof.RefReal.lean ====
module

public import proofs.«01_k».proof.Proof.RefVals

@[expose] public section

set_option maxRecDepth 16384

noncomputable section

namespace Cert.ReferenceIdeal.Attn

open Cert.ReferenceIdeal.Gen Cert.ReferenceIdeal.Value
open Idealize.ShloMosaic Idealize.ShloMosaic.TcCoe Idealize.ShloMosaic.StableHlo

/-! ## The reference's results as real numbers -/

/-- The exponential of a masked score with a number taken off. -/
theorem exp_mask (p : Prop) [Decidable p] (x y : ℝ) : Ideal.exp ((if p then (x : EReal) else ⊥) - (y : EReal)) = ((if p then Real.exp (x - y) else 0 : ℝ) : EReal) := by
  split_ifs
  · rw [← EReal.coe_sub]; exact Ideal.exp_coe _
  · rw [sub_eq_add_neg, EReal.bot_add]; rfl

variable {m : (ℓ : Loc nD τ sig) → Buf (Elt Ideal) ℓ} {c : Dev nD} {q k v d : Fin 4096 → Fin 8 → Fin 64 → ℝ} {g : Fin 4096 → Fin 8 → ℝ}
variable (A : Args m c q k v d g)

section
include A

theorem q_at (w : Fin 4096) (h : Fin 8) (e : Fin 64) : (Rd m c main_v0 : FVec Ideal S4096x8x64 .f32) (ix3 w h e) = (q w h e : EReal) := by
  rw [v0_eq, Rd_arg m c (r := main_arg0) (by decide)]
  exact (cast3_apply _ w h e).trans (A.q w h e)
theorem k_at (w : Fin 4096) (h : Fin 8) (e : Fin 64) : (Rd m c main_v1 : FVec Ideal S4096x8x64 .f32) (ix3 w h e) = (k w h e : EReal) := by
  rw [v1_eq, Rd_arg m c (r := main_arg1) (by decide)]
  exact (cast3_apply _ w h e).trans (A.k w h e)
theorem v_at (w : Fin 4096) (h : Fin 8) (e : Fin 64) : (Rd m c main_v47 : FVec Ideal S4096x8x64 .f32) (ix3 w h e) = (v w h e : EReal) := by
  rw [v47_eq, Rd_arg m c (r := main_arg2) (by decide)]
  exact (cast3_apply _ w h e).trans (A.v w h e)
theorem g_at (w : Fin 4096) (h : Fin 8) : (Rd m c main_arg3 : FVec Ideal S4096x8 .f32) (ix2 w h) = (g w h : EReal) := by
  rw [Rd_arg m c (r := main_arg3) (by decide)]
  exact A.g w h
theorem d_at (h : Fin 8) (e : Fin 64) (w : Fin 4096) : (Rd m c main_v53 : FVec Ideal S8x64x4096 .f32) (ix3 h e w) = (d w h e : EReal) := by
  rw [v53_at, Rd_arg m c (r := main_arg4) (by decide)]
  exact A.d w h e

/-- The scores. -/
theorem sc_at (h : Fin 8) (w n : Fin 4096) : (Rd m c main_v11 : FVec Ideal S8x4096x4096 .f32) (ix3 h w n) = (Cert.Attn.sc q k g h w n : EReal) := by
  have e2 : (Rd m c main_v2 : FVec Ideal S8x4096x4096 .f32) (ix3 h w n) = ((∑ e, q w h e * k n h e : ℝ) : EReal) := by
    rw [v2_at]
    simp only [q_at A, k_at A, ← EReal.coe_mul]
    exact Cert.Attn.coe_sum _ _
  rw [v11_at, e2, g_at A, g_at A]
  simp only [← EReal.coe_mul, ← EReal.coe_add, ← EReal.coe_sub]
  rfl
/-- The scores a query may see. -/
theorem msc_at (h : Fin 8) (w n : Fin 4096) : (Rd m c main_v18_0 : FVec Ideal S8x4096x4096 .f32) (ix3 h w n) = if n.val ≤ w.val then (Cert.Attn.sc q k g h w n : EReal) else ⊥ := by
  rw [v18_0_at, mask_at, sc_at A, bot_val]
  split_ifs <;> rfl
/-- A row's largest score is a real number. -/
theorem max_at (h : Fin 8) (w : Fin 4096) : ∃ M : ℝ, (Rd m c main_v26 : FVec Ideal S8x4096 .f32) (ix2 h w) = (M : EReal) := by
  have e : ∃ M : ℝ, (Rd m c main_v19 : FVec Ideal S8x4096 .f32) (ix2 h w) = (M : EReal) := by
    rw [v19_at]
    simp only [msc_at A]
    refine Cert.Attn.fold_max _ _ (fun n => ?_) w (Finset.mem_univ _) ?_
    · split_ifs
      · exact EReal.coe_ne_top _
      · exact bot_ne_top
    · rw [if_pos le_rfl]; exact EReal.coe_ne_bot _
  obtain ⟨M, hM⟩ := e
  refine ⟨M, ?_⟩
  rw [v26_at, hM]
  exact max_eq_right (bot_le (α := EReal))

variable {h : Fin 8} {w : Fin 4096} {M : ℝ} (hM : (Rd m c main_v26 : FVec Ideal S8x4096 .f32) (ix2 h w) = (M : EReal))
include hM

theorem ex_at (n : Fin 4096) : (Rd m c main_v39 : FVec Ideal S8x4096x4096 .f32) (ix3 h w n) = (Cert.Attn.exm q k g M h w n : EReal) := by
  rw [v39_at, msc_at A, hM]
  exact exp_mask _ _ _
theorem zs_at : (Rd m c main_v41 : FVec Ideal S8x4096x1 .f32) (ix3 h w 0) = ((∑ n, Cert.Attn.exm q k g M h w n : ℝ) : EReal) := by
  rw [v41_at, v40_at]
  simp only [ex_at A hM]
  exact Cert.Attn.coe_sum _ _
theorem wt_at' (n : Fin 4096) : (Rd m c main_v43 : FVec Ideal S8x4096x4096 .f32) (ix3 h w n) = (Cert.Attn.wt q k g h w n : EReal) := by
  rw [v43_at, zs_at A hM, ex_at A hM, ← Cert.Attn.wt_exm q k g M h w n, EReal.coe_mul]
  exact Ideal.div_coe (Cert.Attn.sum_exm_pos q k g M h w).ne' _
theorem inv_at : (Rd m c main_v46 : FVec Ideal S8x4096x1 .f32) (ix3 h w 0) = ((1 * (1 / ((∑ n, Cert.Attn.exm q k g M h w n) * ∑ n, Cert.Attn.exm q k g M h w n)) : ℝ) : EReal) := by
  have hL := (Cert.Attn.sum_exm_pos q k g M h w).ne'
  rw [v46_at, zs_at A hM]
  generalize (∑ n, Cert.Attn.exm q k g M h w n) = L at hL ⊢
  show Ideal.div 1 ((L : EReal) * (L : EReal)) = _
  rw [← EReal.coe_mul, Ideal.div_coe (mul_ne_zero hL hL), EReal.coe_mul, EReal.coe_one]
omit hM in
theorem dp_at (h : Fin 8) (w n : Fin 4096) : (Rd m c main_v54 : FVec Ideal S8x4096x4096 .f32) (ix3 h w n) = (Cert.Attn.dp v d h w n : EReal) := by
  rw [v54_at]
  simp only [d_at A, v_at A, ← EReal.coe_mul]
  exact Cert.Attn.coe_sum _ _
theorem neg_at : (Rd m c main_v66 : FVec Ideal S8x4096 .f32) (ix2 h w) = ((-∑ n', Cert.Attn.dp v d h w n' * (1 * (1 / ((∑ n, Cert.Attn.exm q k g M h w n) * ∑ n, Cert.Attn.exm q k g M h w n))) * Cert.Attn.exm q k g M h w n' : ℝ) : EReal) := by
  have e60 : ∀ n', (Rd m c main_v60 : FVec Ideal S8x4096x4096 .f32) (ix3 h w n') = ((Cert.Attn.dp v d h w n' * (1 * (1 / ((∑ n, Cert.Attn.exm q k g M h w n) * ∑ n, Cert.Attn.exm q k g M h w n))) * Cert.Attn.exm q k g M h w n' : ℝ) : EReal) := fun n' => by
    rw [v60_at, dp_at A, inv_at A hM, ex_at A hM]
    simp only [EReal.coe_mul]
  rw [v66_at, v61_at]
  simp only [e60]
  rw [Cert.Attn.coe_sum, EReal.coe_neg]
theorem ds_at' (n : Fin 4096) : (Rd m c main_v69 : FVec Ideal S8x4096x4096 .f32) (ix3 h w n) = (Cert.Attn.ds q k v d g h w n : EReal) := by
  rw [v69_at, dp_at A, zs_at A hM, neg_at A hM, ex_at A hM, ← Cert.Attn.ds_exm q k v d g M h w n, EReal.coe_mul, EReal.coe_add, EReal.coe_mul]
  exact congrArg (fun a : EReal => (a + _) * _) (Ideal.div_coe (Cert.Attn.sum_exm_pos q k g M h w).ne' _)
omit hM

/-- The weights. -/
theorem wt_at (h : Fin 8) (w n : Fin 4096) : (Rd m c main_v43 : FVec Ideal S8x4096x4096 .f32) (ix3 h w n) = (Cert.Attn.wt q k g h w n : EReal) := by
  obtain ⟨M, hM⟩ := max_at A h w
  exact wt_at' A hM n
/-- The scores' gradient. -/
theorem ds_at (h : Fin 8) (w n : Fin 4096) : (Rd m c main_v70 : FVec Ideal S8x4096x4096 .f32) (ix3 h w n) = (Cert.Attn.ds q k v d g h w n : EReal) := by
  obtain ⟨M, hM⟩ := max_at A h w
  rw [v70_at, ds_at' A hM, mask_at]
  by_cases hn : n.val ≤ w.val
  · rw [if_pos hn]; rfl
  · have e : Cert.Attn.ds q k v d g h w n = 0 := by
      unfold Cert.Attn.ds
      rw [Cert.Attn.wt_eq, if_neg hn, zero_mul]
    rw [if_neg hn, e]; rfl
theorem ds8_at (h : Fin 8) (w n : Fin 4096) : (Rd m c main_v81 : FVec Ideal S8x4096x4096 .f32) (ix3 h w n) = ((Cert.Attn.ds q k v d g h w n * (1 / 8) : ℝ) : EReal) := by
  rw [v81_at, ds_at A, EReal.coe_mul]

/-- The queries' gradient. -/
theorem dq_at (w : Fin 4096) (h : Fin 8) (e : Fin 64) : (Rd m c main_v88 : FVec Ideal S4096x512 .bf16) (ix2 w (feat h e)) = (Cert.Attn.dq q k v d g w h e : EReal) := by
  rw [v88_at, v85_at]
  simp only [ds8_at A, k_at A, ← EReal.coe_mul]
  rw [Cert.Attn.coe_sum]
  refine congrArg (fun x : ℝ => (x : EReal)) ?_
  unfold Cert.Attn.dq
  rw [Finset.sum_mul]
  exact Finset.sum_congr rfl fun n _ => by ring
/-- The keys' gradient. -/
theorem dk_at (n : Fin 4096) (h : Fin 8) (e : Fin 64) : (Rd m c main_v89 : FVec Ideal S4096x512 .bf16) (ix2 n (feat h e)) = (Cert.Attn.dk q k v d g n h e : EReal) := by
  rw [v89_at, v83_at]
  simp only [ds8_at A, q_at A, ← EReal.coe_mul]
  rw [Cert.Attn.coe_sum]
  refine congrArg (fun x : ℝ => (x : EReal)) ?_
  unfold Cert.Attn.dk
  exact Finset.sum_congr rfl fun w _ => by ring
/-- The values' gradient. -/
theorem dv_at (n : Fin 4096) (h : Fin 8) (e : Fin 64) : (Rd m c main_v90 : FVec Ideal S4096x512 .bf16) (ix2 n (feat h e)) = (Cert.Attn.dv q k d g n h e : EReal) := by
  rw [v90_at, v56_at, v55_at]
  simp only [d_at A, wt_at A, ← EReal.coe_mul]
  exact Cert.Attn.coe_sum _ _
/-- The gates' gradient. -/
theorem dc_at (h : Fin 8) (j : Fin 4) (n : Fin 1024) : (Rd m c main_v92 : FVec Ideal S8x4x1x1024 .f32) (ix4 h j 0 n) = (Cert.Attn.dc q k v d g h (row j n) : EReal) := by
  have e74 : ∀ n, (Rd m c main_v74 : FVec Ideal S8x4096 .f32) (ix2 h n) = (Cert.Attn.dc q k v d g h n : EReal) := fun n => by
    rw [v74_at]
    simp only [ds_at A, ← EReal.coe_neg]
    rw [Cert.Attn.coe_sum, Finset.sum_neg_distrib]
    rfl
  have e77 : ∀ w, (Rd m c main_v77 : FVec Ideal S8x4096 .f32) (ix2 h w) = (0 : EReal) := fun w => by
    rw [v77_at]
    simp only [ds_at A]
    rw [Cert.Attn.coe_sum, Cert.Attn.sum_ds]
    rfl
  rw [v92_at, e74, e77]
  exact add_zero (M := EReal) _

end
end Cert.ReferenceIdeal.Attn

end
-- ==== Proof.Agree.lean ====
module

public import proofs.«01_k».proof.Defs
public import proofs.«01_k».proof.Proof.OutArr
public import proofs.«01_k».proof.Proof.RefReal

@[expose] public section

set_option maxRecDepth 16384

noncomputable section

namespace Cert.Agree

open Idealize.ShloMosaic Idealize.ShloMosaic.TcCoe Idealize.SL.Sem

/-! ## Kernel and reference agree -/

/-- The precondition's side conditions. -/
theorem pre_facts : Cert.Pre_finite.Facts := ⟨by decide, by decide, by decide⟩

theorem top_val : (Ideal.ofBits .f32 2139095040#32 : EReal) = ⊤ := by
  simp [Ideal.ofBits, Ideal.ieee, -EReal.coe_mul]

/-- A number below infinity in absolute value is real. -/
theorem real_of (x : EReal) (h : Ideal.cmp .olt (max x (-x)) (Ideal.ofBits .f32 2139095040#32) = 1#1) : x = (x.toReal : EReal) := by
  rw [top_val] at h
  have h1 : max x (-x) < ⊤ := by
    by_contra hn
    have e : Ideal.cmp .olt (max x (-x)) ⊤ = 0#1 := by simp [Ideal.cmp, hn]
    rw [e] at h
    exact absurd h (by decide)
  refine (EReal.coe_toReal (fun e => ?_) (fun e => ?_)).symm
  · rw [e] at h1; simp at h1
  · rw [e] at h1; simp at h1

/-- An array's entries as real numbers, by row, head and feature. -/
def re (a : (⟨2, ![4096, 512]⟩ : Shape).Idx → EReal) : Fin 4096 → Fin 8 → Fin 64 → ℝ := fun w h e => (a (ix2 w (Cert.KernelIdeal.Attn.feat h e))).toReal
/-- The gates' entries as real numbers. -/
def re2 (a : (⟨2, ![4096, 8]⟩ : Shape).Idx → EReal) : Fin 4096 → Fin 8 → ℝ := fun w h => (a (ix2 w h)).toReal

section
open Cert.Pre_finite Cert.Pre_finite.Facts
variable [Cert.Pre_finite.Facts]
theorem real512 (a : FVec Ideal Cert.Pre_finite.S4096x512 .f32) (h : cmpf .olt (Host.absf a) (broadcastInDim Cert.Pre_finite.S4096x512 ![] bcast_S_S4096x512 (constant Cert.Pre_finite.S_ .f32 0x7F800000#32 : FVec Ideal Cert.Pre_finite.S_ .f32)) = fun _ => 1#1) (i) : a i = ((a i : EReal).toReal : EReal) :=
  real_of (a i) (congrFun h i)
theorem real8 (a : FVec Ideal Cert.Pre_finite.S4096x8 .f32) (h : cmpf .olt (Host.absf a) (broadcastInDim Cert.Pre_finite.S4096x8 ![] bcast_S_S4096x8 (constant Cert.Pre_finite.S_ .f32 0x7F800000#32 : FVec Ideal Cert.Pre_finite.S_ .f32)) = fun _ => 1#1) (i) : a i = ((a i : EReal).toReal : EReal) :=
  real_of (a i) (congrFun h i)
end

variable (m : (ℓ : Loc Cert.KernelIdeal.nD Cert.KernelIdeal.τ Cert.KernelIdeal.sig) → Buf (Elt Ideal) ℓ)

section
open Cert.KernelIdeal
abbrev qr (c : Dev nD) := re (m (c, Proc.tc.devRef main_arg0))
abbrev kr (c : Dev nD) := re (m (c, Proc.tc.devRef main_arg1))
abbrev vr (c : Dev nD) := re (m (c, Proc.tc.devRef main_arg2))
abbrev gr (c : Dev nD) := re2 (m (c, Proc.tc.devRef main_arg3))
abbrev dr (c : Dev nD) := re (m (c, Proc.tc.devRef main_arg4))
/-- The kernel's arguments are real numbers. -/
theorem args (hp : Cert.Pre_KernelIdeal_finite (hPre_finite := pre_facts) m) (c : Dev nD) :
    Attn.Args m c (qr m c) (kr m c) (vr m c) (dr m c) (gr m c) := by
  obtain ⟨h0, h1, h2, h3, h4⟩ := hp c
  haveI := pre_facts
  exact ⟨fun w h e => real512 _ h0 _, fun w h e => real512 _ h1 _, fun w h e => real512 _ h2 _, fun w h => real8 _ h3 _, fun w h e => real512 _ h4 _⟩
end

section
open Cert.ReferenceIdeal
variable {m' : (ℓ : Loc nD τ sig) → Buf (Elt Ideal) ℓ} {c : Dev nD} {q k v d : Fin 4096 → Fin 8 → Fin 64 → ℝ} {g : Fin 4096 → Fin 8 → ℝ}
variable (A : Attn.Args m' c q k v d g)

theorem split (l : Fin 512) : l = Attn.feat (Cert.KernelIdeal.Attn.hd8 l) (Cert.KernelIdeal.Attn.ft8 l) :=
  Fin.ext (by show l.val = l.val / 64 * 64 + l.val % 64; omega)
theorem ext512 (a b : Cert.ReferenceIdeal.S4096x512.Idx → EReal) (h : ∀ (w : Fin 4096) (h : Fin 8) (e : Fin 64), a (ix2 w (Attn.feat h e)) = b (ix2 w (Attn.feat h e))) : a = b := funext fun y => by
  have e : y = ix2 (y 0) (Attn.feat (Cert.KernelIdeal.Attn.hd8 (y 1)) (Cert.KernelIdeal.Attn.ft8 (y 1))) := (eq_ix2 y).trans (congrArg (ix2 (y 0)) (split (y 1)))
  rw [e]; exact h _ _ _
include A
theorem ref_q : Attn.Rd m' c main_v88 = Cert.KernelIdeal.Attn.gQ' q k v d g :=
  ext512 _ _ fun w h e => (Attn.dq_at A w h e).trans (Cert.KernelIdeal.Attn.gQ'_apply q k v d g w h e).symm
theorem ref_k : Attn.Rd m' c main_v89 = Cert.KernelIdeal.Attn.gK' q k v d g :=
  ext512 _ _ fun w h e => (Attn.dk_at A w h e).trans (Cert.KernelIdeal.Attn.gK'_apply q k v d g w h e).symm
theorem ref_v : Attn.Rd m' c main_v90 = Cert.KernelIdeal.Attn.gV' q k d g :=
  ext512 _ _ fun w h e => (Attn.dv_at A w h e).trans (Cert.KernelIdeal.Attn.gV'_apply q k d g w h e).symm
theorem ref_c : Attn.Rd m' c main_v92 = Cert.KernelIdeal.Attn.gC' q k v d g := by
  refine (funext fun y => ?_ : (Attn.Rd m' c main_v92 : Vec Ideal S8x4x1x1024 .f32) = Cert.KernelIdeal.Attn.gC' q k v d g)
  have h2 : y 2 = (0 : Fin 1) := Subsingleton.elim (α := Fin 1) (y 2) 0
  have ey : y = ix4 (y 0) (y 1) 0 (y 3) := by
    funext a
    match a with
    | 0 => rfl
    | 1 => rfl
    | 2 => exact h2
    | 3 => rfl
  rw [ey]
  exact Attn.dc_at A (y 0) (y 1) (y 3)
end

/-- Both programs end with the same gradients: the derivative's, of the arguments' numbers. -/
theorem agree : Cert.algebraic_KernelIdeal_ReferenceIdeal_pre_finite (hKernelIdeal := Cert.KernelIdeal.Gen.facts) (hReferenceIdeal := Cert.ReferenceIdeal.Gen.facts) (hPre_finite := pre_facts) := by
  intro m ρ m' ρ' hp hm
  have A := args m hp
  have A' : ∀ c, Cert.ReferenceIdeal.Attn.Args m' c (qr m c) (kr m c) (vr m c) (dr m c) (gr m c) := fun c => by
    obtain ⟨e0, e1, e2, e3, e4⟩ := hm c
    exact ⟨fun w h e => (congrFun e0 _).trans ((A c).q w h e), fun w h e => (congrFun e1 _).trans ((A c).k w h e),
      fun w h e => (congrFun e2 _).trans ((A c).v w h e), fun w h => (congrFun e3 _).trans ((A c).g w h), fun w h e => (congrFun e4 _).trans ((A c).d w h e)⟩
  refine ⟨fun c => Cert.KernelIdeal.Attn.gQ' (qr m c) (kr m c) (vr m c) (dr m c) (gr m c), fun c => Cert.KernelIdeal.Attn.gK' (qr m c) (kr m c) (vr m c) (dr m c) (gr m c),
    fun c => Cert.KernelIdeal.Attn.gV' (qr m c) (kr m c) (dr m c) (gr m c), fun c => Cert.KernelIdeal.Attn.gC' (qr m c) (kr m c) (vr m c) (dr m c) (gr m c), ?_, ?_⟩
  · refine (θ_run Cert.KernelIdeal.defs _ _).mono (fun r h c => ?_)
      (θ_run_and (Cert.KernelIdeal.Attn.run_main (F := Ideal) m ρ) (Cert.KernelIdeal.Attn.frame_all (F := Ideal) m ρ))
    exact ⟨((h.1 c).1 6).trans (Cert.KernelIdeal.Attn.final_6 (A c)), ((h.1 c).1 7).trans (Cert.KernelIdeal.Attn.final_7 (A c)),
      ((h.1 c).1 8).trans (Cert.KernelIdeal.Attn.final_8 (A c)), ((h.1 c).1 9).trans (Cert.KernelIdeal.Attn.final_9 (A c)), h.2.1 c⟩
  · refine (θ_run Cert.ReferenceIdeal.defs _ _).mono (fun r h c => ?_)
      (θ_run_and (Cert.ReferenceIdeal.Attn.run_read m' ρ') (Cert.ReferenceIdeal.Value.run (F := Ideal) m' ρ'))
    exact ⟨(h.1 c _).trans (ref_q (A' c)), (h.1 c _).trans (ref_k (A' c)), (h.1 c _).trans (ref_v (A' c)), (h.1 c _).trans (ref_c (A' c)), (h.2 c).2.2.2.2⟩

end Cert.Agree

end
-- ==== Proof.WInValue.lean ====
module

public import proofs.«01_k».proof.Defs
public import proofs.«01_k».proof.Proof.Gen.WInIdeal.Value
public import proofs.«01_k».proof.Proof.Gen.WInRefIdeal.Run
public import Idealize.ShloMosaic.Lib.StableHlo.RunRead
public import Idealize.ShloMosaic.Lib.ValueIdxCore
public import Idealize.ShloMosaic.Lib.Pointwise
public import Idealize.ShloMosaic.Lib.IdealHost
public import Idealize.ShloMosaic.Lib.KernelVsHost

@[expose] public section

set_option maxRecDepth 16384

noncomputable section

namespace Cert.WInIdeal.Agree

open Cert.WInIdeal Cert.WInIdeal.Gen
open Idealize.ShloMosaic Idealize.ShloMosaic.TcCoe Idealize.SL.Sem
open Idealize.ShloMosaic.Pipeline (Dat)

/-! ## The input layer's weight gradient: a product over the rows, group by group -/

/-- Feature `r` of group `g`. -/
abbrev fe (g : Fin 8) (r : Fin 704) : Fin 5632 := ⟨g.val * 704 + r.val, by have := g.isLt; have := r.isLt; omega⟩

/-- The gradient of the weights of feature `r` of group `g`, from the features' gradient `a` and the inputs `h`. -/
def gW (a : Vec Ideal S4096x5632 .bf16) (h : Vec Ideal S4096x1024 .bf16) : Vec Ideal S8x704x1024 .bf16 :=
  fun i => ∑ s : Fin 4096, HMul.hMul (α := EReal) (β := EReal) (γ := EReal) (a (ix2 s (fe (i 0) (i 1)))) (h (ix2 s (i 2)))

theorem pay1_apply (x : Vec Ideal S1x4096x704 .bf16) (y : Vec Ideal S4096x1024 .bf16) (r : Fin 704) (d : Fin 1024) :
    k0_pay1 (F := Ideal) x y (ix3 0 r d) = ∑ s : Fin 4096, HMul.hMul (α := EReal) (β := EReal) (γ := EReal) (x (ix3 0 s r)) (y (ix2 s d)) := by
  simp only [k0_pay1, pointwise]
  exact zero_add (M := EReal) _

variable (m : (ℓ : Loc nD τ sig) → Buf (Elt Ideal) ℓ) (c : Dev nD)

theorem V_v1 : (V m c main_v1 : Vec Ideal S8x4096x704 .bf16) = transpose S8x4096x704 [1, 0, 2] (shapeCast S4096x8x704 (m ((c : Thread nD τ).loc main_arg0) : Vec Ideal S4096x5632 .bf16) shapeCasts_S4096x5632_S4096x8x704) transposes_S4096x8x704_S8x4096x704_1_0_2 := by
  unfold V
  after_results <;> rfl

theorem V_v1_apply (g : Fin 8) (s : Fin 4096) (r : Fin 704) :
    (V m c main_v1 : Vec Ideal S8x4096x704 .bf16) (ix3 g s r) = (m ((c : Thread nD τ).loc main_arg0) : Vec Ideal S4096x5632 .bf16) (ix2 s (fe g r)) := by
  rw [V_v1]
  generalize (m ((c : Thread nD τ).loc main_arg0) : Vec Ideal S4096x5632 .bf16) = a
  simp only [pointwise]

theorem idx_0 : ∀ t : Fin cfg0.N, win0_0.index t 0 = t.val ∧ win0_0.index t 1 = 0 ∧ win0_0.index t 2 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 ∧ win0_2.index t 2 = 0 := by decide +kernel
theorem flush_2 : ∀ t : Fin cfg0.N, (cfg0.win 2).flush t = true := by decide +kernel

/-- The group a point works on. -/
abbrev gOf (t : Fin cfg0.N) : Fin 8 := ⟨t.val, lt_of_lt_of_eq t.isLt N_0⟩

theorem blk_0 (t : Fin cfg0.N) (s : Fin 4096) (r : Fin 704) :
    (iblk m c 0 t : Vec Ideal S1x4096x704 .bf16) (ix3 0 s r) = (m ((c : Thread nD τ).loc main_arg0) : Vec Ideal S4096x5632 .bf16) (ix2 s (fe (gOf t) r)) := by
  rw [← V_v1_apply m c (gOf t) s r]
  unfold iblk
  rw [View.read_apply]
  refine congrArg (V m c main_v1) ?_
  funext a
  match a with
  | 0 => exact Fin.ext (by show win0_0.index t 0 * 1 + 1 * 0 = t.val; rw [(idx_0 t).1]; omega)
  | 1 => exact Fin.ext (by show win0_0.index t 1 * 4096 + 1 * s.val = s.val; rw [(idx_0 t).2.1]; omega)
  | 2 => exact Fin.ext (by show win0_0.index t 2 * 704 + 1 * r.val = r.val; rw [(idx_0 t).2.2]; omega)

theorem blk_1 (t : Fin cfg0.N) (s : Fin 4096) (d : Fin 1024) :
    (iblk m c 1 t : Vec Ideal S4096x1024 .bf16) (ix2 s d) = (m ((c : Thread nD τ).loc main_arg1) : Vec Ideal S4096x1024 .bf16) (ix2 s d) := by
  rw [← V_main_arg1 m c]
  unfold iblk
  rw [View.read_apply]
  refine congrArg (V m c main_arg1) ?_
  funext a
  match a with
  | 0 => exact Fin.ext (by show win0_1.index t 0 * 4096 + 1 * s.val = s.val; rw [(idx_1 t).1]; omega)
  | 1 => exact Fin.ext (by show win0_1.index t 1 * 1024 + 1 * d.val = d.val; rw [(idx_1 t).2]; omega)

theorem ld_0 (x : Vec Ideal S1x4096x704 .bf16) : View.ld x r0_0 = x := by
  funext y
  refine congrArg x ?_
  funext a
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)
theorem ld_1 (x : Vec Ideal S4096x1024 .bf16) : View.ld x r0_1 = x := by
  funext y
  refine congrArg x ?_
  funext a
  match a with
  | 0 => exact Fin.ext (by show 0 + 1 * (y 0).val = (y 0).val; omega)
  | 1 => exact Fin.ext (by show 0 + 1 * (y 1).val = (y 1).val; omega)

theorem out_eq (x : Vec Ideal S1x4096x704 .bf16) (y : Vec Ideal S4096x1024 .bf16) : out0_2 x y = k0_pay1 (F := Ideal) x y := by
  unfold out0_2
  rw [ld_0, ld_1]
  generalize k0_pay1 (F := Ideal) x y = P
  funext i
  refine View.canon_apply_of_pieces (Val := Elt Ideal) (e := .bf16) (P : Vec Ideal S1x704x1024 .bf16) _ ?_ i (cover0_2 _ i)
  intro pc hpc
  rcases List.mem_cons.mp hpc with rfl | hpc
  · intro z
    refine congrArg P ?_
    funext a
    match a with
    | 0 => exact Fin.ext (by show (z 0).val = 0 + 1 * (z 0).val; omega)
    | 1 => exact Fin.ext (by show (z 1).val = 0 + 1 * (z 1).val; omega)
    | 2 => exact Fin.ext (by show (z 2).val = 0 + 1 * (z 2).val; omega)
  nomatch hpc

theorem rd_2 (U : Vec Ideal S8x704x1024 .bf16) (t : Fin cfg0.N) (r : Fin 704) (d : Fin 1024) :
    (((cfg0.win 2).blk t).view.read (Elt Ideal) U : Vec Ideal S1x704x1024 .bf16) (ix3 0 r d) = U (ix3 (gOf t) r d) := by
  rw [View.read_apply]
  refine congrArg U ?_
  funext a
  match a with
  | 0 => exact Fin.ext (by show win0_2.index t 0 * 1 + 1 * 0 = t.val; rw [(idx_2 t).1]; omega)
  | 1 => exact Fin.ext (by show win0_2.index t 1 * 704 + 1 * r.val = r.val; rw [(idx_2 t).2.1]; omega)
  | 2 => exact Fin.ext (by show win0_2.index t 2 * 1024 + 1 * d.val = d.val; rw [(idx_2 t).2.2]; omega)

/-- The launched arguments' gradient. -/
abbrev gM : Vec Ideal S8x704x1024 .bf16 := gW (m ((c : Thread nD τ).loc main_arg0)) (m ((c : Thread nD τ).loc main_arg1))

theorem flushed_2 (t : Fin cfg0.N) : (dats m 0 c).flushed 2 t = ((cfg0.win 2).blk t).view.read (Elt Ideal) (gM m c) := by
  show (cfg0.win 2).cut (grid0.coords t) ((dats m 0 c).after 2 t) = _
  rw [after0_2, out_eq]
  have key : ∀ (r : Fin 704) (d : Fin 1024), (k0_pay1 (F := Ideal) (iblk m c 0 t) (iblk m c 1 t) : Vec Ideal S1x704x1024 .bf16) (ix3 0 r d)
      = (((cfg0.win 2).blk t).view.read (Elt Ideal) (gM m c) : Vec Ideal S1x704x1024 .bf16) (ix3 0 r d) := fun r d => by
    rw [rd_2]
    refine (pay1_apply _ _ r d).trans (Finset.sum_congr rfl fun s _ => ?_)
    exact congrArg₂ (HMul.hMul (α := EReal) (β := EReal) (γ := EReal)) (blk_0 m c t s r) (blk_1 m c t s d)
  generalize (((cfg0.win 2).blk t).view.read (Elt Ideal) (gM m c)) = R at key ⊢
  generalize (k0_pay1 (F := Ideal) (iblk m c 0 t) (iblk m c 1 t) : Vec Ideal S1x704x1024 .bf16) = P at key ⊢
  have e : (P : Vec Ideal S1x704x1024 .bf16) = R := funext fun y => by
    have h0 : y 0 = (0 : Fin 1) := Subsingleton.elim (α := Fin 1) (y 0) 0
    have ey : y = ix3 0 (y 1) (y 2) := by
      funext a
      match a with
      | 0 => exact h0
      | 1 => rfl
      | 2 => rfl
    rw [ey]; exact key _ _
  exact e

theorem cover_2 (i : S8x704x1024.Idx) : ∃ t : Fin cfg0.N, (cfg0.win 2).flush t = true ∧ i ∈ ((cfg0.win 2).blk t).view.set := by
  have h0 : (i 0 : Nat) < 8 := (i 0).isLt
  have h1 : (i 1 : Nat) < 704 := (i 1).isLt
  have h2 : (i 2 : Nat) < 1024 := (i 2).isLt
  obtain ⟨t, ht⟩ : ∃ t : Fin cfg0.N, t.val = (i 0 : Nat) := ⟨⟨(i 0 : Nat), Nat.lt_of_lt_of_eq (by omega) N_0.symm⟩, rfl⟩
  refine ⟨t, flush_2 t, ?_⟩
  show i ∈ ((View.whole main_v2).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [(idx_2 t).1]; omega
  | ⟨1, _⟩ => show win0_2.index t 1 * 704 ≤ (i 1 : Nat) ∧ (i 1 : Nat) < win0_2.index t 1 * 704 + 704
              rw [(idx_2 t).2.1]; omega
  | ⟨2, _⟩ => show win0_2.index t 2 * 1024 ≤ (i 2 : Nat) ∧ (i 2 : Nat) < win0_2.index t 2 * 1024 + 1024
              rw [(idx_2 t).2.2]; omega

theorem final_2 : (dats m 0 c).arrAt 2 cfg0.N = gM m c := (dats m 0 c).arrAt_eq_of_cover 2 (gM m c) (fun t _ => flushed_2 m c t) cover_2

end Cert.WInIdeal.Agree

namespace Cert.WInRefIdeal.Agree

open Cert.WInRefIdeal Cert.WInRefIdeal.Gen
open Idealize.ShloMosaic Idealize.ShloMosaic.TcCoe

/-! ### The reference -/

theorem ref_eq (a : Vec Ideal S4096x5632 .bf16) (h : Vec Ideal S4096x1024 .bf16) :
    shapeCast S8x704x1024 (truncf (F := Ideal) .bf16 (transpose S5632x1024 [1, 0] (transpose S1024x5632 [1, 0] (Host.dotGeneral dot_S4096x5632_S4096x1024_S5632x1024_0_0_1_1_n_n none (extf (F := Ideal) .f32 a bitsLt_bf16_f32) (extf (F := Ideal) .f32 h bitsLt_bf16_f32)) transposes_S5632x1024_S1024x5632_1_0) transposes_S1024x5632_S5632x1024_1_0) bitsLt_bf16_f32) shapeCasts_S5632x1024_S8x704x1024 = Cert.WInIdeal.Agree.gW a h := by
  have key : ∀ (g : Fin 8) (r : Fin 704) (d : Fin 1024), shapeCast S8x704x1024 (truncf (F := Ideal) .bf16 (transpose S5632x1024 [1, 0] (transpose S1024x5632 [1, 0] (Host.dotGeneral dot_S4096x5632_S4096x1024_S5632x1024_0_0_1_1_n_n none (extf (F := Ideal) .f32 a bitsLt_bf16_f32) (extf (F := Ideal) .f32 h bitsLt_bf16_f32)) transposes_S5632x1024_S1024x5632_1_0) transposes_S1024x5632_S5632x1024_1_0) bitsLt_bf16_f32) shapeCasts_S5632x1024_S8x704x1024 (ix3 g r d) = Cert.WInIdeal.Agree.gW a h (ix3 g r d) := fun g r d => by
    have hg := g.isLt
    have hr := r.isLt
    have hd := d.isLt
    simp only [pointwise]
    exact zero_add (M := EReal) _
  funext y
  rw [eq_ix3 y]; exact key _ _ _

end Cert.WInRefIdeal.Agree

namespace Cert.WInIdeal.Agree

open Cert.WInIdeal Cert.WInIdeal.Gen
open Idealize.ShloMosaic Idealize.ShloMosaic.TcCoe Idealize.SL.Sem

theorem agree : Cert.algebraic_WInIdeal_WInRefIdeal (hWInIdeal := Cert.WInIdeal.Gen.facts) (hWInRefIdeal := Cert.WInRefIdeal.Gen.facts) := by
  intro m ρ m' ρ' hp hm
  refine ⟨fun c => gM m c, ?_, ?_⟩
  · exact (θ_run Cert.WInIdeal.defs _ _).mono (fun r h c => ⟨(h c).1.trans (final_2 m c), (h c).2⟩) (Cert.WInIdeal.Value.run_blocks (F := Ideal) m ρ)
  · refine (θ_run Cert.WInRefIdeal.defs _ _).mono (fun r h c => ⟨(h c).1.trans ?_, (h c).2⟩) (Cert.WInRefIdeal.Value.run (F := Ideal) m' ρ')
    rw [(hm c).1, (hm c).2]
    exact Cert.WInRefIdeal.Agree.ref_eq _ _

end Cert.WInIdeal.Agree

end
-- ==== Proof.DInValue.lean ====
module

public import proofs.«01_k».proof.Defs
public import proofs.«01_k».proof.Proof.Gen.DInIdeal.Value
public import proofs.«01_k».proof.Proof.Gen.DInRefIdeal.Run
public import Idealize.ShloMosaic.Lib.StableHlo.RunRead
public import Idealize.ShloMosaic.Lib.ValueIdxCore
public import Idealize.ShloMosaic.Lib.Pointwise
public import Idealize.ShloMosaic.Lib.IdealHost
public import Idealize.ShloMosaic.Lib.KernelVsHost
public import Idealize.ShloMosaic.Lib.Tactic

@[expose] public section

set_option maxRecDepth 16384

noncomputable section

namespace Cert.DInIdeal.Agree

open Cert.DInIdeal Cert.DInIdeal.Gen
open Idealize.ShloMosaic Idealize.ShloMosaic.TcCoe Idealize.SL.Sem
open Idealize.ShloMosaic.Pipeline (Dat)

/-! ## The input layer's input gradient: a product over the features, four groups at a time -/

/-- Feature `r` of group `g`. -/
abbrev fe (g : Fin 8) (r : Fin 704) : Fin 5632 := ⟨g.val * 704 + r.val, by have := g.isLt; have := r.isLt; omega⟩

/-- The gradient of the inputs, from the features' gradient `a` and the weights `w`. -/
def gX (a : Vec Ideal S4096x5632 .bf16) (w : Vec Ideal S1024x5632 .bf16) : Vec Ideal S4096x1024 .bf16 :=
  fun i => ∑ k : Fin 5632, HMul.hMul (α := EReal) (β := EReal) (γ := EReal) (a (ix2 (i 0) k)) (w (ix2 (i 1) k))

/-- A sum over the features is the sum over the groups of the sums over each. -/
theorem sum_groups (f : Fin 5632 → EReal) : ∑ k, f k = ∑ g : Fin 8, ∑ r : Fin 704, f (fe g r) := by
  rw [← Fintype.sum_prod_type' (fun g r => f (fe g r))]
  refine (Fintype.sum_equiv (finProdFinEquiv (m := 8) (n := 704)) _ _ fun p => ?_).symm
  refine congrArg f (Fin.ext ?_)
  show p.1.val * 704 + p.2.val = p.2.val + 704 * p.1.val
  omega

theorem hz : (![0, 0] : Fin 2 → Nat) = fun _ => 0 := funext fun a => by fin_cases a <;> rfl

/-- One group's part of a block's product. -/
def part (x : Vec Ideal S4x1024x704 .bf16) (y : Vec Ideal S4x704x1024 .bf16) (g : Fin 4) (i d : Fin 1024) : EReal :=
  ∑ r : Fin 704, HMul.hMul (α := EReal) (β := EReal) (γ := EReal) (x (ix3 g i r)) (y (ix3 g r d))

/-- A block's product: four groups. -/
def prod4 (x : Vec Ideal S4x1024x704 .bf16) (y : Vec Ideal S4x704x1024 .bf16) : Vec Ideal S1024x1024 .f32 :=
  k0_pay3 (F := Ideal)
    (View.ld x (Rect.unit (s := S4x1024x704) ![0, 0, 0] S1x1024x704.size inb_S4x1024x704_S1x1024x704_0_0_0)) (View.ld y (Rect.unit (s := S4x704x1024) ![0, 0, 0] S1x704x1024.size inb_S4x704x1024_S1x704x1024_0_0_0))
    (View.ld x (Rect.unit (s := S4x1024x704) ![1, 0, 0] S1x1024x704.size inb_S4x1024x704_S1x1024x704_1_0_0)) (View.ld y (Rect.unit (s := S4x704x1024) ![1, 0, 0] S1x704x1024.size inb_S4x704x1024_S1x704x1024_1_0_0))
    (View.ld x (Rect.unit (s := S4x1024x704) ![2, 0, 0] S1x1024x704.size inb_S4x1024x704_S1x1024x704_2_0_0)) (View.ld y (Rect.unit (s := S4x704x1024) ![2, 0, 0] S1x704x1024.size inb_S4x704x1024_S1x704x1024_2_0_0))
    (View.ld x (Rect.unit (s := S4x1024x704) ![3, 0, 0] S1x1024x704.size inb_S4x1024x704_S1x1024x704_3_0_0)) (View.ld y (Rect.unit (s := S4x704x1024) ![3, 0, 0] S1x704x1024.size inb_S4x704x1024_S1x704x1024_3_0_0))

theorem pay3_apply (x0 x1 x2 x3 : Vec Ideal S1x1024x704 .bf16) (y0 y1 y2 y3 : Vec Ideal S1x704x1024 .bf16) (i d : Fin 1024) :
    k0_pay3 (F := Ideal) x0 y0 x1 y1 x2 y2 x3 y3 (ix2 i d)
    = (fun a b e f : EReal => a + b + e + f) (∑ r : Fin 704, HMul.hMul (α := EReal) (β := EReal) (γ := EReal) (x0 (ix3 0 i r)) (y0 (ix3 0 r d)))
        (∑ r : Fin 704, HMul.hMul (α := EReal) (β := EReal) (γ := EReal) (x1 (ix3 0 i r)) (y1 (ix3 0 r d)))
        (∑ r : Fin 704, HMul.hMul (α := EReal) (β := EReal) (γ := EReal) (x2 (ix3 0 i r)) (y2 (ix3 0 r d)))
        (∑ r : Fin 704, HMul.hMul (α := EReal) (β := EReal) (γ := EReal) (x3 (ix3 0 i r)) (y3 (ix3 0 r d))) := by
  simp only [k0_pay3, pointwise]
  simp only [zero_add]

theorem ldx (x : Vec Ideal S4x1024x704 .bf16) (g : Fin 4) (h : ∀ a, (![g.val, 0, 0] : Fin 3 → Nat) a + S1x1024x704.size a ≤ S4x1024x704.size a) (i : Fin 1024) (r : Fin 704) :
    View.ld x (Rect.unit (s := S4x1024x704) ![g.val, 0, 0] S1x1024x704.size h) (ix3 0 i r) = x (ix3 g i r) := by
  refine congrArg x ?_
  funext a
  match a with
  | 0 => exact Fin.ext (by show g.val + 1 * 0 = g.val; omega)
  | 1 => exact Fin.ext (by show 0 + 1 * i.val = i.val; omega)
  | 2 => exact Fin.ext (by show 0 + 1 * r.val = r.val; omega)
theorem ldy (y : Vec Ideal S4x704x1024 .bf16) (g : Fin 4) (h : ∀ a, (![g.val, 0, 0] : Fin 3 → Nat) a + S1x704x1024.size a ≤ S4x704x1024.size a) (r : Fin 704) (d : Fin 1024) :
    View.ld y (Rect.unit (s := S4x704x1024) ![g.val, 0, 0] S1x704x1024.size h) (ix3 0 r d) = y (ix3 g r d) := by
  refine congrArg y ?_
  funext a
  match a with
  | 0 => exact Fin.ext (by show g.val + 1 * 0 = g.val; omega)
  | 1 => exact Fin.ext (by show 0 + 1 * r.val = r.val; omega)
  | 2 => exact Fin.ext (by show 0 + 1 * d.val = d.val; omega)

theorem prod4_apply (x : Vec Ideal S4x1024x704 .bf16) (y : Vec Ideal S4x704x1024 .bf16) (i d : Fin 1024) :
    prod4 x y (ix2 i d) = (fun a b e f : EReal => a + b + e + f) (part x y 0 i d) (part x y 1 i d) (part x y 2 i d) (part x y 3 i d) := by
  unfold prod4
  refine (pay3_apply _ _ _ _ _ _ _ _ i d).trans ?_
  have e : ∀ (g : Fin 4) h h', (∑ r : Fin 704, HMul.hMul (α := EReal) (β := EReal) (γ := EReal)
      (View.ld x (Rect.unit (s := S4x1024x704) ![g.val, 0, 0] S1x1024x704.size h) (ix3 0 i r)) (View.ld y (Rect.unit (s := S4x704x1024) ![g.val, 0, 0] S1x704x1024.size h') (ix3 0 r d))) = part x y g i d := fun g h h' =>
    Finset.sum_congr rfl fun r _ => congrArg₂ (HMul.hMul (α := EReal) (β := EReal) (γ := EReal)) (ldx x g h i r) (ldy y g h' r d)
  have e0 := e 0 inb_S4x1024x704_S1x1024x704_0_0_0 inb_S4x704x1024_S1x704x1024_0_0_0
  have e1 := e 1 inb_S4x1024x704_S1x1024x704_1_0_0 inb_S4x704x1024_S1x704x1024_1_0_0
  have e2 := e 2 inb_S4x1024x704_S1x1024x704_2_0_0 inb_S4x704x1024_S1x704x1024_2_0_0
  have e3 := e 3 inb_S4x1024x704_S1x1024x704_3_0_0 inb_S4x704x1024_S1x704x1024_3_0_0
  rw [← e0, ← e1, ← e2, ← e3]
  rfl

/-! ### The two cases' values -/

section Cases
variable (c : Dev nD) (i : grid0.Coords) (a3 : Memref sig .tc .vmem S4x1024x704 .bf16) (h3 : a3.IsWhole) (a4 : Memref sig .tc .vmem S4x704x1024 .bf16) (h4 : a4.IsWhole) (a5 : Memref sig .tc .vmem S1024x1024 .bf16) (h5 : a5.IsWhole) (a6 : Memref sig .tc .vmem S1024x1024 .f32) (h6 : a6.IsWhole)
variable (x : Vec Ideal S4x1024x704 .bf16) (y : Vec Ideal S4x704x1024 .bf16)

theorem first (hc0 : cond0_0 i) (hc1 : ¬cond0_1 i) (hc2 : ¬cond0_2 i) : sout0_A_0 (F := Ideal) c i a3 h3 a4 h4 a5 h5 a6 h6 hc0 hc1 hc2 x y = prod4 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  unfold k0_pay4 prod4
  simp only [View.readAt_eq_ld, h3.read_unread, h4.read_unread, shapeCast_self]

theorem second (hc0 : ¬cond0_0 i) (hc1 : cond0_1 i) (hc2 : cond0_2 i) (xs : Vec Ideal S1024x1024 .f32) :
    out0_B_2 (F := Ideal) c i a3 h3 a4 h4 a5 h5 a6 h6 hc0 hc1 hc2 x y xs = k0_pay2 (F := Ideal) (k0_pay1 (F := Ideal) (prod4 x y) xs) := by
  unfold out0_B_2
  rw [View.read_writes_eq_canon _ _ _ (cover0_B_2 c i a3 h3 a4 h4 a5 h5 a6 h6 hc0 hc1 hc2 x y xs)]
  unfold kernelRun0_B
  dsimp only
  sl_unfold_words
  rw [View.canon_unit_zero hz, View.readCov_unit_zero (S := S1024x1024) _ hz]
  unfold prod4
  simp only [View.readAt_eq_ld, h3.read_unread, h4.read_unread, h6.read_unread, View.ld_unit_zero (S := S1024x1024) hz]

end Cases

/-! ### The arrays the windows read -/

variable (m : (ℓ : Loc nD τ sig) → Buf (Elt Ideal) ℓ) (c : Dev nD)

theorem V_v1 : (V m c main_v1 : Vec Ideal S8x4096x704 .bf16) = transpose S8x4096x704 [1, 0, 2] (shapeCast S4096x8x704 (m ((c : Thread nD τ).loc main_arg0) : Vec Ideal S4096x5632 .bf16) shapeCasts_S4096x5632_S4096x8x704) transposes_S4096x8x704_S8x4096x704_1_0_2 := by
  unfold V
  after_results <;> rfl
theorem V_v3 : (V m c main_v3 : Vec Ideal S8x704x1024 .bf16) = shapeCast S8x704x1024 (transpose S5632x1024 [1, 0] (m ((c : Thread nD τ).loc main_arg1) : Vec Ideal S1024x5632 .bf16) transposes_S1024x5632_S5632x1024_1_0) shapeCasts_S5632x1024_S8x704x1024 := by
  unfold V
  after_results <;> rfl

theorem V_v1_apply (g : Fin 8) (s : Fin 4096) (r : Fin 704) :
    (V m c main_v1 : Vec Ideal S8x4096x704 .bf16) (ix3 g s r) = (m ((c : Thread nD τ).loc main_arg0) : Vec Ideal S4096x5632 .bf16) (ix2 s (fe g r)) := by
  rw [V_v1]
  generalize (m ((c : Thread nD τ).loc main_arg0) : Vec Ideal S4096x5632 .bf16) = a
  simp only [pointwise]
theorem V_v3_apply (g : Fin 8) (r : Fin 704) (d : Fin 1024) :
    (V m c main_v3 : Vec Ideal S8x704x1024 .bf16) (ix3 g r d) = (m ((c : Thread nD τ).loc main_arg1) : Vec Ideal S1024x5632 .bf16) (ix2 d (fe g r)) := by
  rw [V_v3]
  generalize (m ((c : Thread nD τ).loc main_arg1) : Vec Ideal S1024x5632 .bf16) = a
  simp only [pointwise]

theorem idx_0 : ∀ t : Fin cfg0.N, win0_0.index t 0 = t.val % 2 ∧ win0_0.index t 1 = t.val / 2 ∧ win0_0.index t 2 = 0 := by decide +kernel
theorem idx_1 : ∀ t : Fin cfg0.N, win0_1.index t 0 = t.val % 2 ∧ win0_1.index t 1 = 0 ∧ win0_1.index t 2 = 0 := by decide +kernel
theorem idx_2 : ∀ t : Fin cfg0.N, win0_2.index t 0 = t.val / 2 ∧ win0_2.index t 1 = 0 := by decide +kernel

/-- Row `i` of the row block point `n` works on. -/
abbrev rw' (t : Fin cfg0.N) (i : Fin 1024) : Fin 4096 := ⟨1024 * (t.val / 2) + i.val, by have h := lt_of_lt_of_eq t.isLt N_0; have := i.isLt; omega⟩
/-- Group `g` of the groups point `n` works on. -/
abbrev gr (t : Fin cfg0.N) (g : Fin 4) : Fin 8 := ⟨4 * (t.val % 2) + g.val, by have := g.isLt; omega⟩

theorem blk_0 (t : Fin cfg0.N) (g : Fin 4) (i : Fin 1024) (r : Fin 704) :
    (iblk m c 0 t : Vec Ideal S4x1024x704 .bf16) (ix3 g i r) = (m ((c : Thread nD τ).loc main_arg0) : Vec Ideal S4096x5632 .bf16) (ix2 (rw' t i) (fe (gr t g) r)) := by
  rw [← V_v1_apply m c (gr t g) (rw' t i) r]
  unfold iblk
  rw [View.read_apply]
  refine congrArg (V m c main_v1) ?_
  funext a
  match a with
  | 0 => exact Fin.ext (by show win0_0.index t 0 * 4 + 1 * g.val = 4 * (t.val % 2) + g.val; rw [(idx_0 t).1]; omega)
  | 1 => exact Fin.ext (by show win0_0.index t 1 * 1024 + 1 * i.val = 1024 * (t.val / 2) + i.val; rw [(idx_0 t).2.1]; omega)
  | 2 => exact Fin.ext (by show win0_0.index t 2 * 704 + 1 * r.val = r.val; rw [(idx_0 t).2.2]; omega)
theorem blk_1 (t : Fin cfg0.N) (g : Fin 4) (r : Fin 704) (d : Fin 1024) :
    (iblk m c 1 t : Vec Ideal S4x704x1024 .bf16) (ix3 g r d) = (m ((c : Thread nD τ).loc main_arg1) : Vec Ideal S1024x5632 .bf16) (ix2 d (fe (gr t g) r)) := by
  rw [← V_v3_apply m c (gr t g) r d]
  unfold iblk
  rw [View.read_apply]
  refine congrArg (V m c main_v3) ?_
  funext a
  match a with
  | 0 => exact Fin.ext (by show win0_1.index t 0 * 4 + 1 * g.val = 4 * (t.val % 2) + g.val; rw [(idx_1 t).1]; omega)
  | 1 => exact Fin.ext (by show win0_1.index t 1 * 704 + 1 * r.val = r.val; rw [(idx_1 t).2.1]; omega)
  | 2 => exact Fin.ext (by show win0_1.index t 2 * 1024 + 1 * d.val = d.val; rw [(idx_1 t).2.2]; omega)

/-- Group `g`'s part of the gradient at row `s`, column `d`. -/
def gpart (g : Fin 8) (s : Fin 4096) (d : Fin 1024) : EReal :=
  ∑ r : Fin 704, HMul.hMul (α := EReal) (β := EReal) (γ := EReal) ((m ((c : Thread nD τ).loc main_arg0) : Vec Ideal S4096x5632 .bf16) (ix2 s (fe g r))) ((m ((c : Thread nD τ).loc main_arg1) : Vec Ideal S1024x5632 .bf16) (ix2 d (fe g r)))

theorem part_eq (t : Fin cfg0.N) (g : Fin 4) (i d : Fin 1024) : part (iblk m c 0 t) (iblk m c 1 t) g i d = gpart m c (gr t g) (rw' t i) d :=
  Finset.sum_congr rfl fun r _ => congrArg₂ (HMul.hMul (α := EReal) (β := EReal) (γ := EReal)) (blk_0 m c t g i r) (blk_1 m c t g r d)

/-- The launched arguments' gradient. -/
abbrev gM : Vec Ideal S4096x1024 .bf16 := gX (m ((c : Thread nD τ).loc main_arg0)) (m ((c : Thread nD τ).loc main_arg1))

theorem gM_apply (s : Fin 4096) (d : Fin 1024) : gM m c (ix2 s d) = ∑ g : Fin 8, gpart m c g s d :=
  sum_groups fun k => HMul.hMul (α := EReal) (β := EReal) (γ := EReal) ((m ((c : Thread nD τ).loc main_arg0) : Vec Ideal S4096x5632 .bf16) (ix2 s k)) ((m ((c : Thread nD τ).loc main_arg1) : Vec Ideal S1024x5632 .bf16) (ix2 d k))

theorem pay_apply (p q : Vec Ideal S1024x1024 .f32) (i d : Fin 1024) :
    k0_pay2 (F := Ideal) (k0_pay1 (F := Ideal) p q) (ix2 i d) = HAdd.hAdd (α := EReal) (β := EReal) (γ := EReal) (q (ix2 i d)) (p (ix2 i d)) := by
  simp only [k0_pay2, k0_pay1, pointwise]

theorem at_first (t : Fin cfg0.N) (h0 : t.val % 2 = 0) : (outsAt0 m c t.val t.isLt).2 = prod4 (iblk m c 0 t) (iblk m c 1 t) := by
  rw [outsAt0_A m c t h0 (by omega) (by omega)]
  dsimp only
  rw [first]

theorem at_second (t : Fin cfg0.N) (h1 : t.val % 2 = 1) :
    (outsAt0 m c t.val t.isLt).1 = k0_pay2 (F := Ideal) (k0_pay1 (F := Ideal) (prod4 (iblk m c 0 t) (iblk m c 1 t)) (outsAt0 m c (t.val - 1) (Nat.lt_of_le_of_lt (Nat.sub_le _ _) t.isLt)).2) := by
  rw [outsAt0_B m c t (by omega) h1 h1]
  dsimp only
  rw [second]

theorem out_at (t : Fin cfg0.N) (h1 : t.val % 2 = 1) (i d : Fin 1024) : ((outsAt0 m c t.val t.isLt).1 : Vec Ideal S1024x1024 .bf16) (ix2 i d) = gM m c (ix2 (rw' t i) d) := by
  have hN : cfg0.N = 8 := N_0
  rw [at_second m c t h1]
  obtain ⟨n, hn⟩ := t
  cases n with
  | zero => exact absurd (show 0 % 2 = 1 from h1) (by decide)
  | succ n =>
    have h1' : (n + 1) % 2 = 1 := h1
    have hn' : n < cfg0.N := Nat.lt_of_succ_lt hn
    have eA := at_first m c ⟨n, hn'⟩ (by show n % 2 = 0; omega)
    have eA' : (outsAt0 m c ((⟨n + 1, hn⟩ : Fin cfg0.N).val - 1) (Nat.lt_of_le_of_lt (Nat.sub_le _ _) hn)).2 = prod4 (iblk m c 0 ⟨n, hn'⟩) (iblk m c 1 ⟨n, hn'⟩) := eA
    rw [eA', pay_apply, prod4_apply, prod4_apply]
    simp only [part_eq]
    rw [gM_apply]
    have er : rw' ⟨n, hn'⟩ i = rw' ⟨n + 1, hn⟩ i := Fin.ext (by show 1024 * (n / 2) + i.val = 1024 * ((n + 1) / 2) + i.val; omega)
    have e0 : ∀ g : Fin 4, gr ⟨n, hn'⟩ g = ⟨g.val, by have := g.isLt; omega⟩ := fun g => Fin.ext (by show 4 * (n % 2) + g.val = g.val; omega)
    have e1 : ∀ g : Fin 4, gr ⟨n + 1, hn⟩ g = ⟨4 + g.val, by have := g.isLt; omega⟩ := fun g => Fin.ext (by show 4 * ((n + 1) % 2) + g.val = 4 + g.val; omega)
    simp only [er, e0, e1]
    rw [Fin.sum_univ_eight]
    generalize rw' ⟨n + 1, hn⟩ i = s
    show (gpart m c 0 s d + gpart m c 1 s d + gpart m c 2 s d + gpart m c 3 s d) + (gpart m c 4 s d + gpart m c 5 s d + gpart m c 6 s d + gpart m c 7 s d) = _
    generalize gpart m c 0 s d = f0
    generalize gpart m c 1 s d = f1
    generalize gpart m c 2 s d = f2
    generalize gpart m c 3 s d = f3
    generalize gpart m c 4 s d = f4
    generalize gpart m c 5 s d = f5
    generalize gpart m c 6 s d = f6
    generalize gpart m c 7 s d = f7
    simp only [add_assoc]

theorem rd_2 (U : Vec Ideal S4096x1024 .bf16) (t : Fin cfg0.N) (i d : Fin 1024) :
    (((cfg0.win 2).blk t).view.read (Elt Ideal) U : Vec Ideal S1024x1024 .bf16) (ix2 i d) = U (ix2 (rw' t i) d) := by
  rw [View.read_apply]
  refine congrArg U ?_
  funext a
  match a with
  | 0 => exact Fin.ext (by show win0_2.index t 0 * 1024 + 1 * i.val = 1024 * (t.val / 2) + i.val; rw [(idx_2 t).1]; omega)
  | 1 => exact Fin.ext (by show win0_2.index t 1 * 1024 + 1 * d.val = d.val; rw [(idx_2 t).2]; omega)

theorem flushed_2 (t : Fin cfg0.N) (hf : (cfg0.win 2).flush t = true) : (dats m 0 c).flushed 2 t = ((cfg0.win 2).blk t).view.read (Elt Ideal) (gM m c) := by
  have h1 : t.val % 2 = 1 := (flush0_2 t).mp hf
  show (cfg0.win 2).cut (grid0.coords t) ((dats m 0 c).after 2 t) = _
  rw [after0_2]
  have key : ∀ (i d : Fin 1024), ((outsAt0 m c t.val t.isLt).1 : Vec Ideal S1024x1024 .bf16) (ix2 i d)
      = (((cfg0.win 2).blk t).view.read (Elt Ideal) (gM m c) : Vec Ideal S1024x1024 .bf16) (ix2 i d) := fun i d => by
    rw [rd_2]
    exact out_at m c t h1 i d
  generalize (((cfg0.win 2).blk t).view.read (Elt Ideal) (gM m c)) = R at key ⊢
  generalize ((outsAt0 m c t.val t.isLt).1 : Vec Ideal S1024x1024 .bf16) = P at key ⊢
  have e : (P : Vec Ideal S1024x1024 .bf16) = R := funext fun y => by rw [eq_ix2 y]; exact key _ _
  exact e

theorem cover_2 (i : S4096x1024.Idx) : ∃ t : Fin cfg0.N, (cfg0.win 2).flush t = true ∧ i ∈ ((cfg0.win 2).blk t).view.set :=
  (Cert.DInIdeal.Value.covered_iff2 i).2 (by
    have h0 : (i 0).val < 4096 := (i 0).isLt; have h1 : (i 1).val < 1024 := (i 1).isLt; omega)

theorem final_2 : (dats m 0 c).arrAt 2 cfg0.N = gM m c := (dats m 0 c).arrAt_eq_of_cover 2 (gM m c) (fun t hf => flushed_2 m c t hf) cover_2

end Cert.DInIdeal.Agree

namespace Cert.DInRefIdeal.Agree

open Cert.DInRefIdeal Cert.DInRefIdeal.Gen
open Idealize.ShloMosaic Idealize.ShloMosaic.TcCoe

/-! ### The reference -/

theorem ref_eq (a : Vec Ideal S4096x5632 .bf16) (w : Vec Ideal S1024x5632 .bf16) :
    truncf (F := Ideal) .bf16 (Host.dotGeneral dot_S4096x5632_S1024x5632_S4096x1024_1_1_0_0_n_n none (extf (F := Ideal) .f32 a bitsLt_bf16_f32) (extf (F := Ideal) .f32 w bitsLt_bf16_f32)) bitsLt_bf16_f32 = Cert.DInIdeal.Agree.gX a w := by
  have key : ∀ (s : Fin 4096) (d : Fin 1024), truncf (F := Ideal) .bf16 (Host.dotGeneral dot_S4096x5632_S1024x5632_S4096x1024_1_1_0_0_n_n none (extf (F := Ideal) .f32 a bitsLt_bf16_f32) (extf (F := Ideal) .f32 w bitsLt_bf16_f32)) bitsLt_bf16_f32 (ix2 s d)
      = Cert.DInIdeal.Agree.gX a w (ix2 s d) := fun s d => by
    simp only [pointwise]
    exact zero_add (M := EReal) _
  funext y
  rw [eq_ix2 y]; exact key _ _

end Cert.DInRefIdeal.Agree

namespace Cert.DInIdeal.Agree

open Cert.DInIdeal Cert.DInIdeal.Gen
open Idealize.ShloMosaic Idealize.ShloMosaic.TcCoe Idealize.SL.Sem

theorem agree : Cert.algebraic_DInIdeal_DInRefIdeal (hDInIdeal := Cert.DInIdeal.Gen.facts) (hDInRefIdeal := Cert.DInRefIdeal.Gen.facts) := by
  intro m ρ m' ρ' hp hm
  refine ⟨fun c => gM m c, ?_, ?_⟩
  · exact (θ_run Cert.DInIdeal.defs _ _).mono (fun r h c => ⟨(h c).1.trans (final_2 m c), (h c).2⟩) (Cert.DInIdeal.Value.run_blocks (F := Ideal) m ρ)
  · refine (θ_run Cert.DInRefIdeal.defs _ _).mono (fun r h c => ⟨(h c).1.trans ?_, (h c).2⟩) (Cert.DInRefIdeal.Value.run (F := Ideal) m' ρ')
    rw [(hm c).1, (hm c).2]
    exact Cert.DInRefIdeal.Agree.ref_eq _ _

end Cert.DInIdeal.Agree

end
-- ==== Proof.WOutValue.lean ====
module

public import proofs.«01_k».proof.Defs
public import proofs.«01_k».proof.Proof.Gen.WOutIdeal.Value
public import proofs.«01_k».proof.Proof.Gen.WOutRefIdeal.Run
public import Idealize.ShloMosaic.Lib.StableHlo.RunRead
public import Idealize.ShloMosaic.Lib.ValueIdxCore
public import Idealize.ShloMosaic.Lib.Pointwise
public import Idealize.ShloMosaic.Lib.IdealHost
public import Idealize.ShloMosaic.Lib.KernelVsHost

@[expose] public section

set_option maxRecDepth 16384

noncomputable section

namespace Cert.WOutIdeal.Agree

open Cert.WOutIdeal Cert.WOutIdeal.Gen
open Idealize.ShloMosaic Idealize.ShloMosaic.TcCoe Idealize.SL.Sem
open Idealize.ShloMosaic.Pipeline (Dat)

/-! ## The output layer's weight gradient: a product over the rows, group by group -/

/-- Feature `r` of group `g`. -/
abbrev fe (g : Fin 4) (r : Fin 704) : Fin 2816 := ⟨g.val * 704 + r.val, by have := g.isLt; have := r.isLt; omega⟩

/-- The gradient of the weights of feature `r` of group `g`, from the features' gradient `a` and the inputs `h`. -/
def gW (a : Vec Ideal S4096x2816 .bf16) (h : Vec Ideal S4096x1024 .bf16) : Vec Ideal S4x704x1024 .bf16 :=
  fun i => ∑ s : Fin 4096, HMul.hMul (α := EReal) (β := EReal) (γ := EReal) (a (ix2 s (fe (i 0) (i 1)))) (h (ix2 s (i 2)))

theorem pay1_apply (x : Vec Ideal S1x4096x704 .bf16) (y : Vec Ideal S4096x1024 .bf16) (r : Fin 704) (d : Fin 1024) :
    k0_pay1 (F := Ideal) x y (ix3 0 r d) = ∑ s : Fin 4096, HMul.hMul (α := EReal) (β := EReal) (γ := EReal) (x (ix3 0 s r)) (y (ix2 s d)) := by
  simp only [k0_pay1, pointwise]
  exact zero_add (M := EReal) _

variable (m : (ℓ : Loc nD τ sig) → Buf (Elt Ideal) ℓ) (c : Dev nD)

theorem V_v1 : (V m c main_v1 : Vec Ideal S4x4096x704 .bf16) = transpose S4x4096x704 [1, 0, 2] (shapeCast S4096x4x704 (m ((c : Thread nD τ).loc main_arg0) : Vec Ideal S4096x2816 .bf16) shapeCasts_S4096x2816_S4096x4x704) transposes_S4096x4x704_S4x4096x704_1_0_2 := by
  unfold V
  after_results <;> rfl

theorem V_v1_apply (g : Fin 4) (s : Fin 4096) (r : Fin 704) :
    (V m c main_v1 : Vec Ideal S4x4096x704 .bf16) (ix3 g s r) = (m ((c : Thread nD τ).loc main_arg0) : Vec Ideal S4096x2816 .bf16) (ix2 s (fe g r)) := by
  rw [V_v1]
  generalize (m ((c : Thread nD τ).loc main_arg0) : Vec Ideal S4096x2816 .bf16) = a
  simp only [pointwise]

theorem idx_0 : ∀ t : Fin cfg0.N, win0_0.index t 0 = t.val ∧ win0_0.index t 1 = 0 ∧ win0_0.index t 2 = 0 := by decide +kernel
theorem idx_1 : ∀ t : Fin cfg0.N, win0_1.index t 0 = 0 ∧ win0_1.index t 1 = 0 := by decide +kernel
theorem idx_2 : ∀ t : Fin cfg0.N, win0_2.index t 0 = t.val ∧ win0_2.index t 1 = 0 ∧ win0_2.index t 2 = 0 := by decide +kernel
theorem flush_2 : ∀ t : Fin cfg0.N, (cfg0.win 2).flush t = true := by decide +kernel

/-- The group a point works on. -/
abbrev gOf (t : Fin cfg0.N) : Fin 4 := ⟨t.val, lt_of_lt_of_eq t.isLt N_0⟩

theorem blk_0 (t : Fin cfg0.N) (s : Fin 4096) (r : Fin 704) :
    (iblk m c 0 t : Vec Ideal S1x4096x704 .bf16) (ix3 0 s r) = (m ((c : Thread nD τ).loc main_arg0) : Vec Ideal S4096x2816 .bf16) (ix2 s (fe (gOf t) r)) := by
  rw [← V_v1_apply m c (gOf t) s r]
  unfold iblk
  rw [View.read_apply]
  refine congrArg (V m c main_v1) ?_
  funext a
  match a with
  | 0 => exact Fin.ext (by show win0_0.index t 0 * 1 + 1 * 0 = t.val; rw [(idx_0 t).1]; omega)
  | 1 => exact Fin.ext (by show win0_0.index t 1 * 4096 + 1 * s.val = s.val; rw [(idx_0 t).2.1]; omega)
  | 2 => exact Fin.ext (by show win0_0.index t 2 * 704 + 1 * r.val = r.val; rw [(idx_0 t).2.2]; omega)

theorem blk_1 (t : Fin cfg0.N) (s : Fin 4096) (d : Fin 1024) :
    (iblk m c 1 t : Vec Ideal S4096x1024 .bf16) (ix2 s d) = (m ((c : Thread nD τ).loc main_arg1) : Vec Ideal S4096x1024 .bf16) (ix2 s d) := by
  rw [← V_main_arg1 m c]
  unfold iblk
  rw [View.read_apply]
  refine congrArg (V m c main_arg1) ?_
  funext a
  match a with
  | 0 => exact Fin.ext (by show win0_1.index t 0 * 4096 + 1 * s.val = s.val; rw [(idx_1 t).1]; omega)
  | 1 => exact Fin.ext (by show win0_1.index t 1 * 1024 + 1 * d.val = d.val; rw [(idx_1 t).2]; omega)

theorem ld_0 (x : Vec Ideal S1x4096x704 .bf16) : View.ld x r0_0 = x := by
  funext y
  refine congrArg x ?_
  funext a
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)
theorem ld_1 (x : Vec Ideal S4096x1024 .bf16) : View.ld x r0_1 = x := by
  funext y
  refine congrArg x ?_
  funext a
  match a with
  | 0 => exact Fin.ext (by show 0 + 1 * (y 0).val = (y 0).val; omega)
  | 1 => exact Fin.ext (by show 0 + 1 * (y 1).val = (y 1).val; omega)

theorem out_eq (x : Vec Ideal S1x4096x704 .bf16) (y : Vec Ideal S4096x1024 .bf16) : out0_2 x y = k0_pay1 (F := Ideal) x y := by
  unfold out0_2
  rw [ld_0, ld_1]
  generalize k0_pay1 (F := Ideal) x y = P
  funext i
  refine View.canon_apply_of_pieces (Val := Elt Ideal) (e := .bf16) (P : Vec Ideal S1x704x1024 .bf16) _ ?_ i (cover0_2 _ i)
  intro pc hpc
  rcases List.mem_cons.mp hpc with rfl | hpc
  · intro z
    refine congrArg P ?_
    funext a
    match a with
    | 0 => exact Fin.ext (by show (z 0).val = 0 + 1 * (z 0).val; omega)
    | 1 => exact Fin.ext (by show (z 1).val = 0 + 1 * (z 1).val; omega)
    | 2 => exact Fin.ext (by show (z 2).val = 0 + 1 * (z 2).val; omega)
  nomatch hpc

theorem rd_2 (U : Vec Ideal S4x704x1024 .bf16) (t : Fin cfg0.N) (r : Fin 704) (d : Fin 1024) :
    (((cfg0.win 2).blk t).view.read (Elt Ideal) U : Vec Ideal S1x704x1024 .bf16) (ix3 0 r d) = U (ix3 (gOf t) r d) := by
  rw [View.read_apply]
  refine congrArg U ?_
  funext a
  match a with
  | 0 => exact Fin.ext (by show win0_2.index t 0 * 1 + 1 * 0 = t.val; rw [(idx_2 t).1]; omega)
  | 1 => exact Fin.ext (by show win0_2.index t 1 * 704 + 1 * r.val = r.val; rw [(idx_2 t).2.1]; omega)
  | 2 => exact Fin.ext (by show win0_2.index t 2 * 1024 + 1 * d.val = d.val; rw [(idx_2 t).2.2]; omega)

/-- The launched arguments' gradient. -/
abbrev gM : Vec Ideal S4x704x1024 .bf16 := gW (m ((c : Thread nD τ).loc main_arg0)) (m ((c : Thread nD τ).loc main_arg1))

theorem flushed_2 (t : Fin cfg0.N) : (dats m 0 c).flushed 2 t = ((cfg0.win 2).blk t).view.read (Elt Ideal) (gM m c) := by
  show (cfg0.win 2).cut (grid0.coords t) ((dats m 0 c).after 2 t) = _
  rw [after0_2, out_eq]
  have key : ∀ (r : Fin 704) (d : Fin 1024), (k0_pay1 (F := Ideal) (iblk m c 0 t) (iblk m c 1 t) : Vec Ideal S1x704x1024 .bf16) (ix3 0 r d)
      = (((cfg0.win 2).blk t).view.read (Elt Ideal) (gM m c) : Vec Ideal S1x704x1024 .bf16) (ix3 0 r d) := fun r d => by
    rw [rd_2]
    refine (pay1_apply _ _ r d).trans (Finset.sum_congr rfl fun s _ => ?_)
    exact congrArg₂ (HMul.hMul (α := EReal) (β := EReal) (γ := EReal)) (blk_0 m c t s r) (blk_1 m c t s d)
  generalize (((cfg0.win 2).blk t).view.read (Elt Ideal) (gM m c)) = R at key ⊢
  generalize (k0_pay1 (F := Ideal) (iblk m c 0 t) (iblk m c 1 t) : Vec Ideal S1x704x1024 .bf16) = P at key ⊢
  have e : (P : Vec Ideal S1x704x1024 .bf16) = R := funext fun y => by
    have h0 : y 0 = (0 : Fin 1) := Subsingleton.elim (α := Fin 1) (y 0) 0
    have ey : y = ix3 0 (y 1) (y 2) := by
      funext a
      match a with
      | 0 => exact h0
      | 1 => rfl
      | 2 => rfl
    rw [ey]; exact key _ _
  exact e

theorem cover_2 (i : S4x704x1024.Idx) : ∃ t : Fin cfg0.N, (cfg0.win 2).flush t = true ∧ i ∈ ((cfg0.win 2).blk t).view.set := by
  have h0 : (i 0 : Nat) < 4 := (i 0).isLt
  have h1 : (i 1 : Nat) < 704 := (i 1).isLt
  have h2 : (i 2 : Nat) < 1024 := (i 2).isLt
  obtain ⟨t, ht⟩ : ∃ t : Fin cfg0.N, t.val = (i 0 : Nat) := ⟨⟨(i 0 : Nat), Nat.lt_of_lt_of_eq (by omega) N_0.symm⟩, rfl⟩
  refine ⟨t, flush_2 t, ?_⟩
  show i ∈ ((View.whole main_v2).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [(idx_2 t).1]; omega
  | ⟨1, _⟩ => show win0_2.index t 1 * 704 ≤ (i 1 : Nat) ∧ (i 1 : Nat) < win0_2.index t 1 * 704 + 704
              rw [(idx_2 t).2.1]; omega
  | ⟨2, _⟩ => show win0_2.index t 2 * 1024 ≤ (i 2 : Nat) ∧ (i 2 : Nat) < win0_2.index t 2 * 1024 + 1024
              rw [(idx_2 t).2.2]; omega

theorem final_2 : (dats m 0 c).arrAt 2 cfg0.N = gM m c := (dats m 0 c).arrAt_eq_of_cover 2 (gM m c) (fun t _ => flushed_2 m c t) cover_2

end Cert.WOutIdeal.Agree

namespace Cert.WOutRefIdeal.Agree

open Cert.WOutRefIdeal Cert.WOutRefIdeal.Gen
open Idealize.ShloMosaic Idealize.ShloMosaic.TcCoe

/-! ### The reference -/

theorem ref_eq (a : Vec Ideal S4096x2816 .bf16) (h : Vec Ideal S4096x1024 .bf16) :
    shapeCast S4x704x1024 (truncf (F := Ideal) .bf16 (transpose S2816x1024 [1, 0] (Host.dotGeneral dot_S4096x1024_S4096x2816_S1024x2816_0_0_1_1_n_n none (extf (F := Ideal) .f32 h bitsLt_bf16_f32) (extf (F := Ideal) .f32 a bitsLt_bf16_f32)) transposes_S1024x2816_S2816x1024_1_0) bitsLt_bf16_f32) shapeCasts_S2816x1024_S4x704x1024 = Cert.WOutIdeal.Agree.gW a h := by
  have key : ∀ (g : Fin 4) (r : Fin 704) (d : Fin 1024), shapeCast S4x704x1024 (truncf (F := Ideal) .bf16 (transpose S2816x1024 [1, 0] (Host.dotGeneral dot_S4096x1024_S4096x2816_S1024x2816_0_0_1_1_n_n none (extf (F := Ideal) .f32 h bitsLt_bf16_f32) (extf (F := Ideal) .f32 a bitsLt_bf16_f32)) transposes_S1024x2816_S2816x1024_1_0) bitsLt_bf16_f32) shapeCasts_S2816x1024_S4x704x1024 (ix3 g r d)
      = ∑ s : Fin 4096, HMul.hMul (α := EReal) (β := EReal) (γ := EReal) (h (ix2 s d)) (a (ix2 s (Cert.WOutIdeal.Agree.fe g r))) := fun g r d => by
    simp only [pointwise]
    exact zero_add (M := EReal) _
  funext y
  rw [eq_ix3 y]
  exact (key _ _ _).trans (Finset.sum_congr (M := EReal) rfl fun s _ => mul_comm (G := EReal) _ _)

end Cert.WOutRefIdeal.Agree

namespace Cert.WOutIdeal.Agree

open Cert.WOutIdeal Cert.WOutIdeal.Gen
open Idealize.ShloMosaic Idealize.ShloMosaic.TcCoe Idealize.SL.Sem

theorem agree : Cert.algebraic_WOutIdeal_WOutRefIdeal (hWOutIdeal := Cert.WOutIdeal.Gen.facts) (hWOutRefIdeal := Cert.WOutRefIdeal.Gen.facts) := by
  intro m ρ m' ρ' hp hm
  refine ⟨fun c => gM m c, ?_, ?_⟩
  · exact (θ_run Cert.WOutIdeal.defs _ _).mono (fun r h c => ⟨(h c).1.trans (final_2 m c), (h c).2⟩) (Cert.WOutIdeal.Value.run_blocks (F := Ideal) m ρ)
  · refine (θ_run Cert.WOutRefIdeal.defs _ _).mono (fun r h c => ⟨(h c).1.trans ?_, (h c).2⟩) (Cert.WOutRefIdeal.Value.run (F := Ideal) m' ρ')
    rw [(hm c).1, (hm c).2]
    exact Cert.WOutRefIdeal.Agree.ref_eq _ _

end Cert.WOutIdeal.Agree

end
-- ==== Proof.SwigluValue.lean ====
module

public import proofs.«01_k».proof.Defs
public import proofs.«01_k».proof.Proof.Agree
public import proofs.«01_k».proof.Proof.Gen.SwigluIdeal.Value
public import proofs.«01_k».proof.Proof.Gen.SwigluRefIdeal.Run
public import Idealize.ShloMosaic.Lib.StableHlo.RunRead
public import Idealize.ShloMosaic.Lib.ValueIdxCore
public import Idealize.ShloMosaic.Lib.Pointwise
public import Idealize.ShloMosaic.Lib.IdealHost
public import Idealize.ShloMosaic.Lib.KernelVsHost

@[expose] public section

set_option maxRecDepth 16384

noncomputable section

namespace Cert.SwigluIdeal.Agree

open Cert.SwigluIdeal Cert.SwigluIdeal.Gen
open Idealize.ShloMosaic Idealize.ShloMosaic.TcCoe Idealize.SL.Sem
open Idealize.ShloMosaic.Pipeline (Dat)

/-! ## The SwiGLU's gradient: the gate's and the value's, from that of the layer's output -/

/-- Feature `r` of group `g`. -/
abbrev fe (g : Fin 4) (r : Fin 704) : Fin 2816 := ⟨g.val * 704 + r.val, by have := g.isLt; have := r.isLt; omega⟩
/-- The gate's column of feature `f`. -/
abbrev ca (f : Fin 2816) : Fin 5632 := ⟨f.val, by have := f.isLt; omega⟩
/-- The value's column of feature `f`. -/
abbrev cb (f : Fin 2816) : Fin 5632 := ⟨2816 + f.val, by have := f.isLt; omega⟩

/-- The sigmoid. -/
def sg (x : EReal) : EReal := Ideal.div 1 (1 + Ideal.exp (-x))
/-- A feature: the gate's SiLU times the value. -/
def fT (a b : EReal) : EReal := a * sg a * b
/-- The gate's gradient, `x` the feature's. -/
def fA (x a b : EReal) : EReal := (x * b) * (sg a * (1 + a * (1 - sg a)))
/-- The value's gradient. -/
def fB (x a : EReal) : EReal := x * (a * sg a)

/-- The features' gradient. -/
def dT (dy : Vec Ideal S4096x1024 .bf16) (w : Vec Ideal S2816x1024 .bf16) (s : Fin 4096) (f : Fin 2816) : EReal :=
  ∑ k : Fin 1024, HMul.hMul (α := EReal) (β := EReal) (γ := EReal) (dy (ix2 s k)) (w (ix2 f k))

theorem sg_coe (a : ℝ) : sg a = ((1 / (1 + Real.exp (-a)) : ℝ) : EReal) := by
  have h : (1 + Real.exp (-a) : ℝ) ≠ 0 := by positivity
  have e : (1 : EReal) + Ideal.exp (-(a : EReal)) = ((1 + Real.exp (-a) : ℝ) : EReal) := by
    rw [← EReal.coe_neg, Ideal.exp_coe, EReal.coe_add, EReal.coe_one]
  rw [sg, e, Ideal.div_coe h, one_mul]

/-- The gate's gradient, as the product rule gives it, for real numbers. -/
theorem fA_real (x a b : ℝ) : (x * b : EReal) * sg a + (a * (x * b)) * (sg a * (1 - sg a)) = fA x a b := by
  rw [fA, sg_coe]
  generalize (1 / (1 + Real.exp (-a)) : ℝ) = σ
  have h1 : (1 : EReal) = ((1 : ℝ) : EReal) := EReal.coe_one.symm
  rw [h1]
  simp only [← EReal.coe_mul, ← EReal.coe_add, ← EReal.coe_sub]
  exact congrArg _ (by ring)

/-! ### The kernel's payloads -/

theorem pay3_apply (x : Vec Ideal S1024x1024 .bf16) (y : Vec Ideal S1x704x1024 .bf16) (i : Fin 1024) (r : Fin 704) :
    k0_pay3 (F := Ideal) x y (ix2 i r) = ∑ k : Fin 1024, HMul.hMul (α := EReal) (β := EReal) (γ := EReal) (x (ix2 i k)) (y (ix3 0 r k)) := by
  simp only [k0_pay3, pointwise]
  exact zero_add (M := EReal) _

theorem pay6_apply (a : Vec Ideal S1x1x1024x704 .bf16) (i : Fin 1024) (r : Fin 704) : k0_pay6 (F := Ideal) a (ix2 i r) = sg (a (ix4 0 0 i r)) := by
  simp only [k0_pay6, k0_pay4, pointwise]
  rw [sg, sub_eq_add_neg, zero_add]

theorem pay8_apply (a b : Vec Ideal S1x1x1024x704 .bf16) (i : Fin 1024) (r : Fin 704) : k0_pay8 (F := Ideal) a b (ix3 0 i r) = fT (a (ix4 0 0 i r)) (b (ix4 0 0 i r)) := by
  simp only [k0_pay8, k0_pay7, k0_pay4, k0_pay5, pay6_apply, pointwise]
  rfl

theorem pay2_apply (x : Vec Ideal S1024x1024 .bf16) (y : Vec Ideal S1x704x1024 .bf16) (a : Vec Ideal S1x1x1024x704 .bf16) (i : Fin 1024) (r : Fin 704) :
    k0_pay2 (F := Ideal) (k0_pay3 (F := Ideal) x y) (k0_pay7 (F := Ideal) a) (ix4 0 0 i r) = fB (k0_pay3 (F := Ideal) x y (ix2 i r)) (a (ix4 0 0 i r)) := by
  generalize k0_pay3 (F := Ideal) x y = z
  simp only [k0_pay2, k0_pay7, k0_pay4, pay6_apply, pointwise]
  rfl

theorem pay1_apply (x : Vec Ideal S1024x1024 .bf16) (y : Vec Ideal S1x704x1024 .bf16) (a b : Vec Ideal S1x1x1024x704 .bf16) (i : Fin 1024) (r : Fin 704) :
    k0_pay1 (F := Ideal) (k0_pay9 (F := Ideal) x y a b) (ix4 0 0 i r) = fA (k0_pay3 (F := Ideal) x y (ix2 i r)) (a (ix4 0 0 i r)) (b (ix4 0 0 i r)) := by
  unfold k0_pay1 k0_pay9
  generalize k0_pay3 (F := Ideal) x y = z
  simp only [k0_pay4, k0_pay5, pay6_apply, pointwise]
  rfl

/-! ### What a point writes -/

theorem z11 (z : S1x1x1024x704.Idx) : z = ix4 0 0 (z 2) (z 3) := by
  have h0 : z 0 = (0 : Fin 1) := Subsingleton.elim (α := Fin 1) (z 0) 0
  have h1 : z 1 = (0 : Fin 1) := Subsingleton.elim (α := Fin 1) (z 1) 0
  funext a
  match a with
  | 0 => exact h0
  | 1 => exact h1
  | 2 => rfl
  | 3 => rfl
theorem z1 (z : S1x1024x704.Idx) : z = ix3 0 (z 1) (z 2) := by
  have h0 : z 0 = (0 : Fin 1) := Subsingleton.elim (α := Fin 1) (z 0) 0
  funext a
  match a with
  | 0 => exact h0
  | 1 => rfl
  | 2 => rfl

theorem ld_0 (x : Vec Ideal S1024x1024 .bf16) : View.ld x r0_0 = x := by
  funext y
  refine congrArg x ?_
  funext a
  match a with
  | 0 => exact Fin.ext (by show 0 + 1 * (y 0).val = (y 0).val; omega)
  | 1 => exact Fin.ext (by show 0 + 1 * (y 1).val = (y 1).val; omega)
theorem ld_1 (x : Vec Ideal S1x704x1024 .bf16) : View.ld x r0_1 = x := by
  funext y
  refine congrArg x ?_
  funext a
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)
theorem ld_2 (x : Vec Ideal S2x1x1024x704 .bf16) (i : Fin 1024) (r : Fin 704) : (View.ld x r0_2 : Vec Ideal S1x1x1024x704 .bf16) (ix4 0 0 i r) = x (ix4 0 0 i r) := by
  refine congrArg x ?_
  funext a
  match a with
  | 0 => rfl
  | 1 => rfl
  | 2 => exact Fin.ext (by show 0 + 1 * i.val = i.val; omega)
  | 3 => exact Fin.ext (by show 0 + 1 * r.val = r.val; omega)
theorem ld_3 (x : Vec Ideal S2x1x1024x704 .bf16) (i : Fin 1024) (r : Fin 704) : (View.ld x r0_3 : Vec Ideal S1x1x1024x704 .bf16) (ix4 0 0 i r) = x (ix4 1 0 i r) := by
  refine congrArg x ?_
  funext a
  match a with
  | 0 => rfl
  | 1 => rfl
  | 2 => exact Fin.ext (by show 0 + 1 * i.val = i.val; omega)
  | 3 => exact Fin.ext (by show 0 + 1 * r.val = r.val; omega)

/-- The gradients of a block, from the features' `z`, the gates `a` and the values `b`. -/
def E4 (z : Vec Ideal S1024x704 .f32) (a b : Vec Ideal S1x1x1024x704 .bf16) : Vec Ideal S2x1x1024x704 .bf16 := fun y =>
  if (y 0).val = 0 then fA (z (ix2 (y 2) (y 3))) (a (ix4 0 0 (y 2) (y 3))) (b (ix4 0 0 (y 2) (y 3))) else fB (z (ix2 (y 2) (y 3))) (a (ix4 0 0 (y 2) (y 3)))

theorem E4_zero (z : Vec Ideal S1024x704 .f32) (a b : Vec Ideal S1x1x1024x704 .bf16) (y : S2x1x1024x704.Idx) (i : Fin 1024) (r : Fin 704)
    (h0 : (y 0).val = 0) (h2 : y 2 = i) (h3 : y 3 = r) : E4 z a b y = fA (z (ix2 i r)) (a (ix4 0 0 i r)) (b (ix4 0 0 i r)) := by
  subst h2 h3
  exact if_pos h0
theorem E4_one (z : Vec Ideal S1024x704 .f32) (a b : Vec Ideal S1x1x1024x704 .bf16) (y : S2x1x1024x704.Idx) (i : Fin 1024) (r : Fin 704)
    (h0 : (y 0).val = 1) (h2 : y 2 = i) (h3 : y 3 = r) : E4 z a b y = fB (z (ix2 i r)) (a (ix4 0 0 i r)) := by
  subst h2 h3
  exact if_neg (by omega)

theorem out_4 (x : Vec Ideal S1024x1024 .bf16) (y : Vec Ideal S1x704x1024 .bf16) (ab : Vec Ideal S2x1x1024x704 .bf16) :
    out0_4 x y ab = E4 (k0_pay3 (F := Ideal) x y) (View.ld ab r0_2) (View.ld ab r0_3) := by
  unfold out0_4
  rw [ld_0, ld_1]
  generalize (View.ld ab r0_2 : Vec Ideal S1x1x1024x704 .bf16) = a
  generalize (View.ld ab r0_3 : Vec Ideal S1x1x1024x704 .bf16) = b
  funext i
  refine View.canon_apply_of_pieces (Val := Elt Ideal) (e := .bf16) (E4 (k0_pay3 (F := Ideal) x y) a b) _ ?_ i (cover0_4 _ _ i)
  intro pc hpc
  rcases List.mem_cons.mp hpc with rfl | hpc
  · intro z
    have ez := z11 z
    refine ((congrArg (k0_pay2 (F := Ideal) (k0_pay3 (F := Ideal) x y) (k0_pay7 (F := Ideal) a)) ez).trans (pay2_apply x y a (z 2) (z 3))).trans ?_
    refine (E4_one _ a b _ (z 2) (z 3) ?_ (Fin.ext ?_) (Fin.ext ?_)).symm
    · have h0 : (z 0).val < 1 := (z 0).isLt
      show 1 + 1 * (z 0).val = 1; omega
    · show 0 + 1 * (z 2).val = (z 2).val; omega
    · show 0 + 1 * (z 3).val = (z 3).val; omega
  rcases List.mem_cons.mp hpc with rfl | hpc
  · intro z
    have ez := z11 z
    refine ((congrArg (k0_pay1 (F := Ideal) (k0_pay9 (F := Ideal) x y a b)) ez).trans (pay1_apply x y a b (z 2) (z 3))).trans ?_
    refine (E4_zero _ a b _ (z 2) (z 3) ?_ (Fin.ext ?_) (Fin.ext ?_)).symm
    · have h0 : (z 0).val < 1 := (z 0).isLt
      show 0 + 1 * (z 0).val = 0; omega
    · show 0 + 1 * (z 2).val = (z 2).val; omega
    · show 0 + 1 * (z 3).val = (z 3).val; omega
  nomatch hpc

theorem out_3 (x : Vec Ideal S1024x1024 .bf16) (y : Vec Ideal S1x704x1024 .bf16) (ab : Vec Ideal S2x1x1024x704 .bf16) :
    out0_3 x y ab = k0_pay8 (F := Ideal) (View.ld ab r0_2) (View.ld ab r0_3) := by
  unfold out0_3
  generalize k0_pay8 (F := Ideal) (View.ld ab r0_2) (View.ld ab r0_3) = P
  funext i
  refine View.canon_apply_of_pieces (Val := Elt Ideal) (e := .bf16) (P : Vec Ideal S1x1024x704 .bf16) _ ?_ i (cover0_3 _ i)
  intro pc hpc
  rcases List.mem_cons.mp hpc with rfl | hpc
  · intro z
    refine congrArg P ?_
    funext a
    match a with
    | 0 => exact Fin.ext (by show (z 0).val = 0 + 1 * (z 0).val; omega)
    | 1 => exact Fin.ext (by show (z 1).val = 0 + 1 * (z 1).val; omega)
    | 2 => exact Fin.ext (by show (z 2).val = 0 + 1 * (z 2).val; omega)
  nomatch hpc

/-! ### The arrays the windows read -/

variable (m : (ℓ : Loc nD τ sig) → Buf (Elt Ideal) ℓ) (c : Dev nD)

theorem V_v0 : (V m c main_v0 : Vec Ideal S4x704x1024 .bf16) = shapeCast S4x704x1024 (m ((c : Thread nD τ).loc main_arg1) : Vec Ideal S2816x1024 .bf16) shapeCasts_S2816x1024_S4x704x1024 := by
  unfold V
  after_results <;> rfl
theorem V_v2 : (V m c main_v2 : Vec Ideal S2x4x4096x704 .bf16) = transpose S2x4x4096x704 [1, 2, 0, 3] (shapeCast S4096x2x4x704 (m ((c : Thread nD τ).loc main_arg2) : Vec Ideal S4096x5632 .bf16) shapeCasts_S4096x5632_S4096x2x4x704) transposes_S4096x2x4x704_S2x4x4096x704_1_2_0_3 := by
  unfold V
  after_results <;> rfl

/-- The column of feature `r` of group `g` of the half `h`. -/
abbrev cx (h : Fin 2) (g : Fin 4) (r : Fin 704) : Fin 5632 := ⟨h.val * 2816 + g.val * 704 + r.val, by have := h.isLt; have := g.isLt; have := r.isLt; omega⟩
theorem cx_0 (g : Fin 4) (r : Fin 704) : cx 0 g r = ca (fe g r) := Fin.ext (by show 0 * 2816 + g.val * 704 + r.val = g.val * 704 + r.val; omega)
theorem cx_1 (g : Fin 4) (r : Fin 704) : cx 1 g r = cb (fe g r) := Fin.ext (by show 1 * 2816 + g.val * 704 + r.val = 2816 + (g.val * 704 + r.val); omega)

theorem V_v0_apply (g : Fin 4) (r : Fin 704) (k : Fin 1024) :
    (V m c main_v0 : Vec Ideal S4x704x1024 .bf16) (ix3 g r k) = (m ((c : Thread nD τ).loc main_arg1) : Vec Ideal S2816x1024 .bf16) (ix2 (fe g r) k) := by
  rw [V_v0]
  generalize (m ((c : Thread nD τ).loc main_arg1) : Vec Ideal S2816x1024 .bf16) = a
  simp only [pointwise]
theorem V_v2_apply (h : Fin 2) (g : Fin 4) (s : Fin 4096) (r : Fin 704) :
    (V m c main_v2 : Vec Ideal S2x4x4096x704 .bf16) (ix4 h g s r) = (m ((c : Thread nD τ).loc main_arg2) : Vec Ideal S4096x5632 .bf16) (ix2 s (cx h g r)) := by
  rw [V_v2]
  generalize (m ((c : Thread nD τ).loc main_arg2) : Vec Ideal S4096x5632 .bf16) = a
  simp only [pointwise]

theorem idx_0 : ∀ t : Fin cfg0.N, win0_0.index t 0 = t.val / 4 ∧ win0_0.index t 1 = 0 := by decide +kernel
theorem idx_1 : ∀ t : Fin cfg0.N, win0_1.index t 0 = t.val % 4 ∧ win0_1.index t 1 = 0 ∧ win0_1.index t 2 = 0 := by decide +kernel
theorem idx_2 : ∀ t : Fin cfg0.N, win0_2.index t 0 = 0 ∧ win0_2.index t 1 = t.val % 4 ∧ win0_2.index t 2 = t.val / 4 ∧ win0_2.index t 3 = 0 := by decide +kernel
theorem idx_3 : ∀ t : Fin cfg0.N, win0_3.index t 0 = t.val % 4 ∧ win0_3.index t 1 = t.val / 4 ∧ win0_3.index t 2 = 0 := by decide +kernel
theorem idx_4 : ∀ t : Fin cfg0.N, win0_4.index t 0 = 0 ∧ win0_4.index t 1 = t.val % 4 ∧ win0_4.index t 2 = t.val / 4 ∧ win0_4.index t 3 = 0 := by decide +kernel
theorem flush_3 : ∀ t : Fin cfg0.N, (cfg0.win 3).flush t = true := by decide +kernel
theorem flush_4 : ∀ t : Fin cfg0.N, (cfg0.win 4).flush t = true := by decide +kernel

/-- Row `i` of the row block point `t` works on. -/
abbrev rw' (t : Fin cfg0.N) (i : Fin 1024) : Fin 4096 := ⟨1024 * (t.val / 4) + i.val, by have h := lt_of_lt_of_eq t.isLt N_0; have := i.isLt; omega⟩
/-- The group point `t` works on. -/
abbrev gr (t : Fin cfg0.N) : Fin 4 := ⟨t.val % 4, by omega⟩

theorem blk_0 (t : Fin cfg0.N) (i k : Fin 1024) :
    (iblk m c 0 t : Vec Ideal S1024x1024 .bf16) (ix2 i k) = (m ((c : Thread nD τ).loc main_arg0) : Vec Ideal S4096x1024 .bf16) (ix2 (rw' t i) k) := by
  rw [← V_main_arg0 m c]
  unfold iblk
  rw [View.read_apply]
  refine congrArg (V m c main_arg0) ?_
  funext a
  match a with
  | 0 => exact Fin.ext (by show win0_0.index t 0 * 1024 + 1 * i.val = 1024 * (t.val / 4) + i.val; rw [(idx_0 t).1]; omega)
  | 1 => exact Fin.ext (by show win0_0.index t 1 * 1024 + 1 * k.val = k.val; rw [(idx_0 t).2]; omega)
theorem blk_1 (t : Fin cfg0.N) (r : Fin 704) (k : Fin 1024) :
    (iblk m c 1 t : Vec Ideal S1x704x1024 .bf16) (ix3 0 r k) = (m ((c : Thread nD τ).loc main_arg1) : Vec Ideal S2816x1024 .bf16) (ix2 (fe (gr t) r) k) := by
  rw [← V_v0_apply m c (gr t) r k]
  unfold iblk
  rw [View.read_apply]
  refine congrArg (V m c main_v0) ?_
  funext a
  match a with
  | 0 => exact Fin.ext (by show win0_1.index t 0 * 1 + 1 * 0 = t.val % 4; rw [(idx_1 t).1]; omega)
  | 1 => exact Fin.ext (by show win0_1.index t 1 * 704 + 1 * r.val = r.val; rw [(idx_1 t).2.1]; omega)
  | 2 => exact Fin.ext (by show win0_1.index t 2 * 1024 + 1 * k.val = k.val; rw [(idx_1 t).2.2]; omega)
theorem blk_2 (t : Fin cfg0.N) (h : Fin 2) (i : Fin 1024) (r : Fin 704) :
    (iblk m c 2 t : Vec Ideal S2x1x1024x704 .bf16) (ix4 h 0 i r) = (m ((c : Thread nD τ).loc main_arg2) : Vec Ideal S4096x5632 .bf16) (ix2 (rw' t i) (cx h (gr t) r)) := by
  rw [← V_v2_apply m c h (gr t) (rw' t i) r]
  unfold iblk
  rw [View.read_apply]
  refine congrArg (V m c main_v2) ?_
  funext a
  match a with
  | 0 => exact Fin.ext (by show win0_2.index t 0 * 2 + 1 * h.val = h.val; rw [(idx_2 t).1]; omega)
  | 1 => exact Fin.ext (by show win0_2.index t 1 * 1 + 1 * 0 = t.val % 4; rw [(idx_2 t).2.1]; omega)
  | 2 => exact Fin.ext (by show win0_2.index t 2 * 1024 + 1 * i.val = 1024 * (t.val / 4) + i.val; rw [(idx_2 t).2.2.1]; omega)
  | 3 => exact Fin.ext (by show win0_2.index t 3 * 704 + 1 * r.val = r.val; rw [(idx_2 t).2.2.2]; omega)

/-! ### The results -/

/-- The features, from the gates and values. -/
def gT (ab : Vec Ideal S4096x5632 .bf16) : Vec Ideal S4x4096x704 .bf16 :=
  fun i => fT (ab (ix2 (i 1) (ca (fe (i 0) (i 2))))) (ab (ix2 (i 1) (cb (fe (i 0) (i 2)))))
/-- The gates' and the values' gradients. -/
def gD (dy : Vec Ideal S4096x1024 .bf16) (w : Vec Ideal S2816x1024 .bf16) (ab : Vec Ideal S4096x5632 .bf16) : Vec Ideal S2x4x4096x704 .bf16 := fun i =>
  if (i 0).val = 0 then fA (dT dy w (i 2) (fe (i 1) (i 3))) (ab (ix2 (i 2) (ca (fe (i 1) (i 3))))) (ab (ix2 (i 2) (cb (fe (i 1) (i 3)))))
  else fB (dT dy w (i 2) (fe (i 1) (i 3))) (ab (ix2 (i 2) (ca (fe (i 1) (i 3)))))

abbrev gTM : Vec Ideal S4x4096x704 .bf16 := gT (m ((c : Thread nD τ).loc main_arg2))
abbrev gDM : Vec Ideal S2x4x4096x704 .bf16 := gD (m ((c : Thread nD τ).loc main_arg0)) (m ((c : Thread nD τ).loc main_arg1)) (m ((c : Thread nD τ).loc main_arg2))

theorem rd_3 (U : Vec Ideal S4x4096x704 .bf16) (t : Fin cfg0.N) (i : Fin 1024) (r : Fin 704) :
    (((cfg0.win 3).blk t).view.read (Elt Ideal) U : Vec Ideal S1x1024x704 .bf16) (ix3 0 i r) = U (ix3 (gr t) (rw' t i) r) := by
  rw [View.read_apply]
  refine congrArg U ?_
  funext a
  match a with
  | 0 => exact Fin.ext (by show win0_3.index t 0 * 1 + 1 * 0 = t.val % 4; rw [(idx_3 t).1]; omega)
  | 1 => exact Fin.ext (by show win0_3.index t 1 * 1024 + 1 * i.val = 1024 * (t.val / 4) + i.val; rw [(idx_3 t).2.1]; omega)
  | 2 => exact Fin.ext (by show win0_3.index t 2 * 704 + 1 * r.val = r.val; rw [(idx_3 t).2.2]; omega)
theorem rd_4 (U : Vec Ideal S2x4x4096x704 .bf16) (t : Fin cfg0.N) (h : Fin 2) (i : Fin 1024) (r : Fin 704) :
    (((cfg0.win 4).blk t).view.read (Elt Ideal) U : Vec Ideal S2x1x1024x704 .bf16) (ix4 h 0 i r) = U (ix4 h (gr t) (rw' t i) r) := by
  rw [View.read_apply]
  refine congrArg U ?_
  funext a
  match a with
  | 0 => exact Fin.ext (by show win0_4.index t 0 * 2 + 1 * h.val = h.val; rw [(idx_4 t).1]; omega)
  | 1 => exact Fin.ext (by show win0_4.index t 1 * 1 + 1 * 0 = t.val % 4; rw [(idx_4 t).2.1]; omega)
  | 2 => exact Fin.ext (by show win0_4.index t 2 * 1024 + 1 * i.val = 1024 * (t.val / 4) + i.val; rw [(idx_4 t).2.2.1]; omega)
  | 3 => exact Fin.ext (by show win0_4.index t 3 * 704 + 1 * r.val = r.val; rw [(idx_4 t).2.2.2]; omega)

theorem gate_at (t : Fin cfg0.N) (i : Fin 1024) (r : Fin 704) : (View.ld (iblk m c 2 t : Vec Ideal S2x1x1024x704 .bf16) r0_2 : Vec Ideal S1x1x1024x704 .bf16) (ix4 0 0 i r)
    = (m ((c : Thread nD τ).loc main_arg2) : Vec Ideal S4096x5632 .bf16) (ix2 (rw' t i) (ca (fe (gr t) r))) := by
  rw [← cx_0]
  exact (ld_2 _ i r).trans (blk_2 m c t 0 i r)
theorem value_at (t : Fin cfg0.N) (i : Fin 1024) (r : Fin 704) : (View.ld (iblk m c 2 t : Vec Ideal S2x1x1024x704 .bf16) r0_3 : Vec Ideal S1x1x1024x704 .bf16) (ix4 0 0 i r)
    = (m ((c : Thread nD τ).loc main_arg2) : Vec Ideal S4096x5632 .bf16) (ix2 (rw' t i) (cb (fe (gr t) r))) := by
  rw [← cx_1]
  exact (ld_3 _ i r).trans (blk_2 m c t 1 i r)
theorem grad_at (t : Fin cfg0.N) (i : Fin 1024) (r : Fin 704) : k0_pay3 (F := Ideal) (iblk m c 0 t) (iblk m c 1 t) (ix2 i r)
    = dT (m ((c : Thread nD τ).loc main_arg0)) (m ((c : Thread nD τ).loc main_arg1)) (rw' t i) (fe (gr t) r) :=
  (pay3_apply _ _ i r).trans (Finset.sum_congr rfl fun k _ => congrArg₂ (HMul.hMul (α := EReal) (β := EReal) (γ := EReal)) (blk_0 m c t i k) (blk_1 m c t r k))

theorem flushed_3 (t : Fin cfg0.N) : (dats m 0 c).flushed 3 t = ((cfg0.win 3).blk t).view.read (Elt Ideal) (gTM m c) := by
  show (cfg0.win 3).cut (grid0.coords t) ((dats m 0 c).after 3 t) = _
  rw [after0_3, out_3]
  have key : ∀ (i : Fin 1024) (r : Fin 704), (k0_pay8 (F := Ideal) (View.ld (iblk m c 2 t) r0_2) (View.ld (iblk m c 2 t) r0_3) : Vec Ideal S1x1024x704 .bf16) (ix3 0 i r)
      = (((cfg0.win 3).blk t).view.read (Elt Ideal) (gTM m c) : Vec Ideal S1x1024x704 .bf16) (ix3 0 i r) := fun i r => by
    rw [rd_3]
    exact (pay8_apply _ _ i r).trans (congrArg₂ fT (gate_at m c t i r) (value_at m c t i r))
  generalize (((cfg0.win 3).blk t).view.read (Elt Ideal) (gTM m c)) = R at key ⊢
  generalize (k0_pay8 (F := Ideal) (View.ld (iblk m c 2 t) r0_2) (View.ld (iblk m c 2 t) r0_3) : Vec Ideal S1x1024x704 .bf16) = P at key ⊢
  have e : (P : Vec Ideal S1x1024x704 .bf16) = R := funext fun y => by
    rw [z1 y]; exact key _ _
  exact e

theorem flushed_4 (t : Fin cfg0.N) : (dats m 0 c).flushed 4 t = ((cfg0.win 4).blk t).view.read (Elt Ideal) (gDM m c) := by
  show (cfg0.win 4).cut (grid0.coords t) ((dats m 0 c).after 4 t) = _
  rw [after0_4, out_4]
  have key : ∀ (h : Fin 2) (i : Fin 1024) (r : Fin 704), (E4 (k0_pay3 (F := Ideal) (iblk m c 0 t) (iblk m c 1 t)) (View.ld (iblk m c 2 t) r0_2) (View.ld (iblk m c 2 t) r0_3) : Vec Ideal S2x1x1024x704 .bf16) (ix4 h 0 i r)
      = (((cfg0.win 4).blk t).view.read (Elt Ideal) (gDM m c) : Vec Ideal S2x1x1024x704 .bf16) (ix4 h 0 i r) := fun h i r => by
    rw [rd_4]
    match h with
    | 0 =>
      refine (E4_zero _ _ _ _ i r rfl rfl rfl).trans (Eq.trans ?_ (if_pos rfl).symm)
      rw [grad_at, gate_at, value_at]
      rfl
    | 1 =>
      refine (E4_one _ _ _ _ i r rfl rfl rfl).trans (Eq.trans ?_ (if_neg (by show ¬ (1 : Nat) = 0; omega)).symm)
      rw [grad_at, gate_at]
      rfl
  generalize (((cfg0.win 4).blk t).view.read (Elt Ideal) (gDM m c)) = R at key ⊢
  generalize (E4 (k0_pay3 (F := Ideal) (iblk m c 0 t) (iblk m c 1 t)) (View.ld (iblk m c 2 t) r0_2) (View.ld (iblk m c 2 t) r0_3) : Vec Ideal S2x1x1024x704 .bf16) = P at key ⊢
  have e : (P : Vec Ideal S2x1x1024x704 .bf16) = R := funext fun y => by
    have h1 : y 1 = (0 : Fin 1) := Subsingleton.elim (α := Fin 1) (y 1) 0
    have ey : y = ix4 (y 0) 0 (y 2) (y 3) := by
      funext a
      match a with
      | 0 => rfl
      | 1 => exact h1
      | 2 => rfl
      | 3 => rfl
    rw [ey]; exact key _ _ _
  exact e

theorem cover_3 (i : S4x4096x704.Idx) : ∃ t : Fin cfg0.N, (cfg0.win 3).flush t = true ∧ i ∈ ((cfg0.win 3).blk t).view.set := by
  have h0 : (i 0 : Nat) < 4 := (i 0).isLt
  have h1 : (i 1 : Nat) < 4096 := (i 1).isLt
  have h2 : (i 2 : Nat) < 704 := (i 2).isLt
  obtain ⟨t, ht⟩ : ∃ t : Fin cfg0.N, t.val = 4 * ((i 1 : Nat) / 1024) + (i 0 : Nat) := ⟨⟨4 * ((i 1 : Nat) / 1024) + (i 0 : Nat), Nat.lt_of_lt_of_eq (by omega) N_0.symm⟩, rfl⟩
  refine ⟨t, flush_3 t, ?_⟩
  show i ∈ ((View.whole main_v3_0).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1
              rw [(idx_3 t).1]; omega
  | ⟨1, _⟩ => show win0_3.index t 1 * 1024 ≤ (i 1 : Nat) ∧ (i 1 : Nat) < win0_3.index t 1 * 1024 + 1024
              rw [(idx_3 t).2.1]; omega
  | ⟨2, _⟩ => show win0_3.index t 2 * 704 ≤ (i 2 : Nat) ∧ (i 2 : Nat) < win0_3.index t 2 * 704 + 704
              rw [(idx_3 t).2.2]; omega

theorem cover_4 (i : S2x4x4096x704.Idx) : ∃ t : Fin cfg0.N, (cfg0.win 4).flush t = true ∧ i ∈ ((cfg0.win 4).blk t).view.set := by
  have h0 : (i 0 : Nat) < 2 := (i 0).isLt
  have h1 : (i 1 : Nat) < 4 := (i 1).isLt
  have h2 : (i 2 : Nat) < 4096 := (i 2).isLt
  have h3 : (i 3 : Nat) < 704 := (i 3).isLt
  obtain ⟨t, ht⟩ : ∃ t : Fin cfg0.N, t.val = 4 * ((i 2 : Nat) / 1024) + (i 1 : Nat) := ⟨⟨4 * ((i 2 : Nat) / 1024) + (i 1 : Nat), Nat.lt_of_lt_of_eq (by omega) N_0.symm⟩, rfl⟩
  refine ⟨t, flush_4 t, ?_⟩
  show i ∈ ((View.whole main_v3_1).slice (win0_4.rect t)).set
  rw [View.set_slice_whole, Rect.mem_set_unit]
  intro a
  match a with
  | ⟨0, _⟩ => show win0_4.index t 0 * 2 ≤ (i 0 : Nat) ∧ (i 0 : Nat) < win0_4.index t 0 * 2 + 2
              rw [(idx_4 t).1]; omega
  | ⟨1, _⟩ => show win0_4.index t 1 * 1 ≤ (i 1 : Nat) ∧ (i 1 : Nat) < win0_4.index t 1 * 1 + 1
              rw [(idx_4 t).2.1]; omega
  | ⟨2, _⟩ => show win0_4.index t 2 * 1024 ≤ (i 2 : Nat) ∧ (i 2 : Nat) < win0_4.index t 2 * 1024 + 1024
              rw [(idx_4 t).2.2.1]; omega
  | ⟨3, _⟩ => show win0_4.index t 3 * 704 ≤ (i 3 : Nat) ∧ (i 3 : Nat) < win0_4.index t 3 * 704 + 704
              rw [(idx_4 t).2.2.2]; omega

theorem final_3 : (dats m 0 c).arrAt 3 cfg0.N = gTM m c := (dats m 0 c).arrAt_eq_of_cover 3 (gTM m c) (fun t _ => flushed_3 m c t) cover_3
theorem final_4 : (dats m 0 c).arrAt 4 cfg0.N = gDM m c := (dats m 0 c).arrAt_eq_of_cover 4 (gDM m c) (fun t _ => flushed_4 m c t) cover_4

end Cert.SwigluIdeal.Agree

namespace Cert.SwigluRefIdeal.Agree

open Cert.SwigluRefIdeal Cert.SwigluRefIdeal.Gen
open Idealize.ShloMosaic Idealize.ShloMosaic.TcCoe
open Cert.SwigluIdeal.Agree (fe ca cb sg fT fA fB dT gT gD fA_real)

/-! ### The reference -/

variable (dy : Vec Ideal S4096x1024 .bf16) (w : Vec Ideal S2816x1024 .bf16) (ab : Vec Ideal S4096x5632 .bf16)

theorem at_a (s : Fin 4096) (g : Fin 4) (r : Fin 704) (j : Fin 4096) (k : Fin 5632) (hj : j.val = s.val) (hk : k.val = g.val * 704 + r.val) : (ix2 j k : S4096x5632.Idx) = ix2 s (ca (fe g r)) := by
  rw [show j = s from Fin.ext hj, show k = ca (fe g r) from Fin.ext hk]
theorem at_b (s : Fin 4096) (g : Fin 4) (r : Fin 704) (j : Fin 4096) (k : Fin 5632) (hj : j.val = s.val) (hk : k.val = 2816 + (g.val * 704 + r.val)) : (ix2 j k : S4096x5632.Idx) = ix2 s (cb (fe g r)) := by
  rw [show j = s from Fin.ext hj, show k = cb (fe g r) from Fin.ext hk]

theorem ref_t (g : Fin 4) (s : Fin 4096) (r : Fin 704) :
    (transpose S4x4096x704 [1, 0, 2] (shapeCast _ (truncf (F := Ideal) .bf16 (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (extractStridedSlice S4096x2816 ![0, 2816] (extf (F := Ideal) .f32 ab bitsLt_bf16_f32) slices_S4096x5632_S4096x2816_0_2816)) bitsLt_bf16_f32) shapeCasts_S4096x2816_S4096x4x704) transposes_S4096x4x704_S4x4096x704_1_0_2 : Vec Ideal S4x4096x704 .bf16) (ix3 g s r)
      = fT (ab (ix2 s (ca (fe g r)))) (ab (ix2 s (cb (fe g r)))) := by
  have key : ∀ p q : S4096x5632.Idx, p = ix2 s (ca (fe g r)) → q = ix2 s (cb (fe g r)) →
      (fun a b : EReal => a * Ideal.div 1 (1 + Ideal.exp (-a)) * b) (ab p) (ab q) = fT (ab (ix2 s (ca (fe g r)))) (ab (ix2 s (cb (fe g r)))) := fun p q hp hq => by
    rw [hp, hq]; rfl
  simp only [pointwise]
  refine key _ _ (at_a s g r _ _ ?_ ?_) (at_b s g r _ _ ?_ ?_)
  · show 0 + s.val = s.val; omega
  · show 0 + (g.val * 704 + r.val) = _; omega
  · show 0 + s.val = s.val; omega
  · show 2816 + (g.val * 704 + r.val) = _; omega

theorem dT_real (hdy : ∀ i, dy i = ((dy i : EReal).toReal : EReal)) (hw : ∀ i, w i = ((w i : EReal).toReal : EReal)) (s : Fin 4096) (f : Fin 2816) : ∃ x : ℝ, dT dy w s f = (x : EReal) := by
  refine ⟨∑ k : Fin 1024, (dy (ix2 s k) : EReal).toReal * (w (ix2 f k) : EReal).toReal, ?_⟩
  rw [← Cert.Attn.coe_sum]
  refine Finset.sum_congr rfl fun k _ => ?_
  rw [EReal.coe_mul, ← hdy, ← hw]

theorem ref_a (hdy : ∀ i, dy i = ((dy i : EReal).toReal : EReal)) (hw : ∀ i, w i = ((w i : EReal).toReal : EReal)) (hab : ∀ i, ab i = ((ab i : EReal).toReal : EReal))
    (g : Fin 4) (s : Fin 4096) (r : Fin 704) :
    (transpose S2x4x4096x704 [1, 2, 0, 3] (shapeCast _ (truncf (F := Ideal) .bf16 (concatenate S4096x5632 1 [⟨S4096x2816, (addf (mulf (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (mulf (mulf (extractStridedSlice S4096x2816 ![0, 0] (extf (F := Ideal) .f32 ab bitsLt_bf16_f32) slices_S4096x5632_S4096x2816_0_0) (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816))) (mulf (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0))))) (subf (broadcastInDim S4096x2816 ![] bcast_S_S4096x2816 (constant (F := Ideal) S_ .f32 0x3F800000#32)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))))))⟩, ⟨S4096x2816, (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (Host.dotGeneral dot_S4096x1024_S2816x1024_S4096x2816_1_1_0_0_n_n none (extf (F := Ideal) .f32 dy bitsLt_bf16_f32) (extf (F := Ideal) .f32 w bitsLt_bf16_f32)))⟩] concatenates_S4096x2816_S4096x2816_S4096x5632_d1) bitsLt_bf16_f32) shapeCasts_S4096x5632_S4096x2x4x704) transposes_S4096x2x4x704_S2x4x4096x704_1_2_0_3 : Vec Ideal S2x4x4096x704 .bf16) (ix4 0 g s r)
      = fA (dT dy w s (fe g r)) (ab (ix2 s (ca (fe g r)))) (ab (ix2 s (cb (fe g r)))) := by
  have key : ∀ (p q : S4096x5632.Idx) (f : Fin 2816), p = ix2 s (ca (fe g r)) → q = ix2 s (cb (fe g r)) → f = fe g r →
      (fun x a b : EReal => (0 + x) * b * Ideal.div 1 (1 + Ideal.exp (-a)) + a * ((0 + x) * b) * (Ideal.div 1 (1 + Ideal.exp (-a)) * (1 - Ideal.div 1 (1 + Ideal.exp (-a)))))
        (∑ k : Fin 1024, HMul.hMul (α := EReal) (β := EReal) (γ := EReal) (dy (ix2 s k)) (w (ix2 f k))) (ab p) (ab q)
        = fA (dT dy w s (fe g r)) (ab (ix2 s (ca (fe g r)))) (ab (ix2 s (cb (fe g r)))) := fun p q f hp hq hf => by
    rw [hp, hq, hf]
    obtain ⟨x, hx⟩ := dT_real dy w hdy hw s (fe g r)
    have ea := hab (ix2 s (ca (fe g r)))
    have eb := hab (ix2 s (cb (fe g r)))
    generalize (ab (ix2 s (ca (fe g r))) : EReal).toReal = a at ea
    generalize (ab (ix2 s (cb (fe g r))) : EReal).toReal = b at eb
    show (0 + dT dy w s (fe g r)) * _ * _ + _ * ((0 + dT dy w s (fe g r)) * _) * _ = _
    rw [hx, ea, eb, zero_add]
    exact fA_real x a b
  simp only [pointwise]
  have hlt : 0 * 2816 + g.val * 704 + r.val < 2816 := by have := g.isLt; have := r.isLt; omega
  rw [dif_pos hlt]
  refine key _ _ _ (at_a s g r _ _ ?_ ?_) (at_b s g r _ _ ?_ ?_) (Fin.ext ?_)
  · show 0 + s.val = s.val; omega
  · show 0 + (0 * 2816 + g.val * 704 + r.val) = _; omega
  · show 0 + s.val = s.val; omega
  · show 2816 + (0 * 2816 + g.val * 704 + r.val) = _; omega
  · show 0 * 2816 + g.val * 704 + r.val = g.val * 704 + r.val; omega

theorem ref_b (g : Fin 4) (s : Fin 4096) (r : Fin 704) :
    (transpose S2x4x4096x704 [1, 2, 0, 3] (shapeCast _ (truncf (F := Ideal) .bf16 (concatenate S4096x5632 1 [⟨S4096x2816, (addf (mulf (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (mulf (mulf (extractStridedSlice S4096x2816 ![0, 0] (extf (F := Ideal) .f32 ab bitsLt_bf16_f32) slices_S4096x5632_S4096x2816_0_0) (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816))) (mulf (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0))))) (subf (broadcastInDim S4096x2816 ![] bcast_S_S4096x2816 (constant (F := Ideal) S_ .f32 0x3F800000#32)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))))))⟩, ⟨S4096x2816, (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (Host.dotGeneral dot_S4096x1024_S2816x1024_S4096x2816_1_1_0_0_n_n none (extf (F := Ideal) .f32 dy bitsLt_bf16_f32) (extf (F := Ideal) .f32 w bitsLt_bf16_f32)))⟩] concatenates_S4096x2816_S4096x2816_S4096x5632_d1) bitsLt_bf16_f32) shapeCasts_S4096x5632_S4096x2x4x704) transposes_S4096x2x4x704_S2x4x4096x704_1_2_0_3 : Vec Ideal S2x4x4096x704 .bf16) (ix4 1 g s r) = fB (dT dy w s (fe g r)) (ab (ix2 s (ca (fe g r)))) := by
  have key : ∀ (p : S4096x5632.Idx) (j : Fin 4096) (f : Fin 2816), p = ix2 s (ca (fe g r)) → j = s → f = fe g r →
      (fun x a : EReal => a * Ideal.div 1 (1 + Ideal.exp (-a)) * (0 + x))
        (∑ k : Fin 1024, HMul.hMul (α := EReal) (β := EReal) (γ := EReal) (dy (ix2 j k)) (w (ix2 f k))) (ab p)
        = fB (dT dy w s (fe g r)) (ab (ix2 s (ca (fe g r)))) := fun p j f hp hj hf => by
    rw [hp, hj, hf]
    show _ * _ * (0 + dT dy w s (fe g r)) = _
    rw [zero_add]
    exact mul_comm (G := EReal) _ _
  simp only [pointwise]
  have hlt : ¬ 1 * 2816 + g.val * 704 + r.val < 2816 := by omega
  rw [dif_neg hlt]
  refine key _ _ _ (at_a s g r _ _ ?_ ?_) (Fin.ext ?_) (Fin.ext ?_)
  · show 0 + s.val = s.val; omega
  · show 0 + (1 * 2816 + g.val * 704 + r.val - 2816) = _; omega
  · rfl
  · show 1 * 2816 + g.val * 704 + r.val - 2816 = g.val * 704 + r.val; omega

theorem ref_t_eq : (transpose S4x4096x704 [1, 0, 2] (shapeCast _ (truncf (F := Ideal) .bf16 (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (extractStridedSlice S4096x2816 ![0, 2816] (extf (F := Ideal) .f32 ab bitsLt_bf16_f32) slices_S4096x5632_S4096x2816_0_2816)) bitsLt_bf16_f32) shapeCasts_S4096x2816_S4096x4x704) transposes_S4096x4x704_S4x4096x704_1_0_2 : Vec Ideal S4x4096x704 .bf16) = gT ab := by
  have key := ref_t ab
  generalize (transpose S4x4096x704 [1, 0, 2] (shapeCast _ (truncf (F := Ideal) .bf16 (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (extractStridedSlice S4096x2816 ![0, 2816] (extf (F := Ideal) .f32 ab bitsLt_bf16_f32) slices_S4096x5632_S4096x2816_0_2816)) bitsLt_bf16_f32) shapeCasts_S4096x2816_S4096x4x704) transposes_S4096x4x704_S4x4096x704_1_0_2 : Vec Ideal S4x4096x704 .bf16) = R at key ⊢
  funext y
  rw [eq_ix3 y]; exact key _ _ _

theorem ref_d_eq (hdy : ∀ i, dy i = ((dy i : EReal).toReal : EReal)) (hw : ∀ i, w i = ((w i : EReal).toReal : EReal)) (hab : ∀ i, ab i = ((ab i : EReal).toReal : EReal)) :
    (transpose S2x4x4096x704 [1, 2, 0, 3] (shapeCast _ (truncf (F := Ideal) .bf16 (concatenate S4096x5632 1 [⟨S4096x2816, (addf (mulf (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (mulf (mulf (extractStridedSlice S4096x2816 ![0, 0] (extf (F := Ideal) .f32 ab bitsLt_bf16_f32) slices_S4096x5632_S4096x2816_0_0) (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816))) (mulf (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0))))) (subf (broadcastInDim S4096x2816 ![] bcast_S_S4096x2816 (constant (F := Ideal) S_ .f32 0x3F800000#32)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))))))⟩, ⟨S4096x2816, (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (Host.dotGeneral dot_S4096x1024_S2816x1024_S4096x2816_1_1_0_0_n_n none (extf (F := Ideal) .f32 dy bitsLt_bf16_f32) (extf (F := Ideal) .f32 w bitsLt_bf16_f32)))⟩] concatenates_S4096x2816_S4096x2816_S4096x5632_d1) bitsLt_bf16_f32) shapeCasts_S4096x5632_S4096x2x4x704) transposes_S4096x2x4x704_S2x4x4096x704_1_2_0_3 : Vec Ideal S2x4x4096x704 .bf16) = gD dy w ab := by
  have keyA := ref_a dy w ab hdy hw hab
  have keyB := ref_b dy w ab
  generalize (transpose S2x4x4096x704 [1, 2, 0, 3] (shapeCast _ (truncf (F := Ideal) .bf16 (concatenate S4096x5632 1 [⟨S4096x2816, (addf (mulf (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (mulf (mulf (extractStridedSlice S4096x2816 ![0, 0] (extf (F := Ideal) .f32 ab bitsLt_bf16_f32) slices_S4096x5632_S4096x2816_0_0) (mulf (Host.dotGeneral dot_S4096x1024_S2816x1024_S4096x2816_1_1_0_0_n_n none (extf (F := Ideal) .f32 dy bitsLt_bf16_f32) (extf (F := Ideal) .f32 w bitsLt_bf16_f32)) (extractStridedSlice S4096x2816 ![0, 2816] (extf (F := Ideal) .f32 ab bitsLt_bf16_f32) slices_S4096x5632_S4096x2816_0_2816))) (mulf (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0))))) (subf (broadcastInDim S4096x2816 ![] bcast_S_S4096x2816 (constant (F := Ideal) S_ .f32 0x3F800000#32)) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))))))⟩, ⟨S4096x2816, (mulf (mulf (extractStridedSlice S4096x2816 ![0, 0] (extf (F := Ideal) .f32 ab bitsLt_bf16_f32) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (extf (F := Ideal) .f32 ab bitsLt_bf16_f32) slices_S4096x5632_S4096x2816_0_0)))))) (Host.dotGeneral dot_S4096x1024_S2816x1024_S4096x2816_1_1_0_0_n_n none (extf (F := Ideal) .f32 dy bitsLt_bf16_f32) (extf (F := Ideal) .f32 w bitsLt_bf16_f32)))⟩] concatenates_S4096x2816_S4096x2816_S4096x5632_d1) bitsLt_bf16_f32) shapeCasts_S4096x5632_S4096x2x4x704) transposes_S4096x2x4x704_S2x4x4096x704_1_2_0_3 : Vec Ideal S2x4x4096x704 .bf16) = R at keyA keyB ⊢
  have key : ∀ (h : Fin 2) (g : Fin 4) (s : Fin 4096) (r : Fin 704), R (ix4 h g s r) = gD dy w ab (ix4 h g s r) := fun h g s r => by
    match h with
    | 0 => exact (keyA g s r).trans (if_pos rfl).symm
    | 1 => exact (keyB g s r).trans (if_neg (by show ¬ (1 : Nat) = 0; omega)).symm
  funext y
  rw [eq_ix4 y]; exact key _ _ _ _

end Cert.SwigluRefIdeal.Agree

namespace Cert.SwigluIdeal.Agree

open Cert.SwigluIdeal Cert.SwigluIdeal.Gen
open Idealize.ShloMosaic Idealize.ShloMosaic.TcCoe Idealize.SL.Sem

theorem pre_facts : Cert.Pre_finite2.Facts := ⟨by decide, by decide, by decide, by decide⟩

theorem agree : Cert.algebraic_SwigluIdeal_SwigluRefIdeal_pre_finite2 (hSwigluIdeal := Cert.SwigluIdeal.Gen.facts) (hSwigluRefIdeal := Cert.SwigluRefIdeal.Gen.facts) (hPre_finite2 := pre_facts) := by
  intro m ρ m' ρ' hp hm
  refine ⟨fun c => gTM m c, fun c => gDM m c, ?_, ?_⟩
  · exact (θ_run Cert.SwigluIdeal.defs _ _).mono (fun r h c => ⟨(h c).1.trans (final_3 m c), (h c).2.1.trans (final_4 m c), (h c).2.2⟩) (Cert.SwigluIdeal.Value.run_blocks (F := Ideal) m ρ)
  · refine (θ_run Cert.SwigluRefIdeal.defs _ _).mono (fun r h c => ⟨(h c).1.trans ?_, (h c).2.1.trans ?_, (h c).2.2⟩) (Cert.SwigluRefIdeal.Value.run (F := Ideal) m' ρ')
    · rw [(hm c).2.2]
      exact Cert.SwigluRefIdeal.Agree.ref_t_eq _
    · rw [(hm c).1, (hm c).2.1, (hm c).2.2]
      obtain ⟨h0, h1, h2⟩ := hp c
      exact Cert.SwigluRefIdeal.Agree.ref_d_eq _ _ _ (fun i => Cert.Agree.real_of _ (congrFun h0 i)) (fun i => Cert.Agree.real_of _ (congrFun h1 i)) (fun i => Cert.Agree.real_of _ (congrFun h2 i))

end Cert.SwigluIdeal.Agree

end
-- ==== Proof.FInValue.lean ====
module

public import proofs.«01_k».proof.Defs
public import proofs.«01_k».proof.Proof.SwigluValue
public import proofs.«01_k».proof.Proof.Gen.FInIdeal.Value
public import proofs.«01_k».proof.Proof.Gen.FInRefIdeal.Run
public import Idealize.ShloMosaic.Lib.StableHlo.RunRead
public import Idealize.ShloMosaic.Lib.ValueIdxCore
public import Idealize.ShloMosaic.Lib.Pointwise
public import Idealize.ShloMosaic.Lib.IdealHost
public import Idealize.ShloMosaic.Lib.KernelVsHost

@[expose] public section

set_option maxRecDepth 16384

noncomputable section

namespace Cert.FInIdeal.Agree

open Cert.FInIdeal Cert.FInIdeal.Gen
open Idealize.ShloMosaic Idealize.ShloMosaic.TcCoe Idealize.SL.Sem
open Idealize.ShloMosaic.Pipeline (Dat)
open Cert.SwigluIdeal.Agree (fe ca cb cx cx_0 cx_1 sg fT)

/-! ## The feed-forward layer's first product and the SwiGLU of its two halves -/

/-- The product. -/
def gP (hn : Vec Ideal S4096x1024 .bf16) (w : Vec Ideal S1024x5632 .bf16) (s : Fin 4096) (f : Fin 5632) : EReal :=
  ∑ k : Fin 1024, HMul.hMul (α := EReal) (β := EReal) (γ := EReal) (hn (ix2 s k)) (w (ix2 k f))
/-- The product in the call's layout: halves and groups of columns first. -/
def gAB (hn : Vec Ideal S4096x1024 .bf16) (w : Vec Ideal S1024x5632 .bf16) : Vec Ideal S2x4x4096x704 .bf16 :=
  fun i => gP hn w (i 2) (cx (i 0) (i 1) (i 3))
/-- The features. -/
def gT (hn : Vec Ideal S4096x1024 .bf16) (w : Vec Ideal S1024x5632 .bf16) : Vec Ideal S4x4096x704 .bf16 :=
  fun i => fT (gP hn w (i 1) (ca (fe (i 0) (i 2)))) (gP hn w (i 1) (cb (fe (i 0) (i 2))))

/-! ### The kernel's payloads -/

theorem pay1_apply (x : Vec Ideal S1024x1024 .bf16) (y : Vec Ideal S1x704x1024 .bf16) (i : Fin 1024) (r : Fin 704) :
    k0_pay1 (F := Ideal) x y (ix2 i r) = ∑ k : Fin 1024, HMul.hMul (α := EReal) (β := EReal) (γ := EReal) (x (ix2 i k)) (y (ix3 0 r k)) := by
  simp only [k0_pay1, pointwise]
  exact zero_add (M := EReal) _

theorem pay2_apply (x : Vec Ideal S1024x1024 .bf16) (y : Vec Ideal S1x704x1024 .bf16) (i : Fin 1024) (r : Fin 704) :
    k0_pay2 (F := Ideal) x y (ix2 i r) = ∑ k : Fin 1024, HMul.hMul (α := EReal) (β := EReal) (γ := EReal) (x (ix2 i k)) (y (ix3 0 r k)) := by
  simp only [k0_pay2, pointwise]
  exact zero_add (M := EReal) _

theorem pay3_apply (x : Vec Ideal S1024x1024 .bf16) (y : Vec Ideal S1x704x1024 .bf16) (i : Fin 1024) (r : Fin 704) :
    k0_pay3 (F := Ideal) x y (ix4 0 0 i r) = k0_pay1 (F := Ideal) x y (ix2 i r) := by
  unfold k0_pay3
  generalize k0_pay1 (F := Ideal) x y = z
  simp only [pointwise]

theorem pay4_apply (x : Vec Ideal S1024x1024 .bf16) (y : Vec Ideal S1x704x1024 .bf16) (i : Fin 1024) (r : Fin 704) :
    k0_pay4 (F := Ideal) x y (ix4 0 0 i r) = k0_pay2 (F := Ideal) x y (ix2 i r) := by
  unfold k0_pay4
  generalize k0_pay2 (F := Ideal) x y = z
  simp only [pointwise]

theorem pay5_apply (x : Vec Ideal S1024x1024 .bf16) (y y' : Vec Ideal S1x704x1024 .bf16) (i : Fin 1024) (r : Fin 704) :
    k0_pay5 (F := Ideal) x y y' (ix3 0 i r) = fT (k0_pay1 (F := Ideal) x y (ix2 i r)) (k0_pay2 (F := Ideal) x y' (ix2 i r)) := by
  unfold k0_pay5
  generalize k0_pay1 (F := Ideal) x y = p
  generalize k0_pay2 (F := Ideal) x y' = q
  simp only [pointwise]
  rw [fT, sg, sub_eq_add_neg, zero_add]

/-! ### What a point writes -/

theorem z11 (z : S1x1x1024x704.Idx) : z = ix4 0 0 (z 2) (z 3) := by
  have h0 : z 0 = (0 : Fin 1) := Subsingleton.elim (α := Fin 1) (z 0) 0
  have h1 : z 1 = (0 : Fin 1) := Subsingleton.elim (α := Fin 1) (z 1) 0
  funext a
  match a with
  | 0 => exact h0
  | 1 => exact h1
  | 2 => rfl
  | 3 => rfl
theorem z1 (z : S1x1024x704.Idx) : z = ix3 0 (z 1) (z 2) := by
  have h0 : z 0 = (0 : Fin 1) := Subsingleton.elim (α := Fin 1) (z 0) 0
  funext a
  match a with
  | 0 => exact h0
  | 1 => rfl
  | 2 => rfl

theorem ld_0 (x : Vec Ideal S1024x1024 .bf16) : View.ld x r0_0 = x := by
  funext y
  refine congrArg x ?_
  funext a
  match a with
  | 0 => exact Fin.ext (by show 0 + 1 * (y 0).val = (y 0).val; omega)
  | 1 => exact Fin.ext (by show 0 + 1 * (y 1).val = (y 1).val; omega)
theorem ld_1 (x : Vec Ideal S1x704x1024 .bf16) : View.ld x r0_1 = x := by
  funext y
  refine congrArg x ?_
  funext a
  match a with
  | 0 => exact Fin.ext (by show 0 + 1 * (y 0).val = (y 0).val; omega)
  | 1 => exact Fin.ext (by show 0 + 1 * (y 1).val = (y 1).val; omega)
  | 2 => exact Fin.ext (by show 0 + 1 * (y 2).val = (y 2).val; omega)

/-- A block of the product, from its halves `p` and `q`. -/
def E3 (p q : Vec Ideal S1024x704 .f32) : Vec Ideal S2x1x1024x704 .bf16 := fun y => if (y 0).val = 0 then p (ix2 (y 2) (y 3)) else q (ix2 (y 2) (y 3))

theorem E3_zero (p q : Vec Ideal S1024x704 .f32) (y : S2x1x1024x704.Idx) (i : Fin 1024) (r : Fin 704) (h0 : (y 0).val = 0) (h2 : y 2 = i) (h3 : y 3 = r) : E3 p q y = p (ix2 i r) := by
  subst h2 h3
  exact if_pos h0
theorem E3_one (p q : Vec Ideal S1024x704 .f32) (y : S2x1x1024x704.Idx) (i : Fin 1024) (r : Fin 704) (h0 : (y 0).val = 1) (h2 : y 2 = i) (h3 : y 3 = r) : E3 p q y = q (ix2 i r) := by
  subst h2 h3
  exact if_neg (by omega)

theorem out_3 (x : Vec Ideal S1024x1024 .bf16) (y y' : Vec Ideal S1x704x1024 .bf16) :
    out0_3 x y y' = E3 (k0_pay1 (F := Ideal) x y) (k0_pay2 (F := Ideal) x y') := by
  unfold out0_3
  rw [ld_0, ld_1, ld_1]
  funext i
  refine View.canon_apply_of_pieces (Val := Elt Ideal) (e := .bf16) (E3 (k0_pay1 (F := Ideal) x y) (k0_pay2 (F := Ideal) x y')) _ ?_ i (cover0_3 _ _ i)
  intro pc hpc
  rcases List.mem_cons.mp hpc with rfl | hpc
  · intro z
    have ez := z11 z
    refine ((congrArg (k0_pay4 (F := Ideal) x y') ez).trans (pay4_apply x y' (z 2) (z 3))).trans ?_
    refine (E3_one _ _ _ (z 2) (z 3) ?_ (Fin.ext ?_) (Fin.ext ?_)).symm
    · have h0 : (z 0).val < 1 := (z 0).isLt
      show 1 + 1 * (z 0).val = 1; omega
    · show 0 + 1 * (z 2).val = (z 2).val; omega
    · show 0 + 1 * (z 3).val = (z 3).val; omega
  rcases List.mem_cons.mp hpc with rfl | hpc
  · intro z
    have ez := z11 z
    refine ((congrArg (k0_pay3 (F := Ideal) x y) ez).trans (pay3_apply x y (z 2) (z 3))).trans ?_
    refine (E3_zero _ _ _ (z 2) (z 3) ?_ (Fin.ext ?_) (Fin.ext ?_)).symm
    · have h0 : (z 0).val < 1 := (z 0).isLt
      show 0 + 1 * (z 0).val = 0; omega
    · show 0 + 1 * (z 2).val = (z 2).val; omega
    · show 0 + 1 * (z 3).val = (z 3).val; omega
  nomatch hpc

theorem out_4 (x : Vec Ideal S1024x1024 .bf16) (y y' : Vec Ideal S1x704x1024 .bf16) : out0_4 x y y' = k0_pay5 (F := Ideal) x y y' := by
  unfold out0_4
  rw [ld_0, ld_1, ld_1]
  generalize k0_pay5 (F := Ideal) x y y' = P
  funext i
  refine View.canon_apply_of_pieces (Val := Elt Ideal) (e := .bf16) (P : Vec Ideal S1x1024x704 .bf16) _ ?_ i (cover0_4 _ i)
  intro pc hpc
  rcases List.mem_cons.mp hpc with rfl | hpc
  · intro z
    refine congrArg P ?_
    funext a
    match a with
    | 0 => exact Fin.ext (by show (z 0).val = 0 + 1 * (z 0).val; omega)
    | 1 => exact Fin.ext (by show (z 1).val = 0 + 1 * (z 1).val; omega)
    | 2 => exact Fin.ext (by show (z 2).val = 0 + 1 * (z 2).val; omega)
  nomatch hpc

/-! ### The arrays the windows read -/

variable (m : (ℓ : Loc nD τ sig) → Buf (Elt Ideal) ℓ) (c : Dev nD)

theorem V_v1 : (V m c main_v1 : Vec Ideal S8x704x1024 .bf16) = shapeCast S8x704x1024 (transpose S5632x1024 [1, 0] (m ((c : Thread nD τ).loc main_arg1) : Vec Ideal S1024x5632 .bf16) transposes_S1024x5632_S5632x1024_1_0) shapeCasts_S5632x1024_S8x704x1024 := by
  unfold V
  after_results <;> rfl

/-- Group `j` of the columns, and its column `r`. -/
abbrev co (j : Fin 8) (r : Fin 704) : Fin 5632 := ⟨j.val * 704 + r.val, by have := j.isLt; have := r.isLt; omega⟩

theorem V_v1_apply (j : Fin 8) (r : Fin 704) (k : Fin 1024) :
    (V m c main_v1 : Vec Ideal S8x704x1024 .bf16) (ix3 j r k) = (m ((c : Thread nD τ).loc main_arg1) : Vec Ideal S1024x5632 .bf16) (ix2 k (co j r)) := by
  rw [V_v1]
  generalize (m ((c : Thread nD τ).loc main_arg1) : Vec Ideal S1024x5632 .bf16) = a
  simp only [pointwise]

theorem idx_0 : ∀ t : Fin cfg0.N, win0_0.index t 0 = t.val / 4 ∧ win0_0.index t 1 = 0 := by decide +kernel
theorem idx_1 : ∀ t : Fin cfg0.N, win0_1.index t 0 = t.val % 4 ∧ win0_1.index t 1 = 0 ∧ win0_1.index t 2 = 0 := by decide +kernel
theorem idx_2 : ∀ t : Fin cfg0.N, win0_2.index t 0 = t.val % 4 + 4 ∧ win0_2.index t 1 = 0 ∧ win0_2.index t 2 = 0 := by decide +kernel
theorem idx_3 : ∀ t : Fin cfg0.N, win0_3.index t 0 = 0 ∧ win0_3.index t 1 = t.val % 4 ∧ win0_3.index t 2 = t.val / 4 ∧ win0_3.index t 3 = 0 := by decide +kernel
theorem idx_4 : ∀ t : Fin cfg0.N, win0_4.index t 0 = t.val % 4 ∧ win0_4.index t 1 = t.val / 4 ∧ win0_4.index t 2 = 0 := by decide +kernel
theorem flush_3 : ∀ t : Fin cfg0.N, (cfg0.win 3).flush t = true := by decide +kernel
theorem flush_4 : ∀ t : Fin cfg0.N, (cfg0.win 4).flush t = true := by decide +kernel

/-- Row `i` of the row block point `t` works on. -/
abbrev rw' (t : Fin cfg0.N) (i : Fin 1024) : Fin 4096 := ⟨1024 * (t.val / 4) + i.val, by have h := lt_of_lt_of_eq t.isLt N_0; have := i.isLt; omega⟩
/-- The group point `t` works on. -/
abbrev gr (t : Fin cfg0.N) : Fin 4 := ⟨t.val % 4, by omega⟩

theorem blk_0 (t : Fin cfg0.N) (i k : Fin 1024) :
    (iblk m c 0 t : Vec Ideal S1024x1024 .bf16) (ix2 i k) = (m ((c : Thread nD τ).loc main_arg0) : Vec Ideal S4096x1024 .bf16) (ix2 (rw' t i) k) := by
  rw [← V_main_arg0 m c]
  unfold iblk
  rw [View.read_apply]
  refine congrArg (V m c main_arg0) ?_
  funext a
  match a with
  | 0 => exact Fin.ext (by show win0_0.index t 0 * 1024 + 1 * i.val = 1024 * (t.val / 4) + i.val; rw [(idx_0 t).1]; omega)
  | 1 => exact Fin.ext (by show win0_0.index t 1 * 1024 + 1 * k.val = k.val; rw [(idx_0 t).2]; omega)
theorem blk_1 (t : Fin cfg0.N) (r : Fin 704) (k : Fin 1024) :
    (iblk m c 1 t : Vec Ideal S1x704x1024 .bf16) (ix3 0 r k) = (m ((c : Thread nD τ).loc main_arg1) : Vec Ideal S1024x5632 .bf16) (ix2 k (ca (fe (gr t) r))) := by
  have e : ca (fe (gr t) r) = co ⟨t.val % 4, by omega⟩ r := Fin.ext (by show (t.val % 4 * 704 + r.val) = (t.val % 4) * 704 + r.val; omega)
  rw [e, ← V_v1_apply m c _ r k]
  unfold iblk
  rw [View.read_apply]
  refine congrArg (V m c main_v1) ?_
  funext a
  match a with
  | 0 => exact Fin.ext (by show win0_1.index t 0 * 1 + 1 * 0 = t.val % 4; rw [(idx_1 t).1]; omega)
  | 1 => exact Fin.ext (by show win0_1.index t 1 * 704 + 1 * r.val = r.val; rw [(idx_1 t).2.1]; omega)
  | 2 => exact Fin.ext (by show win0_1.index t 2 * 1024 + 1 * k.val = k.val; rw [(idx_1 t).2.2]; omega)
theorem blk_2 (t : Fin cfg0.N) (r : Fin 704) (k : Fin 1024) :
    (iblk m c 2 t : Vec Ideal S1x704x1024 .bf16) (ix3 0 r k) = (m ((c : Thread nD τ).loc main_arg1) : Vec Ideal S1024x5632 .bf16) (ix2 k (cb (fe (gr t) r))) := by
  have e : cb (fe (gr t) r) = co ⟨t.val % 4 + 4, by omega⟩ r := Fin.ext (by show 2816 + (t.val % 4 * 704 + r.val) = (t.val % 4 + 4) * 704 + r.val; omega)
  rw [e, ← V_v1_apply m c _ r k]
  unfold iblk
  rw [View.read_apply]
  refine congrArg (V m c main_v1) ?_
  funext a
  match a with
  | 0 => exact Fin.ext (by show win0_2.index t 0 * 1 + 1 * 0 = t.val % 4 + 4; rw [(idx_2 t).1]; omega)
  | 1 => exact Fin.ext (by show win0_2.index t 1 * 704 + 1 * r.val = r.val; rw [(idx_2 t).2.1]; omega)
  | 2 => exact Fin.ext (by show win0_2.index t 2 * 1024 + 1 * k.val = k.val; rw [(idx_2 t).2.2]; omega)

/-! ### The results -/

abbrev gABM : Vec Ideal S2x4x4096x704 .bf16 := gAB (m ((c : Thread nD τ).loc main_arg0)) (m ((c : Thread nD τ).loc main_arg1))
abbrev gTM : Vec Ideal S4x4096x704 .bf16 := gT (m ((c : Thread nD τ).loc main_arg0)) (m ((c : Thread nD τ).loc main_arg1))

theorem rd_4 (U : Vec Ideal S4x4096x704 .bf16) (t : Fin cfg0.N) (i : Fin 1024) (r : Fin 704) :
    (((cfg0.win 4).blk t).view.read (Elt Ideal) U : Vec Ideal S1x1024x704 .bf16) (ix3 0 i r) = U (ix3 (gr t) (rw' t i) r) := by
  rw [View.read_apply]
  refine congrArg U ?_
  funext a
  match a with
  | 0 => exact Fin.ext (by show win0_4.index t 0 * 1 + 1 * 0 = t.val % 4; rw [(idx_4 t).1]; omega)
  | 1 => exact Fin.ext (by show win0_4.index t 1 * 1024 + 1 * i.val = 1024 * (t.val / 4) + i.val; rw [(idx_4 t).2.1]; omega)
  | 2 => exact Fin.ext (by show win0_4.index t 2 * 704 + 1 * r.val = r.val; rw [(idx_4 t).2.2]; omega)
theorem rd_3 (U : Vec Ideal S2x4x4096x704 .bf16) (t : Fin cfg0.N) (h : Fin 2) (i : Fin 1024) (r : Fin 704) :
    (((cfg0.win 3).blk t).view.read (Elt Ideal) U : Vec Ideal S2x1x1024x704 .bf16) (ix4 h 0 i r) = U (ix4 h (gr t) (rw' t i) r) := by
  rw [View.read_apply]
  refine congrArg U ?_
  funext a
  match a with
  | 0 => exact Fin.ext (by show win0_3.index t 0 * 2 + 1 * h.val = h.val; rw [(idx_3 t).1]; omega)
  | 1 => exact Fin.ext (by show win0_3.index t 1 * 1 + 1 * 0 = t.val % 4; rw [(idx_3 t).2.1]; omega)
  | 2 => exact Fin.ext (by show win0_3.index t 2 * 1024 + 1 * i.val = 1024 * (t.val / 4) + i.val; rw [(idx_3 t).2.2.1]; omega)
  | 3 => exact Fin.ext (by show win0_3.index t 3 * 704 + 1 * r.val = r.val; rw [(idx_3 t).2.2.2]; omega)

theorem gate_at (t : Fin cfg0.N) (i : Fin 1024) (r : Fin 704) : k0_pay1 (F := Ideal) (iblk m c 0 t) (iblk m c 1 t) (ix2 i r)
    = gP (m ((c : Thread nD τ).loc main_arg0)) (m ((c : Thread nD τ).loc main_arg1)) (rw' t i) (ca (fe (gr t) r)) :=
  (pay1_apply _ _ i r).trans (Finset.sum_congr rfl fun k _ => congrArg₂ (HMul.hMul (α := EReal) (β := EReal) (γ := EReal)) (blk_0 m c t i k) (blk_1 m c t r k))
theorem value_at (t : Fin cfg0.N) (i : Fin 1024) (r : Fin 704) : k0_pay2 (F := Ideal) (iblk m c 0 t) (iblk m c 2 t) (ix2 i r)
    = gP (m ((c : Thread nD τ).loc main_arg0)) (m ((c : Thread nD τ).loc main_arg1)) (rw' t i) (cb (fe (gr t) r)) :=
  (pay2_apply _ _ i r).trans (Finset.sum_congr rfl fun k _ => congrArg₂ (HMul.hMul (α := EReal) (β := EReal) (γ := EReal)) (blk_0 m c t i k) (blk_2 m c t r k))

theorem flushed_4 (t : Fin cfg0.N) : (dats m 0 c).flushed 4 t = ((cfg0.win 4).blk t).view.read (Elt Ideal) (gTM m c) := by
  show (cfg0.win 4).cut (grid0.coords t) ((dats m 0 c).after 4 t) = _
  rw [after0_4, out_4]
  have key : ∀ (i : Fin 1024) (r : Fin 704), (k0_pay5 (F := Ideal) (iblk m c 0 t) (iblk m c 1 t) (iblk m c 2 t) : Vec Ideal S1x1024x704 .bf16) (ix3 0 i r)
      = (((cfg0.win 4).blk t).view.read (Elt Ideal) (gTM m c) : Vec Ideal S1x1024x704 .bf16) (ix3 0 i r) := fun i r => by
    rw [rd_4]
    exact (pay5_apply _ _ _ i r).trans (congrArg₂ fT (gate_at m c t i r) (value_at m c t i r))
  generalize (((cfg0.win 4).blk t).view.read (Elt Ideal) (gTM m c)) = R at key ⊢
  generalize (k0_pay5 (F := Ideal) (iblk m c 0 t) (iblk m c 1 t) (iblk m c 2 t) : Vec Ideal S1x1024x704 .bf16) = P at key ⊢
  have e : (P : Vec Ideal S1x1024x704 .bf16) = R := funext fun y => by
    rw [z1 y]; exact key _ _
  exact e

theorem flushed_3 (t : Fin cfg0.N) : (dats m 0 c).flushed 3 t = ((cfg0.win 3).blk t).view.read (Elt Ideal) (gABM m c) := by
  show (cfg0.win 3).cut (grid0.coords t) ((dats m 0 c).after 3 t) = _
  rw [after0_3, out_3]
  have key : ∀ (h : Fin 2) (i : Fin 1024) (r : Fin 704), (E3 (k0_pay1 (F := Ideal) (iblk m c 0 t) (iblk m c 1 t)) (k0_pay2 (F := Ideal) (iblk m c 0 t) (iblk m c 2 t)) : Vec Ideal S2x1x1024x704 .bf16) (ix4 h 0 i r)
      = (((cfg0.win 3).blk t).view.read (Elt Ideal) (gABM m c) : Vec Ideal S2x1x1024x704 .bf16) (ix4 h 0 i r) := fun h i r => by
    rw [rd_3]
    match h with
    | 0 =>
      refine (E3_zero _ _ _ i r rfl rfl rfl).trans ?_
      rw [gate_at, ← cx_0]
      rfl
    | 1 =>
      refine (E3_one _ _ _ i r rfl rfl rfl).trans ?_
      rw [value_at, ← cx_1]
      rfl
  generalize (((cfg0.win 3).blk t).view.read (Elt Ideal) (gABM m c)) = R at key ⊢
  generalize (E3 (k0_pay1 (F := Ideal) (iblk m c 0 t) (iblk m c 1 t)) (k0_pay2 (F := Ideal) (iblk m c 0 t) (iblk m c 2 t)) : Vec Ideal S2x1x1024x704 .bf16) = P at key ⊢
  have e : (P : Vec Ideal S2x1x1024x704 .bf16) = R := funext fun y => by
    have h1 : y 1 = (0 : Fin 1) := Subsingleton.elim (α := Fin 1) (y 1) 0
    have ey : y = ix4 (y 0) 0 (y 2) (y 3) := by
      funext a
      match a with
      | 0 => rfl
      | 1 => exact h1
      | 2 => rfl
      | 3 => rfl
    rw [ey]; exact key _ _ _
  exact e

theorem cover_4 (i : S4x4096x704.Idx) : ∃ t : Fin cfg0.N, (cfg0.win 4).flush t = true ∧ i ∈ ((cfg0.win 4).blk t).view.set := by
  have h0 : (i 0 : Nat) < 4 := (i 0).isLt
  have h1 : (i 1 : Nat) < 4096 := (i 1).isLt
  have h2 : (i 2 : Nat) < 704 := (i 2).isLt
  obtain ⟨t, ht⟩ : ∃ t : Fin cfg0.N, t.val = 4 * ((i 1 : Nat) / 1024) + (i 0 : Nat) := ⟨⟨4 * ((i 1 : Nat) / 1024) + (i 0 : Nat), Nat.lt_of_lt_of_eq (by omega) N_0.symm⟩, rfl⟩
  refine ⟨t, flush_4 t, ?_⟩
  show i ∈ ((View.whole main_v2_1).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1
              rw [(idx_4 t).1]; omega
  | ⟨1, _⟩ => show win0_4.index t 1 * 1024 ≤ (i 1 : Nat) ∧ (i 1 : Nat) < win0_4.index t 1 * 1024 + 1024
              rw [(idx_4 t).2.1]; omega
  | ⟨2, _⟩ => show win0_4.index t 2 * 704 ≤ (i 2 : Nat) ∧ (i 2 : Nat) < win0_4.index t 2 * 704 + 704
              rw [(idx_4 t).2.2]; omega

theorem cover_3 (i : S2x4x4096x704.Idx) : ∃ t : Fin cfg0.N, (cfg0.win 3).flush t = true ∧ i ∈ ((cfg0.win 3).blk t).view.set := by
  have h0 : (i 0 : Nat) < 2 := (i 0).isLt
  have h1 : (i 1 : Nat) < 4 := (i 1).isLt
  have h2 : (i 2 : Nat) < 4096 := (i 2).isLt
  have h3 : (i 3 : Nat) < 704 := (i 3).isLt
  obtain ⟨t, ht⟩ : ∃ t : Fin cfg0.N, t.val = 4 * ((i 2 : Nat) / 1024) + (i 1 : Nat) := ⟨⟨4 * ((i 2 : Nat) / 1024) + (i 1 : Nat), Nat.lt_of_lt_of_eq (by omega) N_0.symm⟩, rfl⟩
  refine ⟨t, flush_3 t, ?_⟩
  show i ∈ ((View.whole main_v2_0).slice (win0_3.rect t)).set
  rw [View.set_slice_whole, Rect.mem_set_unit]
  intro a
  match a with
  | ⟨0, _⟩ => show win0_3.index t 0 * 2 ≤ (i 0 : Nat) ∧ (i 0 : Nat) < win0_3.index t 0 * 2 + 2
              rw [(idx_3 t).1]; omega
  | ⟨1, _⟩ => show win0_3.index t 1 * 1 ≤ (i 1 : Nat) ∧ (i 1 : Nat) < win0_3.index t 1 * 1 + 1
              rw [(idx_3 t).2.1]; omega
  | ⟨2, _⟩ => show win0_3.index t 2 * 1024 ≤ (i 2 : Nat) ∧ (i 2 : Nat) < win0_3.index t 2 * 1024 + 1024
              rw [(idx_3 t).2.2.1]; omega
  | ⟨3, _⟩ => show win0_3.index t 3 * 704 ≤ (i 3 : Nat) ∧ (i 3 : Nat) < win0_3.index t 3 * 704 + 704
              rw [(idx_3 t).2.2.2]; omega

theorem final_4 : (dats m 0 c).arrAt 4 cfg0.N = gTM m c := (dats m 0 c).arrAt_eq_of_cover 4 (gTM m c) (fun t _ => flushed_4 m c t) cover_4
theorem final_3 : (dats m 0 c).arrAt 3 cfg0.N = gABM m c := (dats m 0 c).arrAt_eq_of_cover 3 (gABM m c) (fun t _ => flushed_3 m c t) cover_3

end Cert.FInIdeal.Agree

namespace Cert.FInRefIdeal.Agree

open Cert.FInRefIdeal Cert.FInRefIdeal.Gen
open Idealize.ShloMosaic Idealize.ShloMosaic.TcCoe
open Cert.SwigluIdeal.Agree (fe ca cb cx cx_0 cx_1 sg fT)
open Cert.FInIdeal.Agree (gP gAB gT)

/-! ### The reference -/

variable (hn : Vec Ideal S4096x1024 .bf16) (w : Vec Ideal S1024x5632 .bf16)

theorem ref_ab (h : Fin 2) (g : Fin 4) (s : Fin 4096) (r : Fin 704) :
    (transpose S2x4x4096x704 [1, 2, 0, 3] (shapeCast _ (truncf (F := Ideal) .bf16 (Host.dotGeneral dot_S4096x1024_S1024x5632_S4096x5632_1_0_0_1_n_n none (extf (F := Ideal) .f32 hn bitsLt_bf16_f32) (extf (F := Ideal) .f32 w bitsLt_bf16_f32)) bitsLt_bf16_f32) shapeCasts_S4096x5632_S4096x2x4x704) transposes_S4096x2x4x704_S2x4x4096x704_1_2_0_3 : Vec Ideal S2x4x4096x704 .bf16) (ix4 h g s r) = gAB hn w (ix4 h g s r) := by
  simp only [pointwise]
  exact zero_add (M := EReal) _

theorem ref_t (g : Fin 4) (s : Fin 4096) (r : Fin 704) :
    (transpose S4x4096x704 [1, 0, 2] (shapeCast _ (truncf (F := Ideal) .bf16 (mulf (mulf (extractStridedSlice S4096x2816 ![0, 0] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_0)))))) (extractStridedSlice S4096x2816 ![0, 2816] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_2816)) bitsLt_bf16_f32) shapeCasts_S4096x2816_S4096x4x704) transposes_S4096x4x704_S4x4096x704_1_0_2 : Vec Ideal S4x4096x704 .bf16) (ix3 g s r) = gT hn w (ix3 g s r) := by
  have key : ∀ (j j' : Fin 4096) (p q : Fin 5632), j = s → j' = s → p = ca (fe g r) → q = cb (fe g r) →
      (fun a b : EReal => (0 + a) * Ideal.div 1 (1 + Ideal.exp (-(0 + a))) * (0 + b)) (∑ k : Fin 1024, HMul.hMul (α := EReal) (β := EReal) (γ := EReal) (hn (ix2 j k)) (w (ix2 k p))) (∑ k : Fin 1024, HMul.hMul (α := EReal) (β := EReal) (γ := EReal) (hn (ix2 j' k)) (w (ix2 k q)))
        = gT hn w (ix3 g s r) := fun j j' p q hj hj' hp hq => by
    rw [hj, hj', hp, hq]
    show (0 + gP hn w s (ca (fe g r))) * Ideal.div 1 (1 + Ideal.exp (-(0 + gP hn w s (ca (fe g r))))) * (0 + gP hn w s (cb (fe g r))) = _
    rw [zero_add, zero_add]
    rfl
  simp only [pointwise]
  refine key _ _ _ _ (Fin.ext ?_) (Fin.ext ?_) (Fin.ext ?_) (Fin.ext ?_)
  · show 0 + s.val = s.val; omega
  · show 0 + s.val = s.val; omega
  · show 0 + (g.val * 704 + r.val) = g.val * 704 + r.val; omega
  · rfl

theorem ref_ab_eq : (transpose S2x4x4096x704 [1, 2, 0, 3] (shapeCast _ (truncf (F := Ideal) .bf16 (Host.dotGeneral dot_S4096x1024_S1024x5632_S4096x5632_1_0_0_1_n_n none (extf (F := Ideal) .f32 hn bitsLt_bf16_f32) (extf (F := Ideal) .f32 w bitsLt_bf16_f32)) bitsLt_bf16_f32) shapeCasts_S4096x5632_S4096x2x4x704) transposes_S4096x2x4x704_S2x4x4096x704_1_2_0_3 : Vec Ideal S2x4x4096x704 .bf16) = gAB hn w := by
  have key := ref_ab hn w
  generalize (transpose S2x4x4096x704 [1, 2, 0, 3] (shapeCast _ (truncf (F := Ideal) .bf16 (Host.dotGeneral dot_S4096x1024_S1024x5632_S4096x5632_1_0_0_1_n_n none (extf (F := Ideal) .f32 hn bitsLt_bf16_f32) (extf (F := Ideal) .f32 w bitsLt_bf16_f32)) bitsLt_bf16_f32) shapeCasts_S4096x5632_S4096x2x4x704) transposes_S4096x2x4x704_S2x4x4096x704_1_2_0_3 : Vec Ideal S2x4x4096x704 .bf16) = R at key ⊢
  funext y
  rw [eq_ix4 y]; exact key _ _ _ _

theorem ref_t_eq : (transpose S4x4096x704 [1, 0, 2] (shapeCast _ (truncf (F := Ideal) .bf16 (mulf (mulf (extractStridedSlice S4096x2816 ![0, 0] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_0)))))) (extractStridedSlice S4096x2816 ![0, 2816] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_2816)) bitsLt_bf16_f32) shapeCasts_S4096x2816_S4096x4x704) transposes_S4096x4x704_S4x4096x704_1_0_2 : Vec Ideal S4x4096x704 .bf16) = gT hn w := by
  have key := ref_t hn w
  generalize (transpose S4x4096x704 [1, 0, 2] (shapeCast _ (truncf (F := Ideal) .bf16 (mulf (mulf (extractStridedSlice S4096x2816 ![0, 0] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_0) (Host.divf (broadcastInDim S4096x2816 ![] bcast_S_S4096x2816 (constant (F := Ideal) S_ .f32 0x3F800000#32)) (addf (broadcastInDim S4096x2816 ![] bcast_S_S4096x2816 (constant (F := Ideal) S_ .f32 0x3F800000#32)) (Host.exp (Host.negf (extractStridedSlice S4096x2816 ![0, 0] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_0)))))) (extractStridedSlice S4096x2816 ![0, 2816] (Host.dotGeneral dot_S4096x1024_S1024x5632_S4096x5632_1_0_0_1_n_n none (extf (F := Ideal) .f32 hn bitsLt_bf16_f32) (extf (F := Ideal) .f32 w bitsLt_bf16_f32)) slices_S4096x5632_S4096x2816_0_2816)) bitsLt_bf16_f32) shapeCasts_S4096x2816_S4096x4x704) transposes_S4096x4x704_S4x4096x704_1_0_2 : Vec Ideal S4x4096x704 .bf16) = R at key ⊢
  funext y
  rw [eq_ix3 y]; exact key _ _ _

end Cert.FInRefIdeal.Agree

namespace Cert.FInIdeal.Agree

open Cert.FInIdeal Cert.FInIdeal.Gen
open Idealize.ShloMosaic Idealize.ShloMosaic.TcCoe Idealize.SL.Sem

theorem agree : Cert.algebraic_FInIdeal_FInRefIdeal (hFInIdeal := Cert.FInIdeal.Gen.facts) (hFInRefIdeal := Cert.FInRefIdeal.Gen.facts) := by
  intro m ρ m' ρ' hp hm
  refine ⟨fun c => gABM m c, fun c => gTM m c, ?_, ?_⟩
  · exact (θ_run Cert.FInIdeal.defs _ _).mono (fun r h c => ⟨(h c).1.trans (final_3 m c), (h c).2.1.trans (final_4 m c), (h c).2.2⟩) (Cert.FInIdeal.Value.run_blocks (F := Ideal) m ρ)
  · refine (θ_run Cert.FInRefIdeal.defs _ _).mono (fun r h c => ⟨(h c).1.trans ?_, (h c).2.1.trans ?_, (h c).2.2⟩) (Cert.FInRefIdeal.Value.run (F := Ideal) m' ρ')
    · rw [(hm c).1, (hm c).2]
      exact Cert.FInRefIdeal.Agree.ref_ab_eq _ _
    · rw [(hm c).1, (hm c).2]
      exact Cert.FInRefIdeal.Agree.ref_t_eq _ _

end Cert.FInIdeal.Agree

end
-- ==== Proof.FOutValue.lean ====
module

public import proofs.«01_k».proof.Defs
public import proofs.«01_k».proof.Proof.Gen.FOutIdeal.Value
public import proofs.«01_k».proof.Proof.Gen.FOutRefIdeal.Run
public import Idealize.ShloMosaic.Lib.StableHlo.RunRead
public import Idealize.ShloMosaic.Lib.ValueIdxCore
public import Idealize.ShloMosaic.Lib.Pointwise
public import Idealize.ShloMosaic.Lib.IdealHost
public import Idealize.ShloMosaic.Lib.KernelVsHost
public import Idealize.ShloMosaic.Lib.Tactic

@[expose] public section

set_option maxRecDepth 16384

noncomputable section

namespace Cert.FOutIdeal.Agree

open Cert.FOutIdeal Cert.FOutIdeal.Gen
open Idealize.ShloMosaic Idealize.ShloMosaic.TcCoe Idealize.SL.Sem
open Idealize.ShloMosaic.Pipeline (Dat)

/-! ## The feed-forward layer's second product: over the features, four groups of them -/

/-- Feature `r` of group `g`. -/
abbrev fe (g : Fin 4) (r : Fin 704) : Fin 2816 := ⟨g.val * 704 + r.val, by have := g.isLt; have := r.isLt; omega⟩

/-- The product of the features `a` and the weights `w`. -/
def gX (a : Vec Ideal S4096x2816 .bf16) (w : Vec Ideal S2816x1024 .bf16) : Vec Ideal S4096x1024 .bf16 :=
  fun i => ∑ k : Fin 2816, HMul.hMul (α := EReal) (β := EReal) (γ := EReal) (a (ix2 (i 0) k)) (w (ix2 k (i 1)))

/-- A sum over the features is the sum over the groups of the sums over each. -/
theorem sum_groups (f : Fin 2816 → EReal) : ∑ k, f k = ∑ g : Fin 4, ∑ r : Fin 704, f (fe g r) := by
  rw [← Fintype.sum_prod_type' (fun g r => f (fe g r))]
  refine (Fintype.sum_equiv (finProdFinEquiv (m := 4) (n := 704)) _ _ fun p => ?_).symm
  refine congrArg f (Fin.ext ?_)
  show p.1.val * 704 + p.2.val = p.2.val + 704 * p.1.val
  omega

theorem hz : (![0, 0] : Fin 2 → Nat) = fun _ => 0 := funext fun a => by fin_cases a <;> rfl

/-- One group's part of a block's product. -/
def part (x : Vec Ideal S4x1024x704 .bf16) (y : Vec Ideal S4x704x1024 .bf16) (g : Fin 4) (i d : Fin 1024) : EReal :=
  ∑ r : Fin 704, HMul.hMul (α := EReal) (β := EReal) (γ := EReal) (x (ix3 g i r)) (y (ix3 g r d))

/-- A block's product: four groups. -/
def prod4 (x : Vec Ideal S4x1024x704 .bf16) (y : Vec Ideal S4x704x1024 .bf16) : Vec Ideal S1024x1024 .bf16 :=
  k0_pay1 (F := Ideal)
    (View.ld x (Rect.unit (s := S4x1024x704) ![0, 0, 0] S1x1024x704.size inb_S4x1024x704_S1x1024x704_0_0_0)) (View.ld y (Rect.unit (s := S4x704x1024) ![0, 0, 0] S1x704x1024.size inb_S4x704x1024_S1x704x1024_0_0_0))
    (View.ld x (Rect.unit (s := S4x1024x704) ![1, 0, 0] S1x1024x704.size inb_S4x1024x704_S1x1024x704_1_0_0)) (View.ld y (Rect.unit (s := S4x704x1024) ![1, 0, 0] S1x704x1024.size inb_S4x704x1024_S1x704x1024_1_0_0))
    (View.ld x (Rect.unit (s := S4x1024x704) ![2, 0, 0] S1x1024x704.size inb_S4x1024x704_S1x1024x704_2_0_0)) (View.ld y (Rect.unit (s := S4x704x1024) ![2, 0, 0] S1x704x1024.size inb_S4x704x1024_S1x704x1024_2_0_0))
    (View.ld x (Rect.unit (s := S4x1024x704) ![3, 0, 0] S1x1024x704.size inb_S4x1024x704_S1x1024x704_3_0_0)) (View.ld y (Rect.unit (s := S4x704x1024) ![3, 0, 0] S1x704x1024.size inb_S4x704x1024_S1x704x1024_3_0_0))

theorem pay1_apply (x0 x1 x2 x3 : Vec Ideal S1x1024x704 .bf16) (y0 y1 y2 y3 : Vec Ideal S1x704x1024 .bf16) (i d : Fin 1024) :
    k0_pay1 (F := Ideal) x0 y0 x1 y1 x2 y2 x3 y3 (ix2 i d)
    = (fun a b e f : EReal => a + b + e + f) (∑ r : Fin 704, HMul.hMul (α := EReal) (β := EReal) (γ := EReal) (x0 (ix3 0 i r)) (y0 (ix3 0 r d)))
        (∑ r : Fin 704, HMul.hMul (α := EReal) (β := EReal) (γ := EReal) (x1 (ix3 0 i r)) (y1 (ix3 0 r d)))
        (∑ r : Fin 704, HMul.hMul (α := EReal) (β := EReal) (γ := EReal) (x2 (ix3 0 i r)) (y2 (ix3 0 r d)))
        (∑ r : Fin 704, HMul.hMul (α := EReal) (β := EReal) (γ := EReal) (x3 (ix3 0 i r)) (y3 (ix3 0 r d))) := by
  simp only [k0_pay1, pointwise]
  simp only [zero_add]

theorem ldx (x : Vec Ideal S4x1024x704 .bf16) (g : Fin 4) (h : ∀ a, (![g.val, 0, 0] : Fin 3 → Nat) a + S1x1024x704.size a ≤ S4x1024x704.size a) (i : Fin 1024) (r : Fin 704) :
    View.ld x (Rect.unit (s := S4x1024x704) ![g.val, 0, 0] S1x1024x704.size h) (ix3 0 i r) = x (ix3 g i r) := by
  refine congrArg x ?_
  funext a
  match a with
  | 0 => exact Fin.ext (by show g.val + 1 * 0 = g.val; omega)
  | 1 => exact Fin.ext (by show 0 + 1 * i.val = i.val; omega)
  | 2 => exact Fin.ext (by show 0 + 1 * r.val = r.val; omega)
theorem ldy (y : Vec Ideal S4x704x1024 .bf16) (g : Fin 4) (h : ∀ a, (![g.val, 0, 0] : Fin 3 → Nat) a + S1x704x1024.size a ≤ S4x704x1024.size a) (r : Fin 704) (d : Fin 1024) :
    View.ld y (Rect.unit (s := S4x704x1024) ![g.val, 0, 0] S1x704x1024.size h) (ix3 0 r d) = y (ix3 g r d) := by
  refine congrArg y ?_
  funext a
  match a with
  | 0 => exact Fin.ext (by show g.val + 1 * 0 = g.val; omega)
  | 1 => exact Fin.ext (by show 0 + 1 * r.val = r.val; omega)
  | 2 => exact Fin.ext (by show 0 + 1 * d.val = d.val; omega)

theorem prod4_apply (x : Vec Ideal S4x1024x704 .bf16) (y : Vec Ideal S4x704x1024 .bf16) (i d : Fin 1024) :
    prod4 x y (ix2 i d) = (fun a b e f : EReal => a + b + e + f) (part x y 0 i d) (part x y 1 i d) (part x y 2 i d) (part x y 3 i d) := by
  unfold prod4
  refine (pay1_apply _ _ _ _ _ _ _ _ i d).trans ?_
  have e : ∀ (g : Fin 4) h h', (∑ r : Fin 704, HMul.hMul (α := EReal) (β := EReal) (γ := EReal)
      (View.ld x (Rect.unit (s := S4x1024x704) ![g.val, 0, 0] S1x1024x704.size h) (ix3 0 i r)) (View.ld y (Rect.unit (s := S4x704x1024) ![g.val, 0, 0] S1x704x1024.size h') (ix3 0 r d))) = part x y g i d := fun g h h' =>
    Finset.sum_congr rfl fun r _ => congrArg₂ (HMul.hMul (α := EReal) (β := EReal) (γ := EReal)) (ldx x g h i r) (ldy y g h' r d)
  have e0 := e 0 inb_S4x1024x704_S1x1024x704_0_0_0 inb_S4x704x1024_S1x704x1024_0_0_0
  have e1 := e 1 inb_S4x1024x704_S1x1024x704_1_0_0 inb_S4x704x1024_S1x704x1024_1_0_0
  have e2 := e 2 inb_S4x1024x704_S1x1024x704_2_0_0 inb_S4x704x1024_S1x704x1024_2_0_0
  have e3 := e 3 inb_S4x1024x704_S1x1024x704_3_0_0 inb_S4x704x1024_S1x704x1024_3_0_0
  rw [← e0, ← e1, ← e2, ← e3]
  rfl

theorem ld_unit (x : Vec Ideal S1024x1024 .bf16) (z : S1024x1024.Idx) : x z = x (r0_8.idx z) := by
  refine congrArg x ?_
  funext a
  match a with
  | 0 => exact Fin.ext (by show (z 0).val = 0 + 1 * (z 0).val; omega)
  | 1 => exact Fin.ext (by show (z 1).val = 0 + 1 * (z 1).val; omega)

theorem out_eq (x : Vec Ideal S4x1024x704 .bf16) (y : Vec Ideal S4x704x1024 .bf16) : out0_2 x y = prod4 x y := by
  unfold out0_2 prod4
  generalize k0_pay1 (F := Ideal) (View.ld x r0_0) (View.ld y r0_1) (View.ld x r0_2) (View.ld y r0_3) (View.ld x r0_4) (View.ld y r0_5) (View.ld x r0_6) (View.ld y r0_7) = P
  funext i
  refine View.canon_apply_of_pieces (Val := Elt Ideal) (e := .bf16) (P : Vec Ideal S1024x1024 .bf16) _ ?_ i (cover0_2 _ i)
  intro pc hpc
  rcases List.mem_cons.mp hpc with rfl | hpc
  · exact fun z => ld_unit P z
  nomatch hpc

/-! ### The arrays the windows read -/

variable (m : (ℓ : Loc nD τ sig) → Buf (Elt Ideal) ℓ) (c : Dev nD)

theorem V_v1 : (V m c main_v1 : Vec Ideal S4x4096x704 .bf16) = transpose S4x4096x704 [1, 0, 2] (shapeCast S4096x4x704 (m ((c : Thread nD τ).loc main_arg0) : Vec Ideal S4096x2816 .bf16) shapeCasts_S4096x2816_S4096x4x704) transposes_S4096x4x704_S4x4096x704_1_0_2 := by
  unfold V
  after_results <;> rfl
theorem V_v2 : (V m c main_v2 : Vec Ideal S4x704x1024 .bf16) = shapeCast S4x704x1024 (m ((c : Thread nD τ).loc main_arg1) : Vec Ideal S2816x1024 .bf16) shapeCasts_S2816x1024_S4x704x1024 := by
  unfold V
  after_results <;> rfl

theorem V_v1_apply (g : Fin 4) (s : Fin 4096) (r : Fin 704) :
    (V m c main_v1 : Vec Ideal S4x4096x704 .bf16) (ix3 g s r) = (m ((c : Thread nD τ).loc main_arg0) : Vec Ideal S4096x2816 .bf16) (ix2 s (fe g r)) := by
  rw [V_v1]
  generalize (m ((c : Thread nD τ).loc main_arg0) : Vec Ideal S4096x2816 .bf16) = a
  simp only [pointwise]
theorem V_v2_apply (g : Fin 4) (r : Fin 704) (d : Fin 1024) :
    (V m c main_v2 : Vec Ideal S4x704x1024 .bf16) (ix3 g r d) = (m ((c : Thread nD τ).loc main_arg1) : Vec Ideal S2816x1024 .bf16) (ix2 (fe g r) d) := by
  rw [V_v2]
  generalize (m ((c : Thread nD τ).loc main_arg1) : Vec Ideal S2816x1024 .bf16) = a
  simp only [pointwise]

theorem idx_0 : ∀ t : Fin cfg0.N, win0_0.index t 0 = 0 ∧ win0_0.index t 1 = t.val ∧ win0_0.index t 2 = 0 := by decide +kernel
theorem idx_1 : ∀ t : Fin cfg0.N, win0_1.index t 0 = 0 ∧ win0_1.index t 1 = 0 ∧ win0_1.index t 2 = 0 := by decide +kernel
theorem idx_2 : ∀ t : Fin cfg0.N, win0_2.index t 0 = t.val ∧ win0_2.index t 1 = 0 := by decide +kernel
theorem flush_2 : ∀ t : Fin cfg0.N, (cfg0.win 2).flush t = true := by decide +kernel

/-- Row `i` of the row block point `t` works on. -/
abbrev rw' (t : Fin cfg0.N) (i : Fin 1024) : Fin 4096 := ⟨1024 * t.val + i.val, by have h := lt_of_lt_of_eq t.isLt N_0; have := i.isLt; omega⟩

theorem blk_0 (t : Fin cfg0.N) (g : Fin 4) (i : Fin 1024) (r : Fin 704) :
    (iblk m c 0 t : Vec Ideal S4x1024x704 .bf16) (ix3 g i r) = (m ((c : Thread nD τ).loc main_arg0) : Vec Ideal S4096x2816 .bf16) (ix2 (rw' t i) (fe g r)) := by
  rw [← V_v1_apply m c g (rw' t i) r]
  unfold iblk
  rw [View.read_apply]
  refine congrArg (V m c main_v1) ?_
  funext a
  match a with
  | 0 => exact Fin.ext (by show win0_0.index t 0 * 4 + 1 * g.val = g.val; rw [(idx_0 t).1]; omega)
  | 1 => exact Fin.ext (by show win0_0.index t 1 * 1024 + 1 * i.val = 1024 * t.val + i.val; rw [(idx_0 t).2.1]; omega)
  | 2 => exact Fin.ext (by show win0_0.index t 2 * 704 + 1 * r.val = r.val; rw [(idx_0 t).2.2]; omega)
theorem blk_1 (t : Fin cfg0.N) (g : Fin 4) (r : Fin 704) (d : Fin 1024) :
    (iblk m c 1 t : Vec Ideal S4x704x1024 .bf16) (ix3 g r d) = (m ((c : Thread nD τ).loc main_arg1) : Vec Ideal S2816x1024 .bf16) (ix2 (fe g r) d) := by
  rw [← V_v2_apply m c g r d]
  unfold iblk
  rw [View.read_apply]
  refine congrArg (V m c main_v2) ?_
  funext a
  match a with
  | 0 => exact Fin.ext (by show win0_1.index t 0 * 4 + 1 * g.val = g.val; rw [(idx_1 t).1]; omega)
  | 1 => exact Fin.ext (by show win0_1.index t 1 * 704 + 1 * r.val = r.val; rw [(idx_1 t).2.1]; omega)
  | 2 => exact Fin.ext (by show win0_1.index t 2 * 1024 + 1 * d.val = d.val; rw [(idx_1 t).2.2]; omega)

/-- Group `g`'s part of the product at row `s`, column `d`. -/
def gpart (g : Fin 4) (s : Fin 4096) (d : Fin 1024) : EReal :=
  ∑ r : Fin 704, HMul.hMul (α := EReal) (β := EReal) (γ := EReal) ((m ((c : Thread nD τ).loc main_arg0) : Vec Ideal S4096x2816 .bf16) (ix2 s (fe g r))) ((m ((c : Thread nD τ).loc main_arg1) : Vec Ideal S2816x1024 .bf16) (ix2 (fe g r) d))

theorem part_eq (t : Fin cfg0.N) (g : Fin 4) (i d : Fin 1024) : part (iblk m c 0 t) (iblk m c 1 t) g i d = gpart m c g (rw' t i) d :=
  Finset.sum_congr rfl fun r _ => congrArg₂ (HMul.hMul (α := EReal) (β := EReal) (γ := EReal)) (blk_0 m c t g i r) (blk_1 m c t g r d)

/-- The launched arguments' product. -/
abbrev gM : Vec Ideal S4096x1024 .bf16 := gX (m ((c : Thread nD τ).loc main_arg0)) (m ((c : Thread nD τ).loc main_arg1))

theorem gM_apply (s : Fin 4096) (d : Fin 1024) : gM m c (ix2 s d) = ∑ g : Fin 4, gpart m c g s d :=
  sum_groups fun k => HMul.hMul (α := EReal) (β := EReal) (γ := EReal) ((m ((c : Thread nD τ).loc main_arg0) : Vec Ideal S4096x2816 .bf16) (ix2 s k)) ((m ((c : Thread nD τ).loc main_arg1) : Vec Ideal S2816x1024 .bf16) (ix2 k d))

theorem out_at (t : Fin cfg0.N) (i d : Fin 1024) : prod4 (iblk m c 0 t) (iblk m c 1 t) (ix2 i d) = gM m c (ix2 (rw' t i) d) := by
  rw [prod4_apply, gM_apply, Fin.sum_univ_four]
  simp only [part_eq]

theorem rd_2 (U : Vec Ideal S4096x1024 .bf16) (t : Fin cfg0.N) (i d : Fin 1024) :
    (((cfg0.win 2).blk t).view.read (Elt Ideal) U : Vec Ideal S1024x1024 .bf16) (ix2 i d) = U (ix2 (rw' t i) d) := by
  rw [View.read_apply]
  refine congrArg U ?_
  funext a
  match a with
  | 0 => exact Fin.ext (by show win0_2.index t 0 * 1024 + 1 * i.val = 1024 * t.val + i.val; rw [(idx_2 t).1]; omega)
  | 1 => exact Fin.ext (by show win0_2.index t 1 * 1024 + 1 * d.val = d.val; rw [(idx_2 t).2]; omega)

theorem flushed_2 (t : Fin cfg0.N) : (dats m 0 c).flushed 2 t = ((cfg0.win 2).blk t).view.read (Elt Ideal) (gM m c) := by
  show (cfg0.win 2).cut (grid0.coords t) ((dats m 0 c).after 2 t) = _
  rw [after0_2, out_eq]
  have key : ∀ (i d : Fin 1024), (prod4 (iblk m c 0 t) (iblk m c 1 t) : Vec Ideal S1024x1024 .bf16) (ix2 i d)
      = (((cfg0.win 2).blk t).view.read (Elt Ideal) (gM m c) : Vec Ideal S1024x1024 .bf16) (ix2 i d) := fun i d => by
    rw [rd_2]
    exact out_at m c t i d
  generalize (((cfg0.win 2).blk t).view.read (Elt Ideal) (gM m c)) = R at key ⊢
  generalize (prod4 (iblk m c 0 t) (iblk m c 1 t) : Vec Ideal S1024x1024 .bf16) = P at key ⊢
  have e : (P : Vec Ideal S1024x1024 .bf16) = R := funext fun y => by rw [eq_ix2 y]; exact key _ _
  exact e

theorem cover_2 (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  obtain ⟨t, ht⟩ : ∃ t : Fin cfg0.N, t.val = (i 0 : Nat) / 1024 := ⟨⟨(i 0 : Nat) / 1024, Nat.lt_of_lt_of_eq (by omega) N_0.symm⟩, rfl⟩
  refine ⟨t, flush_2 t, ?_⟩
  show i ∈ ((View.whole main_v3).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [(idx_2 t).1]; omega
  | ⟨1, _⟩ => show win0_2.index t 1 * 1024 ≤ (i 1 : Nat) ∧ (i 1 : Nat) < win0_2.index t 1 * 1024 + 1024
              rw [(idx_2 t).2]; omega

theorem final_2 : (dats m 0 c).arrAt 2 cfg0.N = gM m c := (dats m 0 c).arrAt_eq_of_cover 2 (gM m c) (fun t _ => flushed_2 m c t) cover_2

end Cert.FOutIdeal.Agree

namespace Cert.FOutRefIdeal.Agree

open Cert.FOutRefIdeal Cert.FOutRefIdeal.Gen
open Idealize.ShloMosaic Idealize.ShloMosaic.TcCoe

/-! ### The reference -/

theorem ref_eq (a : Vec Ideal S4096x2816 .bf16) (w : Vec Ideal S2816x1024 .bf16) :
    truncf (F := Ideal) .bf16 (Host.dotGeneral dot_S4096x2816_S2816x1024_S4096x1024_1_0_0_1_n_n none (extf (F := Ideal) .f32 a bitsLt_bf16_f32) (extf (F := Ideal) .f32 w bitsLt_bf16_f32)) bitsLt_bf16_f32 = Cert.FOutIdeal.Agree.gX a w := by
  have key : ∀ (s : Fin 4096) (d : Fin 1024), truncf (F := Ideal) .bf16 (Host.dotGeneral dot_S4096x2816_S2816x1024_S4096x1024_1_0_0_1_n_n none (extf (F := Ideal) .f32 a bitsLt_bf16_f32) (extf (F := Ideal) .f32 w bitsLt_bf16_f32)) bitsLt_bf16_f32 (ix2 s d)
      = Cert.FOutIdeal.Agree.gX a w (ix2 s d) := fun s d => by
    simp only [pointwise]
    exact zero_add (M := EReal) _
  funext y
  rw [eq_ix2 y]; exact key _ _

end Cert.FOutRefIdeal.Agree

namespace Cert.FOutIdeal.Agree

open Cert.FOutIdeal Cert.FOutIdeal.Gen
open Idealize.ShloMosaic Idealize.ShloMosaic.TcCoe Idealize.SL.Sem

theorem agree : Cert.algebraic_FOutIdeal_FOutRefIdeal (hFOutIdeal := Cert.FOutIdeal.Gen.facts) (hFOutRefIdeal := Cert.FOutRefIdeal.Gen.facts) := by
  intro m ρ m' ρ' hp hm
  refine ⟨fun c => gM m c, ?_, ?_⟩
  · exact (θ_run Cert.FOutIdeal.defs _ _).mono (fun r h c => ⟨(h c).1.trans (final_2 m c), (h c).2⟩) (Cert.FOutIdeal.Value.run_blocks (F := Ideal) m ρ)
  · refine (θ_run Cert.FOutRefIdeal.defs _ _).mono (fun r h c => ⟨(h c).1.trans ?_, (h c).2⟩) (Cert.FOutRefIdeal.Value.run (F := Ideal) m' ρ')
    rw [(hm c).1, (hm c).2]
    exact Cert.FOutRefIdeal.Agree.ref_eq _ _

end Cert.FOutIdeal.Agree

end
-- ==== Proof.lean ====
module

public import proofs.«01_k».proof.Defs
public import proofs.«01_k».proof.Proof.Frame
public import proofs.«01_k».proof.Proof.Word.Frame
public import proofs.«01_k».proof.Proof.Agree
public import proofs.«01_k».proof.Proof.WInValue
public import proofs.«01_k».proof.Proof.DInValue
public import proofs.«01_k».proof.Proof.WOutValue
public import proofs.«01_k».proof.Proof.SwigluValue
public import proofs.«01_k».proof.Proof.FInValue
public import proofs.«01_k».proof.Proof.FOutValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Swiglu
public import proofs.«01_k».proof.Proof.Gen.SwigluIdeal
public import proofs.«01_k».proof.Proof.Gen.SwigluIdeal.Value
public import proofs.«01_k».proof.Proof.Gen.Swiglu.Frame
public import proofs.«01_k».proof.Proof.Gen.SwigluRefIdeal
public import proofs.«01_k».proof.Proof.Gen.SwigluRefIdeal.Run
public import proofs.«01_k».proof.Proof.Gen.WIn
public import proofs.«01_k».proof.Proof.Gen.WInIdeal
public import proofs.«01_k».proof.Proof.Gen.WInIdeal.Value
public import proofs.«01_k».proof.Proof.Gen.WIn.Frame
public import proofs.«01_k».proof.Proof.Gen.WInRefIdeal
public import proofs.«01_k».proof.Proof.Gen.WInRefIdeal.Run
public import proofs.«01_k».proof.Proof.Gen.DIn
public import proofs.«01_k».proof.Proof.Gen.DInIdeal
public import proofs.«01_k».proof.Proof.Gen.DInIdeal.Value
public import proofs.«01_k».proof.Proof.Gen.DIn.Frame
public import proofs.«01_k».proof.Proof.Gen.DInRefIdeal
public import proofs.«01_k».proof.Proof.Gen.DInRefIdeal.Run
public import proofs.«01_k».proof.Proof.Gen.WOut
public import proofs.«01_k».proof.Proof.Gen.WOutIdeal
public import proofs.«01_k».proof.Proof.Gen.WOutIdeal.Value
public import proofs.«01_k».proof.Proof.Gen.WOut.Frame
public import proofs.«01_k».proof.Proof.Gen.WOutRefIdeal
public import proofs.«01_k».proof.Proof.Gen.WOutRefIdeal.Run
public import proofs.«01_k».proof.Proof.Gen.FIn
public import proofs.«01_k».proof.Proof.Gen.FInIdeal
public import proofs.«01_k».proof.Proof.Gen.FInIdeal.Value
public import proofs.«01_k».proof.Proof.Gen.FIn.Frame
public import proofs.«01_k».proof.Proof.Gen.FInRefIdeal
public import proofs.«01_k».proof.Proof.Gen.FInRefIdeal.Run
public import proofs.«01_k».proof.Proof.Gen.FOut
public import proofs.«01_k».proof.Proof.Gen.FOutIdeal
public import proofs.«01_k».proof.Proof.Gen.FOutIdeal.Value
public import proofs.«01_k».proof.Proof.Gen.FOut.Frame
public import proofs.«01_k».proof.Proof.Gen.FOutRefIdeal
public import proofs.«01_k».proof.Proof.Gen.FOutRefIdeal.Run

@[expose] public section

noncomputable section

namespace Cert.Proof

open Idealize.ShloMosaic Idealize.SL.Sem

/-- The printed kernel runs from any memory, keeps its arguments and ends quiescent. -/
theorem frame_p : Cert.quiescent_Kernel := fun m ρ _ => Cert.Kernel.Attn.frame_all m ρ

/-- The kernel with its mask named does so over the extended reals. -/
theorem frame_pi : Cert.quiescent_KernelIdeal := fun m ρ _ => Cert.KernelIdeal.Attn.frame_all m ρ

/-- The reference does so over the extended reals. -/
theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The mask's constant is named once: −∞. -/
theorem preserves : Cert.preserves_Kernel_KernelIdeal :=
  IdealRules.named_const.statement Cert.KernelIdeal.κ "mask" .f32 0xF149F2CA#32 ⊥ rfl

/-- The frame of the kernel with its mask named, where the arguments are finite. -/
theorem frame_pi_finite : Cert.quiescent_KernelIdeal_pre_finite (hPre_finite := Cert.Agree.pre_facts) := fun m ρ _ => Cert.KernelIdeal.Attn.frame_all m ρ

/-- The frame of the reference, where the arguments are finite. -/
theorem frame_ri_finite : Cert.quiescent_ReferenceIdeal_pre_finite (hPre_finite := Cert.Agree.pre_facts) := fun m ρ _ => frame_ri m ρ trivial

/-- The SwiGLU's gradient: the printed kernel's frame. -/
theorem swiglu_p : Cert.quiescent_Swiglu := fun m ρ _ => Cert.Swiglu.Gen.frame m ρ

/-- The SwiGLU's gradient: the frame over the extended reals. -/
theorem swiglu_pi : Cert.quiescent_SwigluIdeal := fun m ρ _ => Cert.SwigluIdeal.Gen.frame m ρ

/-- The SwiGLU's gradient: the reference's frame. -/
theorem swiglu_ri : Cert.quiescent_SwigluRefIdeal := fun m ρ _ =>
  (θ_run Cert.SwigluRefIdeal.defs _ _).mono (fun r h => ⟨fun c => (h c).2.2, sem_eq_zero_of_no_sems (by decide) r.2⟩)
    (Cert.SwigluRefIdeal.Value.run (F := Ideal) m ρ)

/-- The gradient of the feed-forward layer's first weights: the printed kernel's frame. -/
theorem win_p : Cert.quiescent_WIn := fun m ρ _ => Cert.WIn.Gen.frame m ρ

/-- The gradient of the feed-forward layer's first weights: the frame over the extended reals. -/
theorem win_pi : Cert.quiescent_WInIdeal := fun m ρ _ => Cert.WInIdeal.Gen.frame m ρ

/-- The gradient of the feed-forward layer's first weights: the reference's frame. -/
theorem win_ri : Cert.quiescent_WInRefIdeal := fun m ρ _ =>
  (θ_run Cert.WInRefIdeal.defs _ _).mono (fun r h => ⟨fun c => (h c).2, sem_eq_zero_of_no_sems (by decide) r.2⟩)
    (Cert.WInRefIdeal.Value.run (F := Ideal) m ρ)

/-- The gradient of the feed-forward layer's input: the printed kernel's frame. -/
theorem din_p : Cert.quiescent_DIn := fun m ρ _ => Cert.DIn.Gen.frame m ρ

/-- The gradient of the feed-forward layer's input: the frame over the extended reals. -/
theorem din_pi : Cert.quiescent_DInIdeal := fun m ρ _ => Cert.DInIdeal.Gen.frame m ρ

/-- The gradient of the feed-forward layer's input: the reference's frame. -/
theorem din_ri : Cert.quiescent_DInRefIdeal := fun m ρ _ =>
  (θ_run Cert.DInRefIdeal.defs _ _).mono (fun r h => ⟨fun c => (h c).2, sem_eq_zero_of_no_sems (by decide) r.2⟩)
    (Cert.DInRefIdeal.Value.run (F := Ideal) m ρ)

/-- The gradient of the feed-forward layer's second weights: the printed kernel's frame. -/
theorem wout_p : Cert.quiescent_WOut := fun m ρ _ => Cert.WOut.Gen.frame m ρ

/-- The gradient of the feed-forward layer's second weights: the frame over the extended reals. -/
theorem wout_pi : Cert.quiescent_WOutIdeal := fun m ρ _ => Cert.WOutIdeal.Gen.frame m ρ

/-- The gradient of the feed-forward layer's second weights: the reference's frame. -/
theorem wout_ri : Cert.quiescent_WOutRefIdeal := fun m ρ _ =>
  (θ_run Cert.WOutRefIdeal.defs _ _).mono (fun r h => ⟨fun c => (h c).2, sem_eq_zero_of_no_sems (by decide) r.2⟩)
    (Cert.WOutRefIdeal.Value.run (F := Ideal) m ρ)

/-- The SwiGLU's gradient: the frames where the arguments are finite. -/
theorem swiglu_pi_finite : Cert.quiescent_SwigluIdeal_pre_finite2 (hPre_finite2 := Cert.SwigluIdeal.Agree.pre_facts) := fun m ρ _ => swiglu_pi m ρ trivial
theorem swiglu_ri_finite : Cert.quiescent_SwigluRefIdeal_pre_finite2 (hPre_finite2 := Cert.SwigluIdeal.Agree.pre_facts) := fun m ρ _ => swiglu_ri m ρ trivial

/-- The feed-forward layer's first product and SwiGLU: the printed kernel's frame. -/
theorem fin_p : Cert.quiescent_FIn := fun m ρ _ => Cert.FIn.Gen.frame m ρ

/-- The feed-forward layer's first product and SwiGLU: the frame over the extended reals. -/
theorem fin_pi : Cert.quiescent_FInIdeal := fun m ρ _ => Cert.FInIdeal.Gen.frame m ρ

/-- The feed-forward layer's first product and SwiGLU: the reference's frame. -/
theorem fin_ri : Cert.quiescent_FInRefIdeal := fun m ρ _ =>
  (θ_run Cert.FInRefIdeal.defs _ _).mono (fun r h => ⟨fun c => (h c).2.2, sem_eq_zero_of_no_sems (by decide) r.2⟩)
    (Cert.FInRefIdeal.Value.run (F := Ideal) m ρ)

/-- The feed-forward layer's second product: the printed kernel's frame. -/
theorem fout_p : Cert.quiescent_FOut := fun m ρ _ => Cert.FOut.Gen.frame m ρ

/-- The feed-forward layer's second product: the frame over the extended reals. -/
theorem fout_pi : Cert.quiescent_FOutIdeal := fun m ρ _ => Cert.FOutIdeal.Gen.frame m ρ

/-- The feed-forward layer's second product: the reference's frame. -/
theorem fout_ri : Cert.quiescent_FOutRefIdeal := fun m ρ _ =>
  (θ_run Cert.FOutRefIdeal.defs _ _).mono (fun r h => ⟨fun c => (h c).2, sem_eq_zero_of_no_sems (by decide) r.2⟩)
    (Cert.FOutRefIdeal.Value.run (F := Ideal) m ρ)

theorem claim : Cert.Claim :=
  ⟨Cert.Kernel.Gen.facts, Cert.KernelIdeal.Gen.facts, Cert.ReferenceIdeal.Gen.facts,
    Cert.Swiglu.Gen.facts, Cert.SwigluIdeal.Gen.facts, Cert.SwigluRefIdeal.Gen.facts,
    Cert.WIn.Gen.facts, Cert.WInIdeal.Gen.facts, Cert.WInRefIdeal.Gen.facts,
    Cert.DIn.Gen.facts, Cert.DInIdeal.Gen.facts, Cert.DInRefIdeal.Gen.facts,
    Cert.WOut.Gen.facts, Cert.WOutIdeal.Gen.facts, Cert.WOutRefIdeal.Gen.facts,
    Cert.FIn.Gen.facts, Cert.FInIdeal.Gen.facts, Cert.FInRefIdeal.Gen.facts,
    Cert.FOut.Gen.facts, Cert.FOutIdeal.Gen.facts, Cert.FOutRefIdeal.Gen.facts,
    Cert.Agree.pre_facts, Cert.SwigluIdeal.Agree.pre_facts,
    frame_p, frame_pi, frame_pi_finite, frame_ri, frame_ri_finite,
    swiglu_p, swiglu_pi, swiglu_pi_finite, swiglu_ri, swiglu_ri_finite,
    win_p, win_pi, win_ri, din_p, din_pi, din_ri, wout_p, wout_pi, wout_ri,
    fin_p, fin_pi, fin_ri, fout_p, fout_pi, fout_ri,
    preserves, Cert.Agree.agree, trivial, Cert.SwigluIdeal.Agree.agree,
    trivial, Cert.WInIdeal.Agree.agree, trivial, Cert.DInIdeal.Agree.agree, trivial, Cert.WOutIdeal.Agree.agree,
    trivial, Cert.FInIdeal.Agree.agree, trivial, Cert.FOutIdeal.Agree.agree⟩

end Cert.Proof

end
